-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v13_2)) (v2 : (c : Dev Cert.KernelIdeal.nD) → Buf (Elt Ideal) ((c.tc : Thread Cert.KernelIdeal.nD Cert.KernelIdeal.τ).loc Cert.KernelIdeal.main_v13_1)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v13_0)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v13_2) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v13_0) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16 : Shape := ⟨1, ![16]⟩
abbrev S4608x50304 : Shape := ⟨2, ![4608, 50304]⟩
abbrev S4608 : Shape := ⟨1, ![4608]⟩
abbrev S6x768 : Shape := ⟨2, ![6, 768]⟩
abbrev S4608x1536 : Shape := ⟨2, ![4608, 1536]⟩
abbrev S50304x1536 : Shape := ⟨2, ![50304, 1536]⟩
abbrev S50304 : Shape := ⟨1, ![50304]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S6x768 : S_.BroadcastsInDim S6x768 (![] : Fin 0 → Fin S6x768.rank)
  reducesTo_S6x768_S_d0_1 : S6x768.ReducesTo [0, 1] S_

variable [Facts]

def fn {F : FTy → Type} [FloatOps F] (main_arg0 : FVec F S16 .f32) (main_arg1 : FVec F S4608x50304 .f32) (main_arg2 : FVec F S4608 .f32) (main_arg3 : FVec F S4608 .f32) (main_arg4 : IVec S6x768 32) (main_arg5 : FVec F S4608 .f32) (main_arg6 : FVec F S4608x1536 .fp8e4m3) (main_arg7 : FVec F S50304x1536 .fp8e4m3) (main_arg8 : FVec F S50304 .f32) : IVec S_ 1 :=
  let main_cst : FVec F S_ .f32 := constant S_ .f32 0x71800000#32
  let main_v0 : FVec F S16 .f32 := broadcastInDim S16 ![] bcast_S_S16 main_cst
  let main_v1 : IVec S16 1 := cmpf .olt main_arg0 main_v0
  let main_c : IVec S_ 1 := constantI S_ 1 1#1
  let main_v2 : IVec S_ 1 := (fun x v => Host.reduce IntOp.andi x v reducesTo_S16_S_d0 h_S_) main_v1 main_c
  let main_c_0 : IVec S_ 32 := constantI S_ 32 50304#32
  let main_v3 : IVec S6x768 32 := broadcastInDim S6x768 ![] bcast_S_S6x768 main_c_0
  let main_v4 : IVec S6x768 1 := cmpi .slt main_arg4 main_v3
  let main_c_1 : IVec S_ 1 := constantI S_ 1 1#1
  let main_v5 : IVec S_ 1 := (fun x v => Host.reduce IntOp.andi x v reducesTo_S6x768_S_d0_1 h_S_) main_v4 main_c_1
  let main_v6 : IVec S_ 1 := andi main_v2 main_v5
  main_v6
-- ==== Kernel.lean ====
abbrev S16 : Shape := ⟨1, ![16]⟩
abbrev S4608x50304 : Shape := ⟨2, ![4608, 50304]⟩
abbrev S4608 : Shape := ⟨1, ![4608]⟩
abbrev S6x768 : Shape := ⟨2, ![6, 768]⟩
abbrev S4608x1536 : Shape := ⟨2, ![4608, 1536]⟩
abbrev S50304x1536 : Shape := ⟨2, ![50304, 1536]⟩
abbrev S50304 : Shape := ⟨1, ![50304]⟩
abbrev S4608x1 : Shape := ⟨2, ![4608, 1]⟩
abbrev S4608x128 : Shape := ⟨2, ![4608, 128]⟩
abbrev S1x16 : Shape := ⟨2, ![1, 16]⟩
abbrev S_ : Shape := ⟨0, ![]⟩
abbrev S4608x50688 : Shape := ⟨2, ![4608, 50688]⟩
abbrev S4608x99x512 : Shape := ⟨3, ![4608, 99, 512]⟩
abbrev S99x4608x512 : Shape := ⟨3, ![99, 4608, 512]⟩
abbrev S50304x1 : Shape := ⟨2, ![50304, 1]⟩
abbrev S32x128 : Shape := ⟨2, ![32, 128]⟩
abbrev S1x1 : Shape := ⟨2, ![1, 1]⟩
abbrev S1x768x512 : Shape := ⟨3, ![1, 768, 512]⟩
abbrev S768x128 : Shape := ⟨2, ![768, 128]⟩
abbrev S512x1536 : Shape := ⟨2, ![512, 1536]⟩
abbrev S512x1 : Shape := ⟨2, ![512, 1]⟩
abbrev S768x512 : Shape := ⟨2, ![768, 512]⟩
abbrev S1 : Shape := ⟨1, ![1]⟩
abbrev S1x32x128 : Shape := ⟨3, ![1, 32, 128]⟩
abbrev S384x1536 : Shape := ⟨2, ![384, 1536]⟩
abbrev S384x512 : Shape := ⟨2, ![384, 512]⟩
abbrev S768x1536 : Shape := ⟨2, ![768, 1536]⟩
abbrev S15 : Shape := ⟨1, ![15]⟩

abbrev nBuf : Space → Nat
  | .hbm => 37
  | .vmem => 27
  | .smem => 0
  | _ => 0

abbrev bufTy : (tb : Table) → Fin (tcTables nBuf tb) → BufTy
  | .hbm, ⟨0, _⟩ => ⟨S16, .f32⟩
  | .hbm, ⟨1, _⟩ => ⟨S4608x50304, .f32⟩
  | .hbm, ⟨2, _⟩ => ⟨S4608, .f32⟩
  | .hbm, ⟨3, _⟩ => ⟨S4608, .f32⟩
  | .hbm, ⟨4, _⟩ => ⟨S6x768, .i32⟩
  | .hbm, ⟨5, _⟩ => ⟨S4608, .f32⟩
  | .hbm, ⟨6, _⟩ => ⟨S4608x1536, .fp8e4m3⟩
  | .hbm, ⟨7, _⟩ => ⟨S50304x1536, .fp8e4m3⟩
  | .hbm, ⟨8, _⟩ => ⟨S50304, .f32⟩
  | .hbm, ⟨9, _⟩ => ⟨S4608x1, .i32⟩
  | .hbm, ⟨10, _⟩ => ⟨S4608x128, .i32⟩
  | .hbm, ⟨11, _⟩ => ⟨S1x16, .f32⟩
  | .hbm, ⟨12, _⟩ => ⟨S_, .f32⟩
  | .hbm, ⟨13, _⟩ => ⟨S_, .f32⟩
  | .hbm, ⟨14, _⟩ => ⟨S4608x50688, .f32⟩
  | .hbm, ⟨15, _⟩ => ⟨S4608x99x512, .f32⟩
  | .hbm, ⟨16, _⟩ => ⟨S99x4608x512, .f32⟩
  | .hbm, ⟨17, _⟩ => ⟨S4608x1, .f32⟩
  | .hbm, ⟨18, _⟩ => ⟨S4608x128, .f32⟩
  | .hbm, ⟨19, _⟩ => ⟨S4608x1, .f32⟩
  | .hbm, ⟨20, _⟩ => ⟨S4608x128, .f32⟩
  | .hbm, ⟨21, _⟩ => ⟨S4608x1, .f32⟩
  | .hbm, ⟨22, _⟩ => ⟨S4608x128, .f32⟩
  | .hbm, ⟨23, _⟩ => ⟨S50304x1, .f32⟩
  | .hbm, ⟨24, _⟩ => ⟨S4608x50304, .fp8e5m2⟩
  | .hbm, ⟨25, _⟩ => ⟨S50304x1536, .f32⟩
  | .hbm, ⟨26, _⟩ => ⟨S4608x1536, .bf16⟩
  | .hbm, ⟨27, _⟩ => ⟨S4608x128, .f32⟩
  | .hbm, ⟨28, _⟩ => ⟨S32x128, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S15, .f32⟩
  | .hbm, ⟨34, _⟩ => ⟨S16, .f32⟩
  | .hbm, ⟨35, _⟩ => ⟨S_, .f32⟩
  | .hbm, ⟨36, _⟩ => ⟨S4608, .f32⟩
  | .local _ .vmem, ⟨0, _⟩ => ⟨S1x16, .f32⟩
  | .local _ .vmem, ⟨1, _⟩ => ⟨S1x768x512, .f32⟩
  | .local _ .vmem, ⟨2, _⟩ => ⟨S1x768x512, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .i32⟩
  | .local _ .vmem, ⟨8, _⟩ => ⟨S768x128, .i32⟩
  | .local _ .vmem, ⟨9, _⟩ => ⟨S768x128, .f32⟩
  | .local _ .vmem, ⟨10, _⟩ => ⟨S768x128, .f32⟩
  | .local _ .vmem, ⟨11, _⟩ => ⟨S4608x1536, .fp8e4m3⟩
  | .local _ .vmem, ⟨12, _⟩ => ⟨S512x1536, .fp8e4m3⟩
  | .local _ .vmem, ⟨13, _⟩ => ⟨S512x1536, .fp8e4m3⟩
  | .local _ .vmem, ⟨14, _⟩ => ⟨S512x1, .f32⟩
  | .local _ .vmem, ⟨15, _⟩ => ⟨S512x1, .f32⟩
  | .local _ .vmem, ⟨16, _⟩ => ⟨S768x512, .fp8e5m2⟩
  | .local _ .vmem, ⟨17, _⟩ => ⟨S768x512, .fp8e5m2⟩
  | .local _ .vmem, ⟨18, _⟩ => ⟨S512x1536, .f32⟩
  | .local _ .vmem, ⟨19, _⟩ => ⟨S512x1536, .f32⟩
  | .local _ .vmem, ⟨20, _⟩ => ⟨S4608x128, .f32⟩
  | .local _ .vmem, ⟨21, _⟩ => ⟨S32x128, .f32⟩
  | .local _ .vmem, ⟨22, _⟩ => ⟨S1x1, .f32⟩
  | .local _ .vmem, ⟨23, _⟩ => ⟨S4608x1536, .f32⟩
  | .local _ .vmem, ⟨24, _⟩ => ⟨S512x1536, .bf16⟩
  | .local _ .vmem, ⟨25, _⟩ => ⟨S768x512, .bf16⟩
  | .local _ .vmem, ⟨26, _⟩ => ⟨S768x512, .bf16⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨2, ![99, 6], ![false, false]⟩

def k0_mult1 (i : grid0.Coords) : BitVec 32 :=
  let arg1 : BitVec 32 := BitVec.ofNat 32 (i 1).val
  let c768_i32 : BitVec 32 := 768#32
  let v87 : BitVec 32 := Scalar.muli arg1 c768_i32
  v87
def k0_off1 (i : grid0.Coords) (c0_i32_34 : BitVec 32) : Fin 2 → Nat :=
  let arg1 : BitVec 32 := BitVec.ofNat 32 (i 1).val
  let c768_i32 : BitVec 32 := 768#32
  let v87 : BitVec 32 := Scalar.muli arg1 c768_i32
  let v88 : BitVec 32 := v87
  let v122 : BitVec 32 := Scalar.addi v88 c0_i32_34
  let v123 : Index := Scalar.indexCast v122
  let c0_35 : Index := 0#32
  ![v123.toNat, 0]
def k0_off2 (i : grid0.Coords) (c0_i32_775 : BitVec 32) : Fin 2 → Nat :=
  let arg1 : BitVec 32 := BitVec.ofNat 32 (i 1).val
  let c768_i32 : BitVec 32 := 768#32
  let v87 : BitVec 32 := Scalar.muli arg1 c768_i32
  let v88 : BitVec 32 := v87
  let v1708 : BitVec 32 := Scalar.addi v88 c0_i32_775
  let v1709 : Index := Scalar.indexCast v1708
  let c0_776 : Index := 0#32
  ![v1709.toNat, 0]
def k0_off3 (i : grid0.Coords) : Fin 2 → Nat :=
  let arg1 : BitVec 32 := BitVec.ofNat 32 (i 1).val
  let c768_i32 : BitVec 32 := 768#32
  let v87 : BitVec 32 := Scalar.muli arg1 c768_i32
  let v88 : BitVec 32 := v87
  let v3328 : Index := Scalar.indexCast v88
  let c0_1542 : Index := 0#32
  ![v3328.toNat, 0]
def k0_cond3 (i : grid0.Coords) : BitVec 1 :=
  let arg0 : BitVec 32 := BitVec.ofNat 32 (i 0).val
  let c98_i32 : BitVec 32 := 98#32
  let v3337 : BitVec 1 := Scalar.cmpi .eq arg0 c98_i32
  let arg1 : BitVec 32 := BitVec.ofNat 32 (i 1).val
  let c5_i32 : BitVec 32 := 5#32
  let v3338 : BitVec 1 := Scalar.cmpi .eq arg1 c5_i32
  let v3339 : BitVec 1 := Scalar.andi v3337 v3338
  let v3340 : BitVec 32 := Scalar.extui v3339
  let c0_i32_1549 : BitVec 32 := 0#32
  let v3341 : BitVec 1 := Scalar.cmpi .ne v3340 c0_i32_1549
  v3341

@[reducible] def k0_t1_loop : Scf.Loop 32 :=
  let c0_i32_1550 : BitVec 32 := 0#32
  let c9_i32 : BitVec 32 := 9#32
  let v3342 : BitVec 32 := Scalar.addi c0_i32_1550 c9_i32
  let c1_i32_1551 : BitVec 32 := 1#32
  ⟨c0_i32_1550, v3342, c1_i32_1551⟩
def k0_mult2 (k0_t1 : Fin k0_t1_loop.trips) : BitVec 32 :=
  let c0_i32_1550 : BitVec 32 := 0#32
  let c1_i32_1551 : BitVec 32 := 1#32
  let arg22 : BitVec 32 := Scf.iv c0_i32_1550 c1_i32_1551 k0_t1
  let c512_i32_1553 : BitVec 32 := 512#32
  let v3343 : BitVec 32 := Scalar.muli arg22 c512_i32_1553
  v3343
def k0_off4 (k0_t1 : Fin k0_t1_loop.trips) : Fin 2 → Nat :=
  let c0_i32_1550 : BitVec 32 := 0#32
  let c1_i32_1551 : BitVec 32 := 1#32
  let arg22 : BitVec 32 := Scf.iv c0_i32_1550 c1_i32_1551 k0_t1
  let c512_i32_1553 : BitVec 32 := 512#32
  let v3343 : BitVec 32 := Scalar.muli arg22 c512_i32_1553
  let v3344 : BitVec 32 := v3343
  let v3345 : Index := Scalar.indexCast v3344
  let c0_1554 : Index := 0#32
  ![v3345.toNat, 0]
def k0_off5 (k0_t1 : Fin k0_t1_loop.trips) : Fin 2 → Nat :=
  let c0_i32_1550 : BitVec 32 := 0#32
  let c1_i32_1551 : BitVec 32 := 1#32
  let arg22 : BitVec 32 := Scf.iv c0_i32_1550 c1_i32_1551 k0_t1
  let c512_i32_1553 : BitVec 32 := 512#32
  let v3343 : BitVec 32 := Scalar.muli arg22 c512_i32_1553
  let v3344 : BitVec 32 := v3343
  let c0_i32_1557 : BitVec 32 := 0#32
  ![v3344.toNat, 0]
def k0_cond1 (i : grid0.Coords) : BitVec 1 :=
  let arg0 : BitVec 32 := BitVec.ofNat 32 (i 0).val
  let c0_i32_14 : BitVec 32 := 0#32
  let v79 : BitVec 1 := Scalar.cmpi .eq arg0 c0_i32_14
  let arg1 : BitVec 32 := BitVec.ofNat 32 (i 1).val
  let c0_i32_15 : BitVec 32 := 0#32
  let v80 : BitVec 1 := Scalar.cmpi .eq arg1 c0_i32_15
  let v81 : BitVec 1 := Scalar.andi v79 v80
  let v82 : BitVec 32 := Scalar.extui v81
  let c0_i32_16 : BitVec 32 := 0#32
  let v83 : BitVec 1 := Scalar.cmpi .ne v82 c0_i32_16
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4608x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x512 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S4608x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S16 : Shape := ⟨1, ![16]⟩
abbrev S4608x50304 : Shape := ⟨2, ![4608, 50304]⟩
abbrev S4608 : Shape := ⟨1, ![4608]⟩
abbrev S6x768 : Shape := ⟨2, ![6, 768]⟩
abbrev S4608x1536 : Shape := ⟨2, ![4608, 1536]⟩
abbrev S50304x1536 : Shape := ⟨2, ![50304, 1536]⟩
abbrev S50304 : Shape := ⟨1, ![50304]⟩
abbrev S4608x1 : Shape := ⟨2, ![4608, 1]⟩
abbrev S50304x1 : Shape := ⟨2, ![50304, 1]⟩
abbrev S1x1 : Shape := ⟨2, ![1, 1]⟩
abbrev S1 : Shape := ⟨1, ![1]⟩
abbrev S15 : Shape := ⟨1, ![15]⟩
abbrev S1x16 : Shape := ⟨2, ![1, 16]⟩
abbrev S1x252 : Shape := ⟨2, ![1, 252]⟩

abbrev nBuf : Space → Nat
  | .hbm => 20
  | .vmem => 15
  | .smem => 0
  | _ => 0

abbrev bufTy : (tb : Table) → Fin (tcTables nBuf tb) → BufTy
  | .hbm, ⟨0, _⟩ => ⟨S16, .f32⟩
  | .hbm, ⟨1, _⟩ => ⟨S4608x50304, .f32⟩
  | .hbm, ⟨2, _⟩ => ⟨S4608, .f32⟩
  | .hbm, ⟨3, _⟩ => ⟨S4608, .f32⟩
  | .hbm, ⟨4, _⟩ => ⟨S6x768, .i32⟩
  | .hbm, ⟨5, _⟩ => ⟨S4608, .f32⟩
  | .hbm, ⟨6, _⟩ => ⟨S4608x1536, .fp8e4m3⟩
  | .hbm, ⟨7, _⟩ => ⟨S50304x1536, .fp8e4m3⟩
  | .hbm, ⟨8, _⟩ => ⟨S50304, .f32⟩
  | .hbm, ⟨9, _⟩ => ⟨S4608x1, .f32⟩
  | .hbm, ⟨10, _⟩ => ⟨S4608x1, .f32⟩
  | .hbm, ⟨11, _⟩ => ⟨S4608x1, .i32⟩
  | .hbm, ⟨12, _⟩ => ⟨S4608x1, .f32⟩
  | .hbm, ⟨13, _⟩ => ⟨S50304x1, .f32⟩
  | .hbm, ⟨14, _⟩ => ⟨S4608, .f32⟩
  | .hbm, ⟨15, _⟩ => ⟨S4608x1536, .bf16⟩
  | .hbm, ⟨16, _⟩ => ⟨S50304x1536, .f32⟩
  | .hbm, ⟨17, _⟩ => ⟨S16, .f32⟩
  | .hbm, ⟨18, _⟩ => ⟨S4608x50304, .fp8e5m2⟩
  | .hbm, ⟨19, _⟩ => ⟨S1x1, .f32⟩
  | .local _ .vmem, ⟨0, _⟩ => ⟨S16, .f32⟩
  | .local _ .vmem, ⟨1, _⟩ => ⟨S4608x50304, .f32⟩
  | .local _ .vmem, ⟨2, _⟩ => ⟨S4608x1, .f32⟩
  | .local _ .vmem, ⟨3, _⟩ => ⟨S4608x1, .f32⟩
  | .local _ .vmem, ⟨4, _⟩ => ⟨S4608x1, .i32⟩
  | .local _ .vmem, ⟨5, _⟩ => ⟨S4608x1, .f32⟩
  | .local _ .vmem, ⟨6, _⟩ => ⟨S4608x1536, .fp8e4m3⟩
  | .local _ .vmem, ⟨7, _⟩ => ⟨S50304x1536, .fp8e4m3⟩
  | .local _ .vmem, ⟨8, _⟩ => ⟨S50304x1, .f32⟩
  | .local _ .vmem, ⟨9, _⟩ => ⟨S4608, .f32⟩
  | .local _ .vmem, ⟨10, _⟩ => ⟨S4608x1536, .bf16⟩
  | .local _ .vmem, ⟨11, _⟩ => ⟨S50304x1536, .f32⟩
  | .local _ .vmem, ⟨12, _⟩ => ⟨S16, .f32⟩
  | .local _ .vmem, ⟨13, _⟩ => ⟨S4608x50304, .fp8e5m2⟩
  | .local _ .vmem, ⟨14, _⟩ => ⟨S1x1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x50304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S50304x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S50304x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4608 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S50304x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x50304 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Hand.BodyP.lean ====
/- The body of the `grad` kernel, written with its repetition named: one row block of 32 tokens is `rowBlock`, one
   group of 128 columns of it `laneGroup`. `cc0_grad_eq` says the printed body is this program; the certificate runs
   this one, a row block at a time. -/
module

public import proofs.«01_k».proof.Proof.Gen.Kernel.Skeleton
public import proofs.«01_k».proof.Proof.Gen.Kernel.Launch
public import Idealize.ShloMosaic.Lib.Pipeline.Regions

@[expose] public section

noncomputable section

namespace Cert.Kernel.Hand

open Cert.Kernel Cert.Kernel.Gen
open Idealize.ShloMosaic Idealize.SL.Sem

variable {F : FTy → Type} [FloatOps F]

/-! ## What the body computes, as functions of what it loads -/

/-- One step of the search for the exponent field: add the bit `b` when the power of two of the larger field is still at most `y`. -/
def bitStep (y : FVec F S1x1 .f32) (b : BitVec 32) (v : IVec S1x1 32) : IVec S1x1 32 :=
  select (cmpf .ole (bitcastToFloat .f32 (shli (addi v (broadcast S1x1 b)) (broadcast S1x1 23#32))) y) (addi v (broadcast S1x1 b)) v

/-- The largest entry of the history, over the largest e5m2 number. -/
def ratio (v0 : Vec F S1x16 .f32) : FVec F S1x1 .f32 :=
  mulf (shapeCast S1x1 (multiReduction .maximumf [1] S1 (shapeCast S1x16 v0 shapeCasts_S1x16_S1x16) 0xFF800000#32 reduces_S1x16_S1 (.inl rfl) rfl) shapeCasts_S1_S1x1)
    (broadcast S1x1 (Scalar.ofBits .f32 0x37924925#32))

/-- The exponent field of `ratio`, found bit by bit. -/
def expField (v0 : Vec F S1x16 .f32) : IVec S1x1 32 :=
  bitStep (ratio v0) 1#32 (bitStep (ratio v0) 2#32 (bitStep (ratio v0) 4#32 (bitStep (ratio v0) 8#32 (bitStep (ratio v0) 16#32
    (bitStep (ratio v0) 32#32 (bitStep (ratio v0) 64#32 (bitStep (ratio v0) 128#32 (broadcast S1x1 0#32))))))))

/-- The scale's exponent. -/
def scaleExp (v0 : Vec F S1x16 .f32) : IVec S1x1 32 :=
  select (cmpi .eq (expField v0) (broadcast S1x1 0#32)) (broadcast S1x1 0#32) (subi (expField v0) (broadcast S1x1 126#32))

/-- The scale. -/
def scaleVec (v0 : Vec F S1x16 .f32) : FVec F S1x1 .f32 :=
  bitcastToFloat .f32 (shli (addi (broadcast S1x1 127#32) (scaleExp v0)) (broadcast S1x1 23#32))

/-- The scale's inverse. -/
def invVec (v0 : Vec F S1x16 .f32) : FVec F S1x1 .f32 :=
  bitcastToFloat .f32 (shli (subi (broadcast S1x1 127#32) (scaleExp v0)) (broadcast S1x1 23#32))

/-- The scale over a row block's lanes. -/
def scaleB (v0 : Vec F S1x16 .f32) : FVec F S32x128 .f32 :=
  broadcastTo S32x128 (shapeCast S1x1 (scaleVec v0) shapeCasts_S1x1_S1x1) broadcasts_S1x1_S32x128

/-- Its inverse over a row block's lanes. -/
def invB (v0 : Vec F S1x16 .f32) : FVec F S32x128 .f32 :=
  broadcastTo S32x128 (shapeCast S1x1 (invVec v0) shapeCasts_S1x1_S1x1) broadcasts_S1x1_S32x128

/-- The vocabulary columns of lane group `k` of a tile. -/
def colVec (i : grid0.Coords) (k : Fin 4) : IVec S32x128 32 :=
  addi (iota .tc S32x128 32 [1] iota_S32x128_d1_w32)
    (broadcast S32x128 (Scalar.addi (Scalar.muli (BitVec.ofNat 32 (i 0).val) 512#32) (BitVec.ofNat 32 (128 * k.val))))

/-- The probabilities of a lane group. -/
def probVec (mx ri l : FVec F S32x128 .f32) : FVec F S32x128 .f32 := mulf (exp (subf l mx)) ri

/-- The gradient of the logits of a lane group. -/
def gradVec (mx ri : FVec F S32x128 .f32) (lab col : IVec S32x128 32) (l : FVec F S32x128 .f32) : FVec F S32x128 .f32 :=
  select (cmpi .eq col lab) (subf (probVec mx ri l) (broadcast S32x128 (Scalar.ofBits .f32 0x3F800000#32))) (probVec mx ri l)

/-- What a lane group adds to the label logits. -/
def hitVec (lab col : IVec S32x128 32) (l : FVec F S32x128 .f32) : FVec F S32x128 .f32 :=
  select (cmpi .eq col lab) l (broadcast S32x128 (Scalar.ofBits .f32 0x00000000#32))

/-- The codes of a lane group's gradient. -/
def codeVec (inv g : FVec F S32x128 .f32) : FVec F S32x128 .fp8e5m2 :=
  truncf .fp8e5m2 (minimumf (broadcast S32x128 (Scalar.ofBits .f32 0x47600000#32))
    (maximumf (broadcast S32x128 (Scalar.ofBits .f32 0xC7600000#32)) (mulf g inv))) bitsLt_fp8e5m2_f32

/-- The factor of a token's codes in the weight gradient: its activation scale by the gradient's scale. -/
def factorVec (hs sc : FVec F S32x128 .f32) : FVec F S32x128 .bf16 := truncf .bf16 (mulf hs sc) bitsLt_bf16_f32

/-- The dequantised weights of a vocabulary tile, with zeros past the vocabulary. -/
def weightVec (arg0 : BitVec 32) (w : Vec F S512x1536 .fp8e4m3) (ws : Vec F S512x1 .f32) : FVec F S512x1536 .bf16 :=
  select (cmpi .slt (iota .tc S512x1536 32 [0] iota_S512x1536_d0_w32)
      (broadcast S512x1536 (Scalar.subi 50304#32 (Scalar.muli arg0 512#32))))
    (mulf (extf .bf16 w bitsLt_fp8e4m3_bf16)
      (broadcastTo S512x1536 (truncf .bf16 (shapeCast S512x1 ws shapeCasts_S512x1_S512x1) bitsLt_bf16_f32) broadcasts_S512x1_S512x1536))
    (broadcast S512x1536 (Scalar.ofBits .bf16 0x0000#16))

/-! ## The rectangles of a row block -/

theorem inbT (n : Fin 24) (k : Fin 4) : ∀ a, (![32 * n.val, 128 * k.val] : Fin 2 → Nat) a + S32x128.size a ≤ S768x512.size a := by
  intro a; have := n.2; have := k.2
  match a with
  | ⟨0, _⟩ => show 32 * n.val + 32 ≤ 768; omega
  | ⟨1, _⟩ => show 128 * k.val + 128 ≤ 512; omega

theorem inbR (n : Fin 24) : ∀ a, (![32 * n.val, 0] : Fin 2 → Nat) a + S32x128.size a ≤ S768x128.size a := by
  intro a; have := n.2
  match a with
  | ⟨0, _⟩ => show 32 * n.val + 32 ≤ 768; omega
  | ⟨1, _⟩ => show 0 + 128 ≤ 128; omega

theorem inbL (n : Fin 24) (k : Fin 4) : ∀ a, (![0, 32 * n.val, 128 * k.val] : Fin 3 → Nat) a + S1x32x128.size a ≤ S1x768x512.size a := by
  intro a; have := n.2; have := k.2
  match a with
  | ⟨0, _⟩ => show 0 + 1 ≤ 1; omega
  | ⟨1, _⟩ => show 32 * n.val + 32 ≤ 768; omega
  | ⟨2, _⟩ => show 128 * k.val + 128 ≤ 512; omega

theorem inbH (m : Fin 2) : ∀ a, (![384 * m.val, 0] : Fin 2 → Nat) a + S384x512.size a ≤ S768x512.size a := by
  intro a; have := m.2
  match a with
  | ⟨0, _⟩ => show 384 * m.val + 384 ≤ 768; omega
  | ⟨1, _⟩ => show 0 + 512 ≤ 512; omega

/-- Lane group `k` of row block `n` of a tile. -/
abbrev rT (n : Fin 24) (k : Fin 4) : Rect S768x512 := Rect.unit (s := S768x512) ![32 * n.val, 128 * k.val] S32x128.size (inbT n k)
/-- Row block `n` of the per-token inputs. -/
abbrev rR (n : Fin 24) : Rect S768x128 := Rect.unit (s := S768x128) ![32 * n.val, 0] S32x128.size (inbR n)
/-- Lane group `k` of row block `n` of the logits' tile. -/
abbrev rL (n : Fin 24) (k : Fin 4) : Rect S1x768x512 := Rect.unit (s := S1x768x512) ![0, 32 * n.val, 128 * k.val] S1x32x128.size (inbL n k)
/-- Row block `n` of the token tile in the label logits. -/
abbrev rA (i : grid0.Coords) (n : Fin 24) : Rect S4608x128 := Rect.unit (s := S4608x128) (k0_off1 i (BitVec.ofNat 32 (32 * n.val))) S32x128.size (k0_off1_inb i n)
/-- Half `m` of the tile. -/
abbrev rH (m : Fin 2) : Rect S768x512 := Rect.unit (s := S768x512) ![384 * m.val, 0] S384x512.size (inbH m)
/-- Half `m` of the token tile in the activations' gradient. -/
abbrev rX (i : grid0.Coords) (m : Fin 2) : Rect S4608x1536 := Rect.unit (s := S4608x1536) (k0_off2 i (BitVec.ofNat 32 (384 * m.val))) S384x1536.size (k0_off2_inb i m)

theorem packT8 (n : Fin 24) (k : Fin 4) : (rT n k).PackedRows (EltTy.packing .fp8e5m2) := by
  revert n k; decide
theorem packT16 (n : Fin 24) (k : Fin 4) : (rT n k).PackedRows (EltTy.packing .bf16) := by
  revert n k; decide

/-! ## The program -/

/-- One lane group of one row block: its logits read, its codes, their dequantised copies and their copies scaled for the
    weight gradient stored. -/
def laneGroup (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (n : Fin 24) (k : Fin 4)
    (inv mx ri : FVec F S32x128 .f32) (lab : IVec S32x128 32) (fac : FVec F S32x128 .bf16) :
    Prog (TpuEff nD τ sig (Elt F) Λ₀ .tc) (FVec F S32x128 .f32) := do
  let l3 : Vec F S1x32x128 .f32 ← Prog.lift (.load arg3 (rL n k).toLoadRect (View.loadsAt_vmem h_S1x32x128))
  let _ : Vec F S32x128 .fp8e5m2 ← Prog.lift (.load arg11 (rT n k).toLoadRect (View.loadsAt_vmem h_S32x128))
  Prog.lift (.store arg11 (rT n k) (codeVec inv (gradVec mx ri lab (colVec i k) (shapeCast S32x128 l3 shapeCasts_S1x32x128_S32x128))) Finset.univ
    (View.stores_vmem h_S32x128 (harg11.storeExact_slice rfl _ (packT8 n k)) (fun _ => rfl)) (.inl rfl))
  let _ : Vec F S32x128 .bf16 ← Prog.lift (.load arg19 (rT n k).toLoadRect (View.loadsAt_vmem h_S32x128))
  Prog.lift (.store arg19 (rT n k) (shapeCast S32x128 (extf .bf16 (codeVec inv (gradVec mx ri lab (colVec i k) (shapeCast S32x128 l3 shapeCasts_S1x32x128_S32x128))) bitsLt_fp8e5m2_bf16) shapeCasts_S32x128_S32x128) Finset.univ
    (View.stores_vmem h_S32x128 (harg19.storeExact_slice rfl _ (packT16 n k)) (fun _ => rfl)) (.inl rfl))
  let _ : Vec F S32x128 .bf16 ← Prog.lift (.load arg20 (rT n k).toLoadRect (View.loadsAt_vmem h_S32x128))
  Prog.lift (.store arg20 (rT n k) (shapeCast S32x128 (mulf (extf .bf16 (codeVec inv (gradVec mx ri lab (colVec i k) (shapeCast S32x128 l3 shapeCasts_S1x32x128_S32x128))) bitsLt_fp8e5m2_bf16) fac) shapeCasts_S32x128_S32x128) Finset.univ
    (View.stores_vmem h_S32x128 (harg20.storeExact_slice rfl _ (packT16 n k)) (fun _ => rfl)) (.inl rfl))
  pure (shapeCast S32x128 l3 shapeCasts_S1x32x128_S32x128)

/-- One row block: the token's inputs read, the four lane groups, the label logits updated; the largest gradients so far returned. -/
def rowBlock (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (v0 : Vec F S1x16 .f32) (n : Fin 24)
    (amax : FVec F S32x128 .f32) : Prog (TpuEff nD τ sig (Elt F) Λ₀ .tc) (FVec F S32x128 .f32) := do
  let mx : Vec F S32x128 .f32 ← Prog.lift (.load arg4 (rR n).toLoadRect (View.loadsAt_vmem h_S32x128))
  let ri : Vec F S32x128 .f32 ← Prog.lift (.load arg5 (rR n).toLoadRect (View.loadsAt_vmem h_S32x128))
  let lab : Vec F S32x128 .i32 ← Prog.lift (.load arg6 (rR n).toLoadRect (View.loadsAt_vmem h_S32x128))
  let hs : Vec F S32x128 .f32 ← Prog.lift (.load arg7 (rR n).toLoadRect (View.loadsAt_vmem h_S32x128))
  let mx' : FVec F S32x128 .f32 := shapeCast S32x128 mx shapeCasts_S32x128_S32x128
  let ri' : FVec F S32x128 .f32 := shapeCast S32x128 ri shapeCasts_S32x128_S32x128
  let lab' : IVec S32x128 32 := shapeCast S32x128 lab shapeCasts_S32x128_S32x128
  let fac : FVec F S32x128 .bf16 := factorVec (shapeCast S32x128 hs shapeCasts_S32x128_S32x128) (scaleB v0)
  let ll : Vec F S32x128 .f32 ← Prog.lift (.load arg14 (rA i n).toLoadRect (View.loadsAt_vmem h_S32x128))
  let l0 ← laneGroup i arg3 harg3 arg11 harg11 arg19 harg19 arg20 harg20 n 0 (invB v0) mx' ri' lab' fac
  let l1 ← laneGroup i arg3 harg3 arg11 harg11 arg19 harg19 arg20 harg20 n 1 (invB v0) mx' ri' lab' fac
  let l2 ← laneGroup i arg3 harg3 arg11 harg11 arg19 harg19 arg20 harg20 n 2 (invB v0) mx' ri' lab' fac
  let l3 ← laneGroup i arg3 harg3 arg11 harg11 arg19 harg19 arg20 harg20 n 3 (invB v0) mx' ri' lab' fac
  let _ : Vec F S32x128 .f32 ← Prog.lift (.load arg14 (rA i n).toLoadRect (View.loadsAt_vmem h_S32x128))
  Prog.lift (.store arg14 (rA i n) (addf (addf (addf (addf (shapeCast S32x128 ll shapeCasts_S32x128_S32x128) (hitVec lab' (colVec i 0) l0))
      (hitVec lab' (colVec i 1) l1)) (hitVec lab' (colVec i 2) l2)) (hitVec lab' (colVec i 3) l3)) Finset.univ
    (View.stores_vmem_bits_univ h_S32x128 rfl) (.inl rfl))
  pure (maximumf (maximumf (maximumf (maximumf amax (absf (gradVec mx' ri' lab' (colVec i 0) l0))) (absf (gradVec mx' ri' lab' (colVec i 1) l1)))
    (absf (gradVec mx' ri' lab' (colVec i 2) l2))) (absf (gradVec mx' ri' lab' (colVec i 3) l3)))

/-- The row blocks `n, …, n + m - 1`, in order. -/
def rowBlocks (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (v0 : Vec F S1x16 .f32) :
    (m n : Nat) → n + m ≤ 24 → FVec F S32x128 .f32 → Prog (TpuEff nD τ sig (Elt F) Λ₀ .tc) (FVec F S32x128 .f32)
  | 0, _, _, amax => pure amax
  | m + 1, n, h, amax => do
    let a ← rowBlock i arg3 harg3 arg4 harg4 arg5 harg5 arg6 harg6 arg7 harg7 arg11 harg11 arg14 harg14 arg19 harg19 arg20 harg20 v0 ⟨n, by omega⟩ amax
    rowBlocks i arg3 harg3 arg4 harg4 arg5 harg5 arg6 harg6 arg7 harg7 arg11 harg11 arg14 harg14 arg19 harg19 arg20 harg20 v0 m (n + 1) (by omega) a

/-- Half `m` of the token tile: its dequantised codes times the tile's weights, added to the activations' gradient. -/
def dxHalf (i : grid0.Coords) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (m : Fin 2) : Prog (TpuEff nD τ sig (Elt F) Λ₀ .tc) PUnit := do
  let x : Vec F S384x1536 .f32 ← Prog.lift (.load arg17 (rX i m).toLoadRect (View.loadsAt_vmem h_S384x1536))
  let g : Vec F S384x512 .bf16 ← Prog.lift (.load arg19 (rH m).toLoadRect (View.loadsAt_vmem h_S384x512))
  let w : Vec F S512x1536 .bf16 ← Prog.lift (.load arg18 (Rect.unit (s := S512x1536) ![0, 0] S512x1536.size inb_S512x1536_S512x1536_0_0).toLoadRect (View.loadsAt_vmem h_S512x1536))
  let _ : Vec F S384x1536 .f32 ← Prog.lift (.load arg17 (rX i m).toLoadRect (View.loadsAt_vmem h_S384x1536))
  Prog.lift (.store arg17 (rX i m) (shapeCast S384x1536 (addf x (matmul dot_S384x512_S512x1536_S384x1536_1_0_0_1_n_n none g w (constant S384x1536 .f32 0x00000000#32))) shapeCasts_S384x1536_S384x1536) Finset.univ
    (View.stores_vmem_bits_univ h_S384x1536 rfl) (.inl rfl))

/-- The weights' gradient of the vocabulary tile: the token tile's products stored, or added. -/
def dwTile (i : grid0.Coords) (arg8 : Memref sig .tc .vmem S4608x1536 .fp8e4m3) (harg8 : arg8.IsWhole) (arg12 : Memref sig .tc .vmem S512x1536 .f32) (harg12 : arg12.IsWhole) (arg20 : Memref sig .tc .vmem S768x512 .bf16) (harg20 : arg20.IsWhole) : Prog (TpuEff nD τ sig (Elt F) Λ₀ .tc) PUnit := do
  let g : Vec F S768x512 .bf16 ← Prog.lift (.load arg20 (Rect.unit (s := S768x512) ![0, 0] S768x512.size inb_S768x512_S768x512_0_0).toLoadRect (View.loadsAt_vmem h_S768x512))
  let h : Vec F S768x1536 .fp8e4m3 ← Prog.lift (.load arg8 (Rect.unit (s := S4608x1536) (k0_off3 i) S768x1536.size (k0_off3_inb i)).toLoadRect (View.loadsAt_vmem h_S768x1536))
  let o : Vec F S512x1536 .f32 ← Prog.lift (.load arg12 (Rect.unit (s := S512x1536) ![0, 0] S512x1536.size inb_S512x1536_S512x1536_0_0).toLoadRect (View.loadsAt_vmem h_S512x1536))
  let _ : Vec F S512x1536 .f32 ← Prog.lift (.load arg12 (Rect.unit (s := S512x1536) ![0, 0] S512x1536.size inb_S512x1536_S512x1536_0_0).toLoadRect (View.loadsAt_vmem h_S512x1536))
  Prog.lift (.store arg12 (Rect.unit (s := S512x1536) ![0, 0] S512x1536.size inb_S512x1536_S512x1536_0_0)
    (Scalar.select (Scalar.cmpi .eq (BitVec.ofNat 32 (i 1).val) 0#32)
      (matmul dot_S768x512_S768x1536_S512x1536_0_0_1_1_n_n none g h (constant S512x1536 .f32 0x00000000#32))
      (addf (shapeCast S512x1536 o shapeCasts_S512x1536_S512x1536)
        (matmul dot_S768x512_S768x1536_S512x1536_0_0_1_1_n_n none g h (constant S512x1536 .f32 0x00000000#32)))) Finset.univ
    (View.stores_vmem_bits_univ h_S512x1536 rfl) (.inl rfl))

/-- The first grid point's stores: the scale, and zeros where the body accumulates. -/
def initBufs (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) : Prog (TpuEff nD τ sig (Elt F) Λ₀ .tc) PUnit := do
  let _ : Vec F S1x1 .f32 ← Prog.lift (.load arg16 (Rect.unit (s := S1x1) ![0, 0] S1x1.size inb_S1x1_S1x1_0_0).toLoadRect (View.loadsAt_vmem h_S1x1))
  Prog.lift (.store arg16 (Rect.unit (s := S1x1) ![0, 0] S1x1.size inb_S1x1_S1x1_0_0) sc Finset.univ (View.stores_vmem_bits_univ h_S1x1 rfl) (.inl rfl))
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) (broadcast S32x128 (Scalar.ofBits .f32 0x00000000#32)) Finset.univ (View.stores_vmem_bits_univ h_S32x128 rfl) (.inl rfl))
  let _ : Vec F S4608x128 .f32 ← Prog.lift (.load arg14 (Rect.unit (s := S4608x128) ![0, 0] S4608x128.size inb_S4608x128_S4608x128_0_0).toLoadRect (View.loadsAt_vmem h_S4608x128))
  Prog.lift (.store arg14 (Rect.unit (s := S4608x128) ![0, 0] S4608x128.size inb_S4608x128_S4608x128_0_0) (broadcast S4608x128 (Scalar.ofBits .f32 0x00000000#32)) Finset.univ (View.stores_vmem_bits_univ h_S4608x128 rfl) (.inl rfl))
  let _ : Vec F S4608x1536 .f32 ← Prog.lift (.load arg17 (Rect.unit (s := S4608x1536) ![0, 0] S4608x1536.size inb_S4608x1536_S4608x1536_0_0).toLoadRect (View.loadsAt_vmem h_S4608x1536))
  Prog.lift (.store arg17 (Rect.unit (s := S4608x1536) ![0, 0] S4608x1536.size inb_S4608x1536_S4608x1536_0_0) (shapeCast S4608x1536 (broadcast S4608x1536 (Scalar.ofBits .f32 0x00000000#32)) shapeCasts_S4608x1536_S4608x1536) Finset.univ (View.stores_vmem_bits_univ h_S4608x1536 rfl) (.inl rfl))
  pure ⟨⟩

/-- A vocabulary tile's first grid point: its weights dequantised. -/
def weightTile (arg0 : BitVec 32) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) : Prog (TpuEff nD τ sig (Elt F) Λ₀ .tc) PUnit := do
  let w : Vec F S512x1536 .fp8e4m3 ← Prog.lift (.load arg9 (Rect.unit (s := S512x1536) ![0, 0] S512x1536.size inb_S512x1536_S512x1536_0_0).toLoadRect (View.loadsAt_vmem h_S512x1536))
  let ws : Vec F S512x1 .f32 ← Prog.lift (.load arg10 (Rect.unit (s := S512x1) ![0, 0] S512x1.size inb_S512x1_S512x1_0_0).toLoadRect (View.loadsAt_vmem h_S512x1))
  let _ : Vec F S512x1536 .bf16 ← Prog.lift (.load arg18 (Rect.unit (s := S512x1536) ![0, 0] S512x1536.size inb_S512x1536_S512x1536_0_0).toLoadRect (View.loadsAt_vmem h_S512x1536))
  Prog.lift (.store arg18 (Rect.unit (s := S512x1536) ![0, 0] S512x1536.size inb_S512x1536_S512x1536_0_0) (shapeCast S512x1536 (weightVec arg0 w ws) shapeCasts_S512x1536_S512x1536) Finset.univ
    (View.stores_vmem h_S512x1536 (harg18.storeExact_slice rfl _ packedbf16_S512x1536_S512x1536_0_0) (fun _ => rfl)) (.inl rfl))
  pure ⟨⟩

/-- The whole body. -/
def bodyS (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) : Prog (TpuEff nD τ sig (Elt F) Λ₀ .tc) PUnit := do
  let v0 : Vec F S1x16 .f32 ← Prog.lift (.load arg2 (Rect.unit (s := S1x16) ![0, 0] S1x16.size inb_S1x16_S1x16_0_0).toLoadRect (View.loadsAt_vmem h_S1x16))
  if k0_h1 : k0_cond1 i = 1#1 then initBufs arg14 harg14 arg15 harg15 arg16 harg16 arg17 harg17 (scaleVec v0) else pure ⟨⟩
  if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩
  let v110 : Vec F S32x128 .f32 ← Prog.lift (.load arg15 (Rect.unit (s := S32x128) ![0, 0] S32x128.size inb_S32x128_S32x128_0_0).toLoadRect (View.loadsAt_vmem h_S32x128))
  let a12 ← rowBlocks i arg3 harg3 arg4 harg4 arg5 harg5 arg6 harg6 arg7 harg7 arg11 harg11 arg14 harg14 arg19 harg19 arg20 harg20 v0 12 0 (by omega) (shapeCast S32x128 v110 shapeCasts_S32x128_S32x128)
  dxHalf i arg17 harg17 arg18 harg18 arg19 harg19 0
  let a24 ← rowBlocks i arg3 harg3 arg4 harg4 arg5 harg5 arg6 harg6 arg7 harg7 arg11 harg11 arg14 harg14 arg19 harg19 arg20 harg20 v0 12 12 (by omega) a12
  dxHalf i arg17 harg17 arg18 harg18 arg19 harg19 1
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) a24 Finset.univ (View.stores_vmem_bits_univ h_S32x128 rfl) (.inl rfl))
  dwTile i arg8 harg8 arg12 harg12 arg20 harg20
  if k0_h3 : k0_cond3 i = 1#1 then do
    Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec v0) k0_h3)
    pure ⟨⟩
  else pure ⟨⟩
  pure ⟨⟩

/-! ## The printed body is this program -/

theorem part2_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v5 : FVec F S1x1 .f32) (v41 : IVec S1x1 32) (c4 : BitVec 32) (h : k0_cond1 i = 1#1) :
    Cert.Kernel.k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v5 v41 c4
      = initBufs arg14 harg14 arg15 harg15 arg16 harg16 arg17 harg17 (k0_pay6 v5 v41 c4) >>= fun _ => pure ⟨k0_pay6 v5 v41 c4, k0_pay7 v5 v41 c4, Scalar.cmpi .eq arg1 0#32⟩ := by
  unfold Cert.Kernel.k0_part2
  rw [dif_pos h]
  chain_rfl

theorem part2_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v5 : FVec F S1x1 .f32) (v41 : IVec S1x1 32) (c4 : BitVec 32) (h : ¬ k0_cond1 i = 1#1) :
    Cert.Kernel.k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v5 v41 c4
      = pure ⟨k0_pay6 v5 v41 c4, k0_pay7 v5 v41 c4, Scalar.cmpi .eq arg1 0#32⟩ := by
  unfold Cert.Kernel.k0_part2
  rw [dif_neg h]
  chain_rfl

/-- What follows the weights' conditional in the printed body's third part. -/
def part3Rest (arg0 arg1 : BitVec 32) (arg4 : Memref sig .tc .vmem S768x128 .f32) (arg5 : Memref sig .tc .vmem S768x128 .f32) (arg6 : Memref sig .tc .vmem S768x128 .i32) (arg7 : Memref sig .tc .vmem S768x128 .f32) (arg15 : Memref sig .tc .vmem S32x128 .f32) (v73 v78 : FVec F S1x1 .f32) :
    Prog (TpuEff nD τ sig (Elt F) Λ₀ .tc) (Σ' (v88 : BitVec 32) (v93 : IVec S32x128 32) (v97 : IVec S32x128 32) (v101 : IVec S32x128 32) (v105 : IVec S32x128 32) (v107 : FVec F S32x128 .f32) (v109 : FVec F S32x128 .f32) (v111 : FVec F S32x128 .f32) (v113 : FVec F S32x128 .f32) (v115 : FVec F S32x128 .f32) (v117 : IVec S32x128 32) (v121 : FVec F S32x128 .bf16), BitVec 32) := do
  let c768_i32 : BitVec 32 := 768#32
  let v87 : BitVec 32 := Scalar.muli arg1 c768_i32
  let v88 : BitVec 32 := v87
  have v89 : IVec S32x128 32 := iota .tc S32x128 32 [1] iota_S32x128_d1_w32
  let c512_i32 : BitVec 32 := 512#32
  let v90 : BitVec 32 := Scalar.muli arg0 c512_i32
  let c0_i32_19 : BitVec 32 := 0#32
  let v91 : BitVec 32 := Scalar.addi v90 c0_i32_19
  have v92 : IVec S32x128 32 := broadcast S32x128 v91
  have v93 : IVec S32x128 32 := addi v89 v92
  let c512_i32_20 : BitVec 32 := 512#32
  let v94 : BitVec 32 := Scalar.muli arg0 c512_i32_20
  let c128_i32_21 : BitVec 32 := 128#32
  let v95 : BitVec 32 := Scalar.addi v94 c128_i32_21
  have v96 : IVec S32x128 32 := broadcast S32x128 v95
  have v97 : IVec S32x128 32 := addi v89 v96
  let c512_i32_22 : BitVec 32 := 512#32
  let v98 : BitVec 32 := Scalar.muli arg0 c512_i32_22
  let c256_i32 : BitVec 32 := 256#32
  let v99 : BitVec 32 := Scalar.addi v98 c256_i32
  have v100 : IVec S32x128 32 := broadcast S32x128 v99
  have v101 : IVec S32x128 32 := addi v89 v100
  let c512_i32_23 : BitVec 32 := 512#32
  let v102 : BitVec 32 := Scalar.muli arg0 c512_i32_23
  let c384_i32 : BitVec 32 := 384#32
  let v103 : BitVec 32 := Scalar.addi v102 c384_i32
  have v104 : IVec S32x128 32 := broadcast S32x128 v103
  have v105 : IVec S32x128 32 := addi v89 v104
  have v106 : FVec F S1x1 .f32 := shapeCast S1x1 v78 shapeCasts_S1x1_S1x1
  have v107 : FVec F S32x128 .f32 := broadcastTo S32x128 v106 broadcasts_S1x1_S32x128
  have v108 : FVec F S1x1 .f32 := shapeCast S1x1 v73 shapeCasts_S1x1_S1x1
  have v109 : FVec F S32x128 .f32 := broadcastTo S32x128 v108 broadcasts_S1x1_S32x128
  let c0_24 : Index := 0#32
  let c0_25 : Index := 0#32
  let v110 : Vec F S32x128 .f32 ← Prog.lift (.load arg15 (Rect.unit (s := S32x128) ![0, 0] S32x128.size inb_S32x128_S32x128_0_0).toLoadRect (View.loadsAt_vmem h_S32x128))
  have v111 : FVec F S32x128 .f32 := shapeCast S32x128 v110 shapeCasts_S32x128_S32x128
  let c0_26 : Index := 0#32
  let c0_27 : Index := 0#32
  let v112 : Vec F S32x128 .f32 ← Prog.lift (.load arg4 (Rect.unit (s := S768x128) ![0, 0] S32x128.size inb_S768x128_S32x128_0_0).toLoadRect (View.loadsAt_vmem h_S32x128))
  have v113 : FVec F S32x128 .f32 := shapeCast S32x128 v112 shapeCasts_S32x128_S32x128
  let c0_28 : Index := 0#32
  let c0_29 : Index := 0#32
  let v114 : Vec F S32x128 .f32 ← Prog.lift (.load arg5 (Rect.unit (s := S768x128) ![0, 0] S32x128.size inb_S768x128_S32x128_0_0).toLoadRect (View.loadsAt_vmem h_S32x128))
  have v115 : FVec F S32x128 .f32 := shapeCast S32x128 v114 shapeCasts_S32x128_S32x128
  let c0_30 : Index := 0#32
  let c0_31 : Index := 0#32
  let v116 : Vec F S32x128 .i32 ← Prog.lift (.load arg6 (Rect.unit (s := S768x128) ![0, 0] S32x128.size inb_S768x128_S32x128_0_0).toLoadRect (View.loadsAt_vmem h_S32x128))
  have v117 : IVec S32x128 32 := shapeCast S32x128 v116 shapeCasts_S32x128_S32x128
  let c0_32 : Index := 0#32
  let c0_33 : Index := 0#32
  let v118 : Vec F S32x128 .f32 ← Prog.lift (.load arg7 (Rect.unit (s := S768x128) ![0, 0] S32x128.size inb_S768x128_S32x128_0_0).toLoadRect (View.loadsAt_vmem h_S32x128))
  have v119 : FVec F S32x128 .f32 := shapeCast S32x128 v118 shapeCasts_S32x128_S32x128
  have v120 : FVec F S32x128 .f32 := mulf v119 v109
  have v121 : FVec F S32x128 .bf16 := truncf .bf16 v120 bitsLt_bf16_f32
  let c0_i32_34 : BitVec 32 := 0#32
  let v122 : BitVec 32 := Scalar.addi v88 c0_i32_34
  pure ⟨v88, v93, v97, v101, v105, v107, v109, v111, v113, v115, v117, v121, v122⟩

theorem part3_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v73 v78 : FVec F S1x1 .f32) (v84 : BitVec 1) (h : Scalar.cmpi .ne (Scalar.extui v84) 0#32 = 1#1) :
    Cert.Kernel.k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v73 v78 v84
      = weightTile arg0 arg9 harg9 arg10 harg10 arg18 harg18 >>= fun _ => part3Rest arg0 arg1 arg4 arg5 arg6 arg7 arg15 v73 v78 := by
  unfold Cert.Kernel.k0_part3
  extract_lets _ _ v86
  rw [dif_pos (show v86 = 1#1 from h)]
  chain_rfl

theorem part3_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v73 v78 : FVec F S1x1 .f32) (v84 : BitVec 1) (h : ¬ Scalar.cmpi .ne (Scalar.extui v84) 0#32 = 1#1) :
    Cert.Kernel.k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v73 v78 v84
      = part3Rest arg0 arg1 arg4 arg5 arg6 arg7 arg15 v73 v78 := by
  unfold Cert.Kernel.k0_part3
  extract_lets _ _ v86
  rw [dif_neg (show ¬ v86 = 1#1 from h)]
  chain_rfl

/-- A program whose first two steps end in a known value, inside two more. -/
theorem bind_glue {E : Type → Type} {α β γ δ : Type} (A : Prog E α) (r : β) (f : β → Prog E γ) (k : γ → Prog E δ) :
    (((A >>= fun _ => pure r) >>= f) >>= k) = A >>= fun _ => f r >>= k := by
  rw [Prog.bind_assoc, Prog.bind_assoc]; rfl

theorem bind_glue' {E : Type → Type} {α β γ δ : Type} (A : Prog E α) (B : Prog E β) (f : β → Prog E γ) (k : γ → Prog E δ) :
    (((A >>= fun _ => B) >>= f) >>= k) = A >>= fun _ => ((B >>= f) >>= k) := by
  simp only [Prog.bind_assoc]

theorem bind_glueL {E : Type → Type} {α β γ δ : Type} (A : Prog E α) (r : α → β) (f : β → Prog E γ) (k : γ → Prog E δ) :
    (((A >>= fun v => pure (r v)) >>= f) >>= k) = A >>= fun v => f (r v) >>= k := by
  rw [Prog.bind_assoc, Prog.bind_assoc]; rfl

theorem bind_congrK {E : Type → Type} {α β : Type} (A : Prog E α) {f g : α → Prog E β} (h : ∀ a, f a = g a) : (A >>= f) = A >>= g :=
  congrArg (A >>= ·) (funext h)

theorem part1_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    Cert.Kernel.k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
      = Prog.lift (.load arg2 (Rect.unit (s := S1x16) ![0, 0] S1x16.size inb_S1x16_S1x16_0_0).toLoadRect (View.loadsAt_vmem h_S1x16)) >>= fun v0 : Vec F S1x16 .f32 =>
          pure ⟨BitVec.ofNat 32 (i 0).val, BitVec.ofNat 32 (i 1).val, k0_pay3 v0, k0_pay4 v0, 4#32⟩ := by
  unfold Cert.Kernel.k0_part1
  chain_rfl

theorem cc0_grad_eq_pos_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : k0_cond1 i = 1#1) (h2 : Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.Kernel.k0_part88
  rw [part1_eq, bind_glueL]
  refine bind_congrK _ fun v0 => ?_
  rw [dif_pos h1, dif_pos h2]
  change ((Cert.Kernel.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_pos (h := h1), bind_glue]
  refine bind_congrK _ fun _ => ?_
  change ((Cert.Kernel.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_pos (h := h2), bind_glue']
  refine bind_congrK _ fun _ => ?_
  chain_rfl

theorem cc0_grad_eq_pos_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : k0_cond1 i = 1#1) (h2 : ¬ Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.Kernel.k0_part88
  rw [part1_eq, bind_glueL]
  refine bind_congrK _ fun v0 => ?_
  rw [dif_pos h1, dif_neg h2]
  change ((Cert.Kernel.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_pos (h := h1), bind_glue]
  refine bind_congrK _ fun _ => ?_
  change ((Cert.Kernel.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_neg (h := h2)]
  chain_rfl

theorem cc0_grad_eq_neg_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : ¬ k0_cond1 i = 1#1) (h2 : Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.Kernel.k0_part88
  rw [part1_eq, bind_glueL]
  refine bind_congrK _ fun v0 => ?_
  rw [dif_neg h1, dif_pos h2]
  change ((Cert.Kernel.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_neg (h := h1)]
  change ((Cert.Kernel.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_pos (h := h2), bind_glue']
  refine bind_congrK _ fun _ => ?_
  chain_rfl

theorem cc0_grad_eq_neg_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : ¬ k0_cond1 i = 1#1) (h2 : ¬ Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.Kernel.k0_part88
  rw [part1_eq, bind_glueL]
  refine bind_congrK _ fun v0 => ?_
  rw [dif_neg h1, dif_neg h2]
  change ((Cert.Kernel.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_neg (h := h1)]
  change ((Cert.Kernel.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_neg (h := h2)]
  chain_rfl

/-- The printed body is this program. -/
theorem cc0_grad_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  by_cases h1 : k0_cond1 i = 1#1
  · by_cases h2 : Scalar.cmpi .ne (Scalar.extui (Scalar.cmpi .eq (BitVec.ofNat 32 (i 1).val) 0#32)) 0#32 = 1#1
    · exact cc0_grad_eq_pos_pos (h1 := h1) (h2 := h2) ..
    · exact cc0_grad_eq_pos_neg (h1 := h1) (h2 := h2) ..
  · by_cases h2 : Scalar.cmpi .ne (Scalar.extui (Scalar.cmpi .eq (BitVec.ofNat 32 (i 1).val) 0#32)) 0#32 = 1#1
    · exact cc0_grad_eq_neg_pos (h1 := h1) (h2 := h2) ..
    · exact cc0_grad_eq_neg_neg (h1 := h1) (h2 := h2) ..

end Cert.Kernel.Hand

end
-- ==== Proof.Hand.Rules.lean ====
/- Loads and stores as rules on what a memref is owned at: a load through a rectangle reads the contents there, a
   store puts its value there. `put` is the contents after a store; `mix` the contents of a buffer rewritten on a set
   only, which is what a run of stores leaves part of the way. -/
module

public import Idealize.ShloMosaic.Rules.Step
public import Idealize.ShloMosaic.Lib.Memref
public import Idealize.ShloMosaic.Lib.Writes

@[expose] public section

noncomputable section

namespace Cert.Hand

open Idealize.ShloMosaic
open Idealize.SL Idealize.SL.RA
open Idealize.SL.BI (sProp)
open scoped Idealize.SL.BI
open Idealize.SL.BI.BIBase Idealize.SL.BI.Laws Idealize.SL.ProofMode Idealize.SL.Sem

section Put

variable {s : Shape} {α : Type}

open Classical in
/-- The contents `X` with the rectangle `r` replaced by `v`. -/
def put (r : Rect s) (X : s.Idx → α) (v : r.shape.Idx → α) : s.Idx → α :=
  fun y => if h : ∃ j, r.emb j = y then v h.choose else X y

theorem put_emb (r : Rect s) (X : s.Idx → α) (v : r.shape.Idx → α) (j : r.shape.Idx) : put r X v (r.emb j) = v j := by
  have h : ∃ j', r.emb j' = r.emb j := ⟨j, rfl⟩
  unfold put
  rw [dif_pos h, r.emb.injective h.choose_spec]

theorem put_miss (r : Rect s) (X : s.Idx → α) (v : r.shape.Idx → α) (y : s.Idx) (h : ∀ j, r.emb j ≠ y) : put r X v y = X y := by
  unfold put
  rw [dif_neg (fun ⟨j, hj⟩ => h j hj)]

open Classical in
/-- `G` on the set `S`, `Y` off it. -/
def mix (S : Set s.Idx) (G Y : s.Idx → α) : s.Idx → α := fun y => if y ∈ S then G y else Y y

theorem mix_mem (S : Set s.Idx) (G Y : s.Idx → α) (y : s.Idx) (h : y ∈ S) : mix S G Y y = G y := if_pos h
theorem mix_not_mem (S : Set s.Idx) (G Y : s.Idx → α) (y : s.Idx) (h : y ∉ S) : mix S G Y y = Y y := if_neg h

theorem mix_empty (G Y : s.Idx → α) : mix ∅ G Y = Y := funext fun y => if_neg (Set.notMem_empty y)
theorem mix_univ (S : Set s.Idx) (G Y : s.Idx → α) (h : ∀ y, y ∈ S) : mix S G Y = G := funext fun y => if_pos (h y)

/-- A store of `G` on a rectangle widens the set on which the contents are `G`. -/
theorem put_mix (r : Rect s) (S T : Set s.Idx) (G Y : s.Idx → α) (v : r.shape.Idx → α) (hv : ∀ j, v j = G (r.emb j))
    (hT : ∀ y, y ∈ T ↔ y ∈ S ∨ ∃ j, r.emb j = y) : put r (mix S G Y) v = mix T G Y := by
  funext y
  by_cases h : ∃ j, r.emb j = y
  · obtain ⟨j, rfl⟩ := h
    rw [put_emb, hv, mix_mem _ _ _ _ ((hT _).2 (.inr ⟨j, rfl⟩))]
  · rw [put_miss _ _ _ _ (fun j hj => h ⟨j, hj⟩)]
    by_cases hS : y ∈ S
    · rw [mix_mem _ _ _ _ hS, mix_mem _ _ _ _ ((hT _).2 (.inl hS))]
    · rw [mix_not_mem _ _ _ _ hS, mix_not_mem _ _ _ _ (fun hh => ((hT _).1 hh).elim hS h)]

/-- A store over everything. -/
theorem put_full (r : Rect s) (X v : s.Idx → α) (w : r.shape.Idx → α) (hw : ∀ j, w j = v (r.emb j)) (hr : ∀ y, ∃ j, r.emb j = y) :
    put r X w = v := by
  funext y
  obtain ⟨j, rfl⟩ := hr y
  rw [put_emb, hw]

/-- The rectangle that is everything places each index at itself. -/
theorem unit_emb (off : Fin s.rank → Nat) (h : ∀ a, off a + s.size a ≤ s.size a) (h0 : ∀ a, off a = 0) (j : s.Idx) :
    (Rect.unit (s := s) off s.size h).emb j = j :=
  funext fun a => Fin.ext (by show off a + 1 * (j a : Nat) = j a; rw [h0]; omega)

end Put

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle, of a memref owned at `X`. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (fun j => X (r.emb j))) Q)
        -∗ wp frame (wpE defs 𝒱 c bd) E (.op (.load m r.toLoadRect hl) k) Q) := by
  unfold owns
  iintro ⟨%f, %hf, H⟩ Hk
  subst hf
  have h := wp_load (defs := defs) 𝒱 c bd (Γ := .empty) E (Q := Q) (m := m) (r := r.toLoadRect) (hl := hl) (k := k) (q := q) (f := f) (S := m.view.set)
    (m.view.setOn_subset_set _)
  iapply h $$ H
  iintro H
  iapply Hk
  iexists f
  isplitr
  · ipureintro; rfl
  · iexact H

/-- What a list of one write reads. -/
theorem read_writes_put {sp : Space} {κ : Kind} (v : View sig κ sp s e) (r : Rect s) (w : r.shape.Idx → Val e) (f : v.ty.Contents Val) :
    v.read Val (v.writes Val f [⟨r, w⟩]) = put r (v.read Val f) w := by
  funext y
  by_cases hy : ∃ j, r.emb j = y
  · obtain ⟨j, rfl⟩ := hy
    rw [View.read_writes_cons_emb, put_emb]
  · rw [put_miss _ _ _ _ (fun j hj => hy ⟨j, hj⟩), View.read_writes_apply_of_forall_not_mem]
    intro p hp
    rw [List.mem_singleton] at hp
    subst hp
    intro hy'
    exact hy (r.exists_idx_of_mem hy')

/-- An unmasked store, onto a memref owned at `X`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (put r X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  have h := wp_store_writes₀ (defs := defs) 𝒱 c bd E (Q := Q) (m := m) (r := r) (w := w) (hx := hx) (hm := hm) (k := k) (f := f) (S := m.view.set)
    (m.view.set_slice_subset r)
  iapply h $$ H
  iintro H
  iapply Hk
  iexists m.view.writes Val f [⟨r, w⟩]
  isplitr
  · ipureintro; exact read_writes_put m.view r w f
  · iexact H

/-- A load of the whole of a memref. -/
theorem wp_load_full {cs : CoreSpace} {m : Memref sig c.2.kind cs s e} {off : Fin s.rank → Nat} {h : ∀ a, off a + s.size a ≤ s.size a}
    {hl : m.view.LoadsAt (Rect.unit (s := s) off s.size h).toLoadRect}
    {k : (s.Idx → Val e) → Prog (TpuEff nD τ sig Val Λ c.2) α} {q : PosShare TreeShare} {X : s.Idx → Val e} (h0 : ∀ a, off a = 0) :
    owns c m q X
      ⊢ iprop((owns c m q X -∗ wp frame (wpE defs 𝒱 c bd) E (k X) Q)
        -∗ wp frame (wpE defs 𝒱 c bd) E (.op (.load m (Rect.unit (s := s) off s.size h).toLoadRect hl) k) Q) := by
  have hw := wp_load_owns (defs := defs) 𝒱 c bd E (Q := Q) (m := m) (r := Rect.unit (s := s) off s.size h) (hl := hl) (k := k) (q := q) (X := X)
  rwa [show (fun j => X ((Rect.unit (s := s) off s.size h).emb j)) = X from funext fun j => congrArg X (unit_emb off h h0 j)] at hw

/-- A store over the whole of a memref. -/
theorem wp_store_full {cs : CoreSpace} {m : Memref sig c.2.kind cs s e} {off : Fin s.rank → Nat} {h : ∀ a, off a + s.size a ≤ s.size a}
    {w : s.Idx → Val e}
    {hx : (m.access (Rect.unit (s := s) off s.size h)).Stores Finset.univ} {hm : Finset.univ = Finset.univ ∨ ∀ a, (Rect.unit (s := s) off s.size h).stride a = 1}
    {k : PUnit → Prog (TpuEff nD τ sig Val Λ c.2) α} {X : s.Idx → Val e} (h0 : ∀ a, off a = 0) :
    owns c m fullShare X
      ⊢ iprop((owns c m fullShare w -∗ wp frame (wpE defs 𝒱 c bd) E (k ⟨⟩) Q)
        -∗ wp frame (wpE defs 𝒱 c bd) E (.op (.store m (Rect.unit (s := s) off s.size h) w Finset.univ hx hm) k) Q) := by
  have hw := wp_store_owns (defs := defs) 𝒱 c bd E (Q := Q) (m := m) (r := Rect.unit (s := s) off s.size h) (w := w) (hx := hx) (hm := hm) (k := k) (X := X)
  rwa [put_full (Rect.unit (s := s) off s.size h) X w w (fun j => congrArg w (unit_emb off h h0 j).symm) (fun y => ⟨y, unit_emb off h h0 y⟩)] at hw

end Rules

end Cert.Hand
-- ==== Proof.Hand.RunP.lean ====
/- What the `grad` body computes at a grid point, buffer by buffer, and the run of the structured body (`bodyS`) to it.
   A buffer rewritten a rectangle at a time is `mix`ed part of the way. -/
module

public import proofs.«01_k».proof.Proof.Hand.BodyP
public import proofs.«01_k».proof.Proof.Hand.Rules
public import Idealize.ShloMosaic.Lib.Pipeline.FrameBody
public import Idealize.ShloMosaic.Lib.Tactic

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-! ## What a grid point computes -/

/-- What a grid point reads: the history, its tile of logits, and per token of the tile the largest logit, the inverse of
    the sum of exponentials, the label and the activation's scale. -/
structure Tile (F : FTy → Type) [FloatOps F] where
  v0 : Vec F S1x16 .f32
  lg : Vec F S1x768x512 .f32
  mx : Vec F S768x128 .f32
  ri : Vec F S768x128 .f32
  lab : Vec F S768x128 .i32
  hs : Vec F S768x128 .f32

/-- The row block's inputs and the lane group's logits. -/
def mxP (T : Tile F) (n : Fin 24) : FVec F S32x128 .f32 := shapeCast S32x128 (fun j => T.mx ((rR n).emb j)) shapeCasts_S32x128_S32x128
def riP (T : Tile F) (n : Fin 24) : FVec F S32x128 .f32 := shapeCast S32x128 (fun j => T.ri ((rR n).emb j)) shapeCasts_S32x128_S32x128
def labP (T : Tile F) (n : Fin 24) : IVec S32x128 32 := shapeCast (α := BitVec 32) S32x128 (fun j => T.lab ((rR n).emb j)) shapeCasts_S32x128_S32x128
def facP (T : Tile F) (n : Fin 24) : FVec F S32x128 .bf16 :=
  factorVec (shapeCast S32x128 (fun j => T.hs ((rR n).emb j)) shapeCasts_S32x128_S32x128) (scaleB T.v0)
def lgP (T : Tile F) (n : Fin 24) (k : Fin 4) : FVec F S32x128 .f32 := shapeCast S32x128 (fun j => T.lg ((rL n k).emb j)) shapeCasts_S1x32x128_S32x128

/-- A lane group's gradient, its codes, their dequantised copies and their copies scaled for the weight gradient. -/
def gradP (T : Tile F) (i : grid0.Coords) (n : Fin 24) (k : Fin 4) : FVec F S32x128 .f32 := gradVec (mxP T n) (riP T n) (labP T n) (colVec i k) (lgP T n k)
def codeP (T : Tile F) (i : grid0.Coords) (n : Fin 24) (k : Fin 4) : FVec F S32x128 .fp8e5m2 := codeVec (invB T.v0) (gradP T i n k)
def deqP (T : Tile F) (i : grid0.Coords) (n : Fin 24) (k : Fin 4) : FVec F S32x128 .bf16 :=
  shapeCast S32x128 (extf .bf16 (codeP T i n k) bitsLt_fp8e5m2_bf16) shapeCasts_S32x128_S32x128
def wgtP (T : Tile F) (i : grid0.Coords) (n : Fin 24) (k : Fin 4) : FVec F S32x128 .bf16 :=
  shapeCast S32x128 (mulf (extf .bf16 (codeP T i n k) bitsLt_fp8e5m2_bf16) (facP T n)) shapeCasts_S32x128_S32x128

/-- A tile from its lane groups. -/
def tileOf {α : Type} (p : Fin 24 → Fin 4 → S32x128.Idx → α) : S768x512.Idx → α := fun y =>
  p ⟨(y 0).val / 32, by have : (y 0).val < 768 := (y 0).isLt; omega⟩ ⟨(y 1).val / 128, by have : (y 1).val < 512 := (y 1).isLt; omega⟩
    (fun a => match a with
      | ⟨0, _⟩ => ⟨(y 0).val % 32, by show (y 0).val % 32 < 32; omega⟩
      | ⟨1, _⟩ => ⟨(y 1).val % 128, by show (y 1).val % 128 < 128; omega⟩)

theorem rT_emb0 (n : Fin 24) (k : Fin 4) (j : S32x128.Idx) : (((rT n k).emb j) 0).val = 32 * n.val + (j 0).val := by
  show 32 * n.val + 1 * (j 0).val = _; omega
theorem rT_emb1 (n : Fin 24) (k : Fin 4) (j : S32x128.Idx) : (((rT n k).emb j) 1).val = 128 * k.val + (j 1).val := by
  show 128 * k.val + 1 * (j 1).val = _; omega

theorem tileOf_emb {α : Type} (p : Fin 24 → Fin 4 → S32x128.Idx → α) (n : Fin 24) (k : Fin 4) (j : S32x128.Idx) :
    tileOf p ((rT n k).emb j) = p n k j := by
  have h0 := rT_emb0 n k j
  have h1 := rT_emb1 n k j
  have hj0 : (j 0).val < 32 := (j 0).isLt
  have hj1 : (j 1).val < 128 := (j 1).isLt
  have key : ∀ (a : Fin 24) (b : Fin 4) (x : S32x128.Idx), a = n → b = k → x = j → p a b x = p n k j := by
    rintro _ _ _ rfl rfl rfl; rfl
  refine key _ _ _ (Fin.ext ?_) (Fin.ext ?_) (funext fun a => ?_)
  · show (((rT n k).emb j) 0).val / 32 = _; omega
  · show (((rT n k).emb j) 1).val / 128 = _; omega
  · match a with
    | ⟨0, _⟩ => exact Fin.ext (by show (((rT n k).emb j) 0).val % 32 = (j 0).val; omega)
    | ⟨1, _⟩ => exact Fin.ext (by show (((rT n k).emb j) 1).val % 128 = (j 1).val; omega)

/-- The elements of the tile stored before lane group `k` of row block `n`. -/
def doneT (n k : Nat) : Set S768x512.Idx := {y | (y 0).val < 32 * n ∨ ((y 0).val < 32 * (n + 1) ∧ (y 1).val < 128 * k)}

theorem doneT_zero : doneT 0 0 = ∅ := by
  ext y; simp only [doneT, Set.mem_setOf_eq, Set.mem_empty_iff_false, iff_false]; omega

theorem doneT_four (n : Nat) : doneT n 4 = doneT (n + 1) 0 := by
  ext y
  have h1 : (y 1).val < 512 := (y 1).isLt
  simp only [doneT, Set.mem_setOf_eq]; omega

theorem doneT_all (y : S768x512.Idx) : y ∈ doneT 24 0 := by
  have h1 : (y 0).val < 768 := (y 0).isLt
  exact Or.inl h1

theorem doneT_succ (n : Fin 24) (k : Fin 4) (y : S768x512.Idx) :
    y ∈ doneT n.val (k.val + 1) ↔ y ∈ doneT n.val k.val ∨ ∃ j, (rT n k).emb j = y := by
  simp only [doneT, Set.mem_setOf_eq]
  constructor
  · intro h
    by_cases h2 : (y 0).val < 32 * n.val ∨ ((y 0).val < 32 * (n.val + 1) ∧ (y 1).val < 128 * k.val)
    · exact .inl h2
    · refine .inr ⟨(fun a => match a with
        | ⟨0, _⟩ => ⟨(y 0).val - 32 * n.val, by show (y 0).val - 32 * n.val < 32; omega⟩
        | ⟨1, _⟩ => ⟨(y 1).val - 128 * k.val, by show (y 1).val - 128 * k.val < 128; omega⟩), funext fun a => Fin.ext ?_⟩
      match a with
      | ⟨0, _⟩ => show 32 * n.val + 1 * ((y 0).val - 32 * n.val) = (y 0).val; omega
      | ⟨1, _⟩ => show 128 * k.val + 1 * ((y 1).val - 128 * k.val) = (y 1).val; omega
  · rintro (h | ⟨j, rfl⟩)
    · omega
    · have h0 := rT_emb0 n k j
      have h1 := rT_emb1 n k j
      have hj0 : (j 0).val < 32 := (j 0).isLt
      have hj1 : (j 1).val < 128 := (j 1).isLt
      omega

theorem put_tile {α : Type} (p : Fin 24 → Fin 4 → S32x128.Idx → α) (Y : S768x512.Idx → α) (n : Fin 24) (k : Fin 4) :
    put (rT n k) (mix (doneT n.val k.val) (tileOf p) Y) (p n k) = mix (doneT n.val (k.val + 1)) (tileOf p) Y :=
  put_mix _ _ _ _ _ _ (fun j => (tileOf_emb p n k j).symm) (doneT_succ n k)

/-- The label logits of a row block after the point, from what they were. -/
def llP (T : Tile F) (i : grid0.Coords) (A : Vec F S4608x128 .f32) (n : Fin 24) : FVec F S32x128 .f32 :=
  addf (addf (addf (addf (shapeCast S32x128 (fun j => A ((rA i n).emb j)) shapeCasts_S32x128_S32x128) (hitVec (labP T n) (colVec i 0) (lgP T n 0)))
      (hitVec (labP T n) (colVec i 1) (lgP T n 1))) (hitVec (labP T n) (colVec i 2) (lgP T n 2))) (hitVec (labP T n) (colVec i 3) (lgP T n 3))

/-- The label logits after the point. -/
def llNext (T : Tile F) (i : grid0.Coords) (A : Vec F S4608x128 .f32) : Vec F S4608x128 .f32 := fun y =>
  if h : 768 * (i 1).val ≤ (y 0).val ∧ (y 0).val < 768 * (i 1).val + 768 then
    llP T i A ⟨((y 0).val - 768 * (i 1).val) / 32, by omega⟩
      (fun a => match a with
        | ⟨0, _⟩ => ⟨((y 0).val - 768 * (i 1).val) % 32, by show ((y 0).val - 768 * (i 1).val) % 32 < 32; omega⟩
        | ⟨1, _⟩ => ⟨(y 1).val, (y 1).isLt⟩)
  else A y

theorem rA_emb0 (i : grid0.Coords) (n : Fin 24) (j : S32x128.Idx) : (((rA i n).emb j) 0).val = 768 * (i 1).val + 32 * n.val + (j 0).val := by
  show k0_off1 i (BitVec.ofNat 32 (32 * n.val)) 0 + 1 * (j 0).val = _
  rw [k0_off1_eq]; show 768 * (i 1).val + 32 * n.val + 1 * (j 0).val = _; omega
theorem rA_emb1 (i : grid0.Coords) (n : Fin 24) (j : S32x128.Idx) : (((rA i n).emb j) 1).val = (j 1).val := by
  show k0_off1 i (BitVec.ofNat 32 (32 * n.val)) 1 + 1 * (j 1).val = _
  rw [k0_off1_eq]; show 0 + 1 * (j 1).val = _; omega

theorem llNext_emb (T : Tile F) (i : grid0.Coords) (A : Vec F S4608x128 .f32) (n : Fin 24) (j : S32x128.Idx) :
    llNext T i A ((rA i n).emb j) = llP T i A n j := by
  have h0 := rA_emb0 i n j
  have h1 := rA_emb1 i n j
  have hj0 : (j 0).val < 32 := (j 0).isLt
  have hn := n.isLt
  have key : ∀ (a : Fin 24) (x : S32x128.Idx), a = n → x = j → llP T i A a x = llP T i A n j := by
    rintro _ _ rfl rfl; rfl
  unfold llNext
  rw [dif_pos (by omega)]
  refine key _ _ (Fin.ext ?_) (funext fun a => ?_)
  · show ((((rA i n).emb j) 0).val - 768 * (i 1).val) / 32 = _; omega
  · match a with
    | ⟨0, _⟩ => exact Fin.ext (by show ((((rA i n).emb j) 0).val - 768 * (i 1).val) % 32 = (j 0).val; omega)
    | ⟨1, _⟩ => exact Fin.ext (by show (((rA i n).emb j) 1).val = (j 1).val; omega)

/-- The label logits of the tile stored before row block `n`. -/
def doneA (i : grid0.Coords) (n : Nat) : Set S4608x128.Idx := {y | 768 * (i 1).val ≤ (y 0).val ∧ (y 0).val < 768 * (i 1).val + 32 * n}

theorem doneA_zero (i : grid0.Coords) : doneA i 0 = ∅ := by
  ext y; simp only [doneA, Set.mem_setOf_eq, Set.mem_empty_iff_false, iff_false]; omega

theorem doneA_succ (i : grid0.Coords) (n : Fin 24) (y : S4608x128.Idx) :
    y ∈ doneA i (n.val + 1) ↔ y ∈ doneA i n.val ∨ ∃ j, (rA i n).emb j = y := by
  simp only [doneA, Set.mem_setOf_eq]
  constructor
  · intro h
    by_cases h2 : (y 0).val < 768 * (i 1).val + 32 * n.val
    · exact .inl ⟨h.1, h2⟩
    · refine .inr ⟨(fun a => match a with
        | ⟨0, _⟩ => ⟨(y 0).val - (768 * (i 1).val + 32 * n.val), by show (y 0).val - (768 * (i 1).val + 32 * n.val) < 32; omega⟩
        | ⟨1, _⟩ => ⟨(y 1).val, (y 1).isLt⟩), funext fun a => Fin.ext ?_⟩
      match a with
      | ⟨0, _⟩ => exact (rA_emb0 i n _).trans (by show 768 * (i 1).val + 32 * n.val + ((y 0).val - (768 * (i 1).val + 32 * n.val)) = (y 0).val; omega)
      | ⟨1, _⟩ => exact rA_emb1 i n _
  · rintro (h | ⟨j, rfl⟩)
    · omega
    · have h0 := rA_emb0 i n j
      have hj0 : (j 0).val < 32 := (j 0).isLt
      omega

theorem doneA_not (i : grid0.Coords) (n : Fin 24) (j : S32x128.Idx) : (rA i n).emb j ∉ doneA i n.val := by
  have h0 := rA_emb0 i n j
  simp only [doneA, Set.mem_setOf_eq]; omega

theorem doneA_all (T : Tile F) (i : grid0.Coords) (A : Vec F S4608x128 .f32) : mix (doneA i 24) (llNext T i A) A = llNext T i A := by
  funext y
  by_cases h : y ∈ doneA i 24
  · rw [mix_mem _ _ _ _ h]
  · rw [mix_not_mem _ _ _ _ h]
    unfold llNext
    rw [dif_neg]
    intro h2
    exact h ⟨h2.1, by omega⟩

/-- The largest gradients after a row block. -/
def amaxP (T : Tile F) (i : grid0.Coords) (n : Fin 24) (a : FVec F S32x128 .f32) : FVec F S32x128 .f32 :=
  maximumf (maximumf (maximumf (maximumf a (absf (gradP T i n 0))) (absf (gradP T i n 1))) (absf (gradP T i n 2))) (absf (gradP T i n 3))

/-- And after `m` row blocks from the `n`-th on. -/
def amaxRun (T : Tile F) (i : grid0.Coords) : (m n : Nat) → n + m ≤ 24 → FVec F S32x128 .f32 → FVec F S32x128 .f32
  | 0, _, _, a => a
  | m + 1, n, h, a => amaxRun T i m (n + 1) (by omega) (amaxP T i ⟨n, by omega⟩ a)

/-- Half `m` of the tile's contribution to the activations' gradient, added to what was there. -/
def dxP (i : grid0.Coords) (m : Fin 2) (G : Vec F S768x512 .bf16) (W : Vec F S512x1536 .bf16) (X : Vec F S4608x1536 .f32) : FVec F S384x1536 .f32 :=
  shapeCast S384x1536 (addf (fun j => X ((rX i m).emb j)) (matmul dot_S384x512_S512x1536_S384x1536_1_0_0_1_n_n none (fun j => G ((rH m).emb j)) W (constant S384x1536 .f32 0x00000000#32))) shapeCasts_S384x1536_S384x1536

/-- The activations' gradient after half `m`. -/
def dxStep (i : grid0.Coords) (m : Fin 2) (G : Vec F S768x512 .bf16) (W : Vec F S512x1536 .bf16) (X : Vec F S4608x1536 .f32) : Vec F S4608x1536 .f32 :=
  put (rX i m) X (dxP i m G W X)

/-- The weights' gradient of the vocabulary tile after the point. -/
def dwNext (i : grid0.Coords) (G : Vec F S768x512 .bf16) (H : Vec F S4608x1536 .fp8e4m3) (D : Vec F S512x1536 .f32) : Vec F S512x1536 .f32 :=
  Scalar.select (Scalar.cmpi .eq (BitVec.ofNat 32 (i 1).val) 0#32)
      (matmul dot_S768x512_S768x1536_S512x1536_0_0_1_1_n_n none G (fun j => H ((Rect.unit (s := S4608x1536) (k0_off3 i) S768x1536.size (k0_off3_inb i)).emb j)) (constant S512x1536 .f32 0x00000000#32))
      (addf (shapeCast S512x1536 D shapeCasts_S512x1536_S512x1536)
        (matmul dot_S768x512_S768x1536_S512x1536_0_0_1_1_n_n none G (fun j => H ((Rect.unit (s := S4608x1536) (k0_off3 i) S768x1536.size (k0_off3_inb i)).emb j)) (constant S512x1536 .f32 0x00000000#32)))

/-- Zeros. -/
def zeroA : Vec F S4608x128 .f32 := broadcast S4608x128 (Scalar.ofBits .f32 0x00000000#32)
def zeroM : Vec F S32x128 .f32 := broadcast S32x128 (Scalar.ofBits .f32 0x00000000#32)
def zeroX : Vec F S4608x1536 .f32 := shapeCast S4608x1536 (broadcast S4608x1536 (Scalar.ofBits .f32 0x00000000#32)) shapeCasts_S4608x1536_S4608x1536

/-- The tile's weights as stored. -/
def wqNext (i : grid0.Coords) (w : Vec F S512x1536 .fp8e4m3) (ws : Vec F S512x1 .f32) : Vec F S512x1536 .bf16 :=
  shapeCast S512x1536 (weightVec (BitVec.ofNat 32 (i 0).val) w ws) shapeCasts_S512x1536_S512x1536

/-! ## The runs -/

theorem wp_laneGroup (c : Dev nD) (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (T : Tile F) (n : Fin 24) (k : Fin 4)
    (Y11 : Vec F S768x512 .fp8e5m2) (Y19 Y20 : Vec F S768x512 .bf16) (Q : FVec F S32x128 .f32 → sProp 𝕄) :
    iprop(owns (c : Thread nD τ) arg3 fullShare T.lg
        ∗ owns (c : Thread nD τ) arg11 fullShare (mix (doneT n.val k.val) (tileOf (codeP T i)) Y11)
        ∗ owns (c : Thread nD τ) arg19 fullShare (mix (doneT n.val k.val) (tileOf (deqP T i)) Y19)
        ∗ owns (c : Thread nD τ) arg20 fullShare (mix (doneT n.val k.val) (tileOf (wgtP T i)) Y20)
        ∗ (iprop(owns (c : Thread nD τ) arg3 fullShare T.lg
            ∗ owns (c : Thread nD τ) arg11 fullShare (mix (doneT n.val (k.val + 1)) (tileOf (codeP T i)) Y11)
            ∗ owns (c : Thread nD τ) arg19 fullShare (mix (doneT n.val (k.val + 1)) (tileOf (deqP T i)) Y19)
            ∗ owns (c : Thread nD τ) arg20 fullShare (mix (doneT n.val (k.val + 1)) (tileOf (wgtP T i)) Y20)) -∗ Q (lgP T n k)))
      ⊢ wp frame (wpE (defs₀ (F := F)) Variants.none (c : Thread nD τ) none) Set.univ
          (laneGroup i arg3 harg3 arg11 harg11 arg19 harg19 arg20 harg20 n k (invB T.v0) (mxP T n) (riP T n) (labP T n) (facP T n)) Q := by
  unfold laneGroup
  rw [← put_tile (codeP T i) Y11 n k, ← put_tile (deqP T i) Y19 n k, ← put_tile (wgtP T i) Y20 n k]
  iintro ⟨H3, H11, H19, H20, Hk⟩
  iapply (wp_load_owns Variants.none (c : Thread nD τ) none Set.univ) $$ H3
  iintro H3
  iapply (wp_load_owns Variants.none (c : Thread nD τ) none Set.univ) $$ H11
  iintro H11
  iapply (wp_store_owns Variants.none (c : Thread nD τ) none Set.univ) $$ H11
  iintro H11
  iapply (wp_load_owns Variants.none (c : Thread nD τ) none Set.univ) $$ H19
  iintro H19
  iapply (wp_store_owns Variants.none (c : Thread nD τ) none Set.univ) $$ H19
  iintro H19
  iapply (wp_load_owns Variants.none (c : Thread nD τ) none Set.univ) $$ H20
  iintro H20
  iapply (wp_store_owns Variants.none (c : Thread nD τ) none Set.univ) $$ H20
  iintro H20
  iapply (le_wp_ret _ _ _ (lgP T n k) _)
  iapply Hk
  isplitl [H3]; · iexact H3
  isplitl [H11]; · iexact H11
  isplitl [H19]; · iexact H19
  iexact H20

theorem wp_laneGroup_bind (c : Dev nD) (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (T : Tile F) (n : Fin 24) (k : Fin 4)
    (Y11 : Vec F S768x512 .fp8e5m2) (Y19 Y20 : Vec F S768x512 .bf16) {α : Type} (kk : FVec F S32x128 .f32 → Prog (TpuEff nD τ sig (Elt F) Λ₀ .tc) α) (Q : α → sProp 𝕄) :
    iprop(owns (c : Thread nD τ) arg3 fullShare (T.lg)
        ∗ owns (c : Thread nD τ) arg11 fullShare (mix (doneT n.val k.val) (tileOf (codeP T i)) Y11)
        ∗ owns (c : Thread nD τ) arg19 fullShare (mix (doneT n.val k.val) (tileOf (deqP T i)) Y19)
        ∗ owns (c : Thread nD τ) arg20 fullShare (mix (doneT n.val k.val) (tileOf (wgtP T i)) Y20)
        ∗ (iprop(owns (c : Thread nD τ) arg3 fullShare (T.lg)
        ∗ owns (c : Thread nD τ) arg11 fullShare (mix (doneT n.val (k.val + 1)) (tileOf (codeP T i)) Y11)
        ∗ owns (c : Thread nD τ) arg19 fullShare (mix (doneT n.val (k.val + 1)) (tileOf (deqP T i)) Y19)
        ∗ owns (c : Thread nD τ) arg20 fullShare (mix (doneT n.val (k.val + 1)) (tileOf (wgtP T i)) Y20)) -∗ wp frame (wpE (defs₀ (F := F)) Variants.none (c : Thread nD τ) none) Set.univ (kk (lgP T n k)) Q))
      ⊢ wp frame (wpE (defs₀ (F := F)) Variants.none (c : Thread nD τ) none) Set.univ
          (laneGroup i arg3 harg3 arg11 harg11 arg19 harg19 arg20 harg20 n k (invB T.v0) (mxP T n) (riP T n) (labP T n) (facP T n) >>= kk) Q := by
  rw [wp_bind]
  exact wp_laneGroup c i arg3 harg3 arg11 harg11 arg19 harg19 arg20 harg20 T n k Y11 Y19 Y20 (fun x => wp frame (wpE (defs₀ (F := F)) Variants.none (c : Thread nD τ) none) Set.univ (kk x) Q)

theorem wp_rowBlock (c : Dev nD) (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (T : Tile F) (n : Fin 24) (a : FVec F S32x128 .f32)
    (A : Vec F S4608x128 .f32) (Y11 : Vec F S768x512 .fp8e5m2) (Y19 Y20 : Vec F S768x512 .bf16) (Q : FVec F S32x128 .f32 → sProp 𝕄) :
    iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i n.val) (llNext T i A) A)
        ∗ owns (c : Thread nD τ) arg11 fullShare (mix (doneT n.val 0) (tileOf (codeP T i)) Y11)
        ∗ owns (c : Thread nD τ) arg19 fullShare (mix (doneT n.val 0) (tileOf (deqP T i)) Y19)
        ∗ owns (c : Thread nD τ) arg20 fullShare (mix (doneT n.val 0) (tileOf (wgtP T i)) Y20)
        ∗ (iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i (n.val + 1)) (llNext T i A) A)
        ∗ owns (c : Thread nD τ) arg11 fullShare (mix (doneT (n.val + 1) 0) (tileOf (codeP T i)) Y11)
        ∗ owns (c : Thread nD τ) arg19 fullShare (mix (doneT (n.val + 1) 0) (tileOf (deqP T i)) Y19)
        ∗ owns (c : Thread nD τ) arg20 fullShare (mix (doneT (n.val + 1) 0) (tileOf (wgtP T i)) Y20)) -∗ Q (amaxP T i n a)))
      ⊢ wp frame (wpE (defs₀ (F := F)) Variants.none (c : Thread nD τ) none) Set.univ
          (rowBlock i arg3 harg3 arg4 harg4 arg5 harg5 arg6 harg6 arg7 harg7 arg11 harg11 arg14 harg14 arg19 harg19 arg20 harg20 T.v0 n a) Q := by
  have hll : (fun j => mix (doneA i n.val) (llNext T i A) A ((rA i n).emb j)) = fun j => A ((rA i n).emb j) :=
    funext fun j => mix_not_mem _ _ _ _ (doneA_not i n j)
  have hput : put (rA i n) (mix (doneA i n.val) (llNext T i A) A) (llP T i A n) = mix (doneA i (n.val + 1)) (llNext T i A) A :=
    put_mix _ _ _ _ _ _ (fun j => (llNext_emb T i A n j).symm) (doneA_succ i n)
  rw [← hput, ← doneT_four]
  unfold rowBlock
  iintro ⟨H3, H4, H5, H6, H7, H14, H11, H19, H20, Hk⟩
  iapply (wp_load_owns Variants.none (c : Thread nD τ) none Set.univ) $$ H4
  iintro H4
  iapply (wp_load_owns Variants.none (c : Thread nD τ) none Set.univ) $$ H5
  iintro H5
  iapply (wp_load_owns Variants.none (c : Thread nD τ) none Set.univ) $$ H6
  iintro H6
  iapply (wp_load_owns Variants.none (c : Thread nD τ) none Set.univ) $$ H7
  iintro H7
  iapply (wp_load_owns Variants.none (c : Thread nD τ) none Set.univ) $$ H14
  iintro H14
  iapply (wp_laneGroup_bind c i arg3 harg3 arg11 harg11 arg19 harg19 arg20 harg20 T n 0 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 1 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 2 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 3 Y11 Y19 Y20)
  isplitl [H3]; · iexact H3
  isplitl [H11]; · iexact H11
  isplitl [H19]; · iexact H19
  isplitl [H20]; · iexact H20
  iintro ⟨H3, H11, H19, H20⟩
  iapply (wp_load_owns Variants.none (c : Thread nD τ) none Set.univ) $$ H14
  iintro H14
  rw [hll]
  iapply (wp_store_owns Variants.none (c : Thread nD τ) none Set.univ) $$ H14
  iintro H14
  iapply (le_wp_ret _ _ _ (amaxP T i n a) _)
  iapply Hk
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  iexact H20

theorem wp_rowBlocks (c : Dev nD) (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (T : Tile F)
    (A : Vec F S4608x128 .f32) (Y11 : Vec F S768x512 .fp8e5m2) (Y19 Y20 : Vec F S768x512 .bf16) (Q : FVec F S32x128 .f32 → sProp 𝕄) :
    ∀ (m n : Nat) (h : n + m ≤ 24) (a : FVec F S32x128 .f32),
    iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i n) (llNext T i A) A)
        ∗ owns (c : Thread nD τ) arg11 fullShare (mix (doneT n 0) (tileOf (codeP T i)) Y11)
        ∗ owns (c : Thread nD τ) arg19 fullShare (mix (doneT n 0) (tileOf (deqP T i)) Y19)
        ∗ owns (c : Thread nD τ) arg20 fullShare (mix (doneT n 0) (tileOf (wgtP T i)) Y20)
        ∗ (iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i (n + m)) (llNext T i A) A)
        ∗ owns (c : Thread nD τ) arg11 fullShare (mix (doneT (n + m) 0) (tileOf (codeP T i)) Y11)
        ∗ owns (c : Thread nD τ) arg19 fullShare (mix (doneT (n + m) 0) (tileOf (deqP T i)) Y19)
        ∗ owns (c : Thread nD τ) arg20 fullShare (mix (doneT (n + m) 0) (tileOf (wgtP T i)) Y20)) -∗ Q (amaxRun T i m n h a)))
      ⊢ wp frame (wpE (defs₀ (F := F)) Variants.none (c : Thread nD τ) none) Set.univ
          (rowBlocks i arg3 harg3 arg4 harg4 arg5 harg5 arg6 harg6 arg7 harg7 arg11 harg11 arg14 harg14 arg19 harg19 arg20 harg20 T.v0 m n h a) Q := by
  intro m
  induction m with
  | zero =>
    intro n h a
    unfold rowBlocks
    iintro ⟨H3, H4, H5, H6, H7, H14, H11, H19, H20, Hk⟩
    iapply (le_wp_ret _ _ _ (amaxRun T i 0 n h a) _)
    iapply Hk
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    iexact H20
  | succ m ih =>
    intro n h a
    unfold rowBlocks
    rw [wp_bind]
    have hn : n < 24 := by omega
    have hm : n + 1 + m ≤ 24 := by omega
    rw [show n + (m + 1) = n + 1 + m by omega]
    iintro ⟨H3, H4, H5, H6, H7, H14, H11, H19, H20, Hk⟩
    iapply (wp_rowBlock c i arg3 harg3 arg4 harg4 arg5 harg5 arg6 harg6 arg7 harg7 arg11 harg11 arg14 harg14 arg19 harg19 arg20 harg20 T ⟨n, hn⟩ a A Y11 Y19 Y20)
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    isplitl [H20]; · iexact H20
    iintro ⟨H3, H4, H5, H6, H7, H14, H11, H19, H20⟩
    iapply (ih (n + 1) hm (amaxP T i ⟨n, hn⟩ a))
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    isplitl [H20]; · iexact H20
    iexact Hk

theorem off2_zero : ∀ a : Fin 2, (![0, 0] : Fin 2 → Nat) a = 0 := by decide

theorem wp_dxHalf (c : Dev nD) (i : grid0.Coords) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (m : Fin 2) (X : Vec F S4608x1536 .f32) (W : Vec F S512x1536 .bf16) (G : Vec F S768x512 .bf16) (Q : PUnit → sProp 𝕄) :
    iprop(owns (c : Thread nD τ) arg17 fullShare (X)
        ∗ owns (c : Thread nD τ) arg18 fullShare (W)
        ∗ owns (c : Thread nD τ) arg19 fullShare (G)
        ∗ (iprop(owns (c : Thread nD τ) arg17 fullShare (dxStep i m G W X)
        ∗ owns (c : Thread nD τ) arg18 fullShare (W)
        ∗ owns (c : Thread nD τ) arg19 fullShare (G)) -∗ Q ⟨⟩))
      ⊢ wp frame (wpE (defs₀ (F := F)) Variants.none (c : Thread nD τ) none) Set.univ (dxHalf i arg17 harg17 arg18 harg18 arg19 harg19 m) Q := by
  unfold dxHalf dxStep
  iintro ⟨H17, H18, H19, Hk⟩
  iapply (wp_load_owns Variants.none (c : Thread nD τ) none Set.univ) $$ H17
  iintro H17
  iapply (wp_load_owns Variants.none (c : Thread nD τ) none Set.univ) $$ H19
  iintro H19
  iapply (wp_load_full Variants.none (c : Thread nD τ) none Set.univ off2_zero) $$ H18
  iintro H18
  iapply (wp_load_owns Variants.none (c : Thread nD τ) none Set.univ) $$ H17
  iintro H17
  iapply (wp_store_owns Variants.none (c : Thread nD τ) none Set.univ) $$ H17
  iintro H17
  iapply (le_wp_ret _ _ _ _ _)
  iapply Hk
  isplitl [H17]; · iexact H17
  isplitl [H18]; · iexact H18
  iexact H19

theorem wp_dwTile (c : Dev nD) (i : grid0.Coords) (arg8 : Memref sig .tc .vmem S4608x1536 .fp8e4m3) (harg8 : arg8.IsWhole) (arg12 : Memref sig .tc .vmem S512x1536 .f32) (harg12 : arg12.IsWhole) (arg20 : Memref sig .tc .vmem S768x512 .bf16) (harg20 : arg20.IsWhole) (H : Vec F S4608x1536 .fp8e4m3) (D : Vec F S512x1536 .f32) (G : Vec F S768x512 .bf16) (Q : PUnit → sProp 𝕄) :
    iprop(owns (c : Thread nD τ) arg8 fullShare (H)
        ∗ owns (c : Thread nD τ) arg12 fullShare (D)
        ∗ owns (c : Thread nD τ) arg20 fullShare (G)
        ∗ (iprop(owns (c : Thread nD τ) arg8 fullShare (H)
        ∗ owns (c : Thread nD τ) arg12 fullShare (dwNext i G H D)
        ∗ owns (c : Thread nD τ) arg20 fullShare (G)) -∗ Q ⟨⟩))
      ⊢ wp frame (wpE (defs₀ (F := F)) Variants.none (c : Thread nD τ) none) Set.univ (dwTile i arg8 harg8 arg12 harg12 arg20 harg20) Q := by
  unfold dwTile dwNext
  iintro ⟨H8, H12, H20, Hk⟩
  iapply (wp_load_full Variants.none (c : Thread nD τ) none Set.univ off2_zero) $$ H20
  iintro H20
  iapply (wp_load_owns Variants.none (c : Thread nD τ) none Set.univ) $$ H8
  iintro H8
  iapply (wp_load_full Variants.none (c : Thread nD τ) none Set.univ off2_zero) $$ H12
  iintro H12
  iapply (wp_load_full Variants.none (c : Thread nD τ) none Set.univ off2_zero) $$ H12
  iintro H12
  iapply (wp_store_full Variants.none (c : Thread nD τ) none Set.univ off2_zero) $$ H12
  iintro H12
  iapply (le_wp_ret _ _ _ _ _)
  iapply Hk
  isplitl [H8]; · iexact H8
  isplitl [H12]; · iexact H12
  iexact H20

theorem wp_initBufs (c : Dev nD) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) (A : Vec F S4608x128 .f32) (M : Vec F S32x128 .f32) (S : Vec F S1x1 .f32) (X : Vec F S4608x1536 .f32) (Q : PUnit → sProp 𝕄) :
    iprop(owns (c : Thread nD τ) arg14 fullShare (A)
        ∗ owns (c : Thread nD τ) arg15 fullShare (M)
        ∗ owns (c : Thread nD τ) arg16 fullShare (S)
        ∗ owns (c : Thread nD τ) arg17 fullShare (X)
        ∗ (iprop(owns (c : Thread nD τ) arg14 fullShare (zeroA)
        ∗ owns (c : Thread nD τ) arg15 fullShare (zeroM)
        ∗ owns (c : Thread nD τ) arg16 fullShare (sc)
        ∗ owns (c : Thread nD τ) arg17 fullShare (zeroX)) -∗ Q ⟨⟩))
      ⊢ wp frame (wpE (defs₀ (F := F)) Variants.none (c : Thread nD τ) none) Set.univ (initBufs arg14 harg14 arg15 harg15 arg16 harg16 arg17 harg17 sc) Q := by
  unfold initBufs zeroA zeroM zeroX
  iintro ⟨H14, H15, H16, H17, Hk⟩
  iapply (wp_load_full Variants.none (c : Thread nD τ) none Set.univ off2_zero) $$ H16
  iintro H16
  iapply (wp_store_full Variants.none (c : Thread nD τ) none Set.univ off2_zero) $$ H16
  iintro H16
  iapply (wp_load_full Variants.none (c : Thread nD τ) none Set.univ off2_zero) $$ H15
  iintro H15
  iapply (wp_store_full Variants.none (c : Thread nD τ) none Set.univ off2_zero) $$ H15
  iintro H15
  iapply (wp_load_full Variants.none (c : Thread nD τ) none Set.univ off2_zero) $$ H14
  iintro H14
  iapply (wp_store_full Variants.none (c : Thread nD τ) none Set.univ off2_zero) $$ H14
  iintro H14
  iapply (wp_load_full Variants.none (c : Thread nD τ) none Set.univ off2_zero) $$ H17
  iintro H17
  iapply (wp_store_full Variants.none (c : Thread nD τ) none Set.univ off2_zero) $$ H17
  iintro H17
  iapply (le_wp_ret _ _ _ _ _)
  iapply Hk
  isplitl [H14]; · iexact H14
  isplitl [H15]; · iexact H15
  isplitl [H16]; · iexact H16
  iexact H17

theorem wp_weightTile (c : Dev nD) (i : grid0.Coords) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) (w : Vec F S512x1536 .fp8e4m3) (ws : Vec F S512x1 .f32) (W : Vec F S512x1536 .bf16) (Q : PUnit → sProp 𝕄) :
    iprop(owns (c : Thread nD τ) arg9 fullShare (w)
        ∗ owns (c : Thread nD τ) arg10 fullShare (ws)
        ∗ owns (c : Thread nD τ) arg18 fullShare (W)
        ∗ (iprop(owns (c : Thread nD τ) arg9 fullShare (w)
        ∗ owns (c : Thread nD τ) arg10 fullShare (ws)
        ∗ owns (c : Thread nD τ) arg18 fullShare (wqNext i w ws)) -∗ Q ⟨⟩))
      ⊢ wp frame (wpE (defs₀ (F := F)) Variants.none (c : Thread nD τ) none) Set.univ (weightTile (BitVec.ofNat 32 (i 0).val) arg9 harg9 arg10 harg10 arg18 harg18) Q := by
  unfold weightTile wqNext
  iintro ⟨H9, H10, H18, Hk⟩
  iapply (wp_load_full Variants.none (c : Thread nD τ) none Set.univ off2_zero) $$ H9
  iintro H9
  iapply (wp_load_full Variants.none (c : Thread nD τ) none Set.univ off2_zero) $$ H10
  iintro H10
  iapply (wp_load_full Variants.none (c : Thread nD τ) none Set.univ off2_zero) $$ H18
  iintro H18
  iapply (wp_store_full Variants.none (c : Thread nD τ) none Set.univ off2_zero) $$ H18
  iintro H18
  iapply (le_wp_ret _ _ _ _ _)
  iapply Hk
  isplitl [H9]; · iexact H9
  isplitl [H10]; · iexact H10
  iexact H18

end Cert.Kernel.Hand

end
-- ==== Proof.Hand.LoopP.lean ====
/- What the `grad` body computes at a grid point, buffer by buffer, and the run of the structured body (`bodyS`) to it.
   A buffer rewritten a rectangle at a time is `mix`ed part of the way. -/
module

public import proofs.«01_k».proof.Proof.Hand.BodyP
public import proofs.«01_k».proof.Proof.Hand.Rules
public import proofs.«01_k».proof.Proof.Hand.RunP
public import Idealize.ShloMosaic.Lib.Pipeline.FrameBody
public import Idealize.ShloMosaic.Lib.Tactic

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- What the HBM result holds: `P`, over the whole buffer. -/
def hbmAt (c : Dev nD) (arg13 : Memref sig .tc .hbm S4608x1536 .bf16) (P : Vec F S4608x1536 .bf16) : sProp 𝕄 :=
  iprop(∃ g, ⌜arg13.view.read (Elt F) g = P⌝ ∗ (arg13.view.loc (c : Thread nD τ) ↦{fullShare} g))

theorem wp_trip (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32) (k0_h3 : k0_cond3 i = 1#1)
    (k : Fin k0_t1_loop.trips) (X : Vec F S4608x1536 .f32) (P : Vec F S4608x1536 .bf16) :
    iprop(owns (c : Thread nD τ) arg17 fullShare X ∗ (∃ Y, owns (c : Thread nD τ) arg18 fullShare Y) ∗ hbmAt c arg13 P ∗ semVal ((c : Thread nD τ), SemLoc.dma arg21.sem) 0 ∗ (∃ W, owes (c : Thread nD τ) 0 W))
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k PUnit.unit)
          (fun _ => iprop(owns (c : Thread nD τ) arg17 fullShare X ∗ (∃ Y, owns (c : Thread nD τ) arg18 fullShare Y)
            ∗ hbmAt c arg13 (put (Rect.unit (s := S4608x1536) (k0_off5 k) S512x1536.size (k0_off5_inb i k k0_h3)) P
                (k0_pay2 v73 (fun j => X ((Rect.unit (s := S4608x1536) (k0_off4 k) S512x1536.size (k0_off4_inb i k k0_h3)).emb j))))
            ∗ semVal ((c : Thread nD τ), SemLoc.dma arg21.sem) 0 ∗ (∃ W, owes (c : Thread nD τ) 0 W))) := by
  iintro ⟨H17, ⟨%Y, H18⟩, H13, HC, ⟨%W, HO⟩⟩
  unfold k0_t1_body
  iapply (wp_load_owns Variants.none (c : Thread nD τ) none Set.univ) $$ H17
  iintro H17
  iapply (wp_load_full Variants.none (c : Thread nD τ) none Set.univ off2_zero) $$ H18
  iintro H18
  iapply (wp_store_full Variants.none (c : Thread nD τ) none Set.univ off2_zero) $$ H18
  iintro H18
  unfold owns hbmAt
  icases H18 with ⟨%f18, %h18, H18⟩
  icases H13 with ⟨%g, %hg, H13⟩
  rw [Prog.bind]
  sl_exec
  sl_step
  isplitl [H17]; · iexact H17
  isplitl [H18]
  · iexists (arg18.view.read (Elt F) f18); iexists f18; isplitr; · ipureintro; rfl
    iexact H18
  isplitl [H13]
  · iexists (wp_trip.sl.H13_w0 c i arg13 arg18 k0_h3 k f18 g); isplitr
    swap; · iexact H13
    ipureintro
    unfold wp_trip.sl.H13_w0
    rw [← hg]
    exact (read_writes_put arg13.view _ _ g).trans (congrArg (put _ _) h18)
  isplitl [HC]; · iexact HC
  iexists _; iexact HO

/-- The activations' gradient as the last grid point copies it out: scaled, a block of 512 rows at a time. -/
def dxOut (v : FVec F S1x1 .f32) (X : Vec F S4608x1536 .f32) : Vec F S4608x1536 .bf16 := fun y =>
  k0_pay2 v (fun j => X (fun a => match a with
      | ⟨0, _⟩ => ⟨512 * ((y 0).val / 512) + (j 0).val, by
          have h1 : (y 0).val < 4608 := (y 0).isLt
          have h2 : (j 0).val < 512 := (j 0).isLt
          show 512 * ((y 0).val / 512) + (j 0).val < 4608; omega⟩
      | ⟨1, _⟩ => ⟨(j 1).val, (j 1).isLt⟩))
    (fun a => match a with
      | ⟨0, _⟩ => ⟨(y 0).val % 512, by show (y 0).val % 512 < 512; omega⟩
      | ⟨1, _⟩ => ⟨(y 1).val, (y 1).isLt⟩)

theorem trips_eq : k0_t1_loop.trips = 9 := by decide +kernel

theorem rO_emb0 (i : grid0.Coords) (k : Fin k0_t1_loop.trips) (h3 : k0_cond3 i = 1#1) (j : S512x1536.Idx) :
    (((Rect.unit (s := S4608x1536) (k0_off5 k) S512x1536.size (k0_off5_inb i k h3)).emb j) 0).val = 512 * k.val + (j 0).val := by
  show k0_off5 k 0 + 1 * (j 0).val = _
  rw [k0_off5_eq]; show 512 * k.val + 1 * (j 0).val = _; omega
theorem rO_emb1 (i : grid0.Coords) (k : Fin k0_t1_loop.trips) (h3 : k0_cond3 i = 1#1) (j : S512x1536.Idx) :
    (((Rect.unit (s := S4608x1536) (k0_off5 k) S512x1536.size (k0_off5_inb i k h3)).emb j) 1).val = (j 1).val := by
  show k0_off5 k 1 + 1 * (j 1).val = _
  rw [k0_off5_eq]; show 0 + 1 * (j 1).val = _; omega
theorem rI_emb0 (i : grid0.Coords) (k : Fin k0_t1_loop.trips) (h3 : k0_cond3 i = 1#1) (j : S512x1536.Idx) :
    (((Rect.unit (s := S4608x1536) (k0_off4 k) S512x1536.size (k0_off4_inb i k h3)).emb j) 0).val = 512 * k.val + (j 0).val := by
  show k0_off4 k 0 + 1 * (j 0).val = _
  rw [k0_off4_eq]; show 512 * k.val + 1 * (j 0).val = _; omega
theorem rI_emb1 (i : grid0.Coords) (k : Fin k0_t1_loop.trips) (h3 : k0_cond3 i = 1#1) (j : S512x1536.Idx) :
    (((Rect.unit (s := S4608x1536) (k0_off4 k) S512x1536.size (k0_off4_inb i k h3)).emb j) 1).val = (j 1).val := by
  show k0_off4 k 1 + 1 * (j 1).val = _
  rw [k0_off4_eq]; show 0 + 1 * (j 1).val = _; omega

theorem dxOut_emb (v : FVec F S1x1 .f32) (X : Vec F S4608x1536 .f32) (i : grid0.Coords) (k : Fin k0_t1_loop.trips) (h3 : k0_cond3 i = 1#1) (j : S512x1536.Idx) :
    k0_pay2 v (fun j => X ((Rect.unit (s := S4608x1536) (k0_off4 k) S512x1536.size (k0_off4_inb i k h3)).emb j)) j
      = dxOut v X ((Rect.unit (s := S4608x1536) (k0_off5 k) S512x1536.size (k0_off5_inb i k h3)).emb j) := by
  have hj : (j 0).val < 512 := (j 0).isLt
  have e0 := rO_emb0 i k h3 j
  have e1 := rO_emb1 i k h3 j
  have key : ∀ (A B : Vec F S512x1536 .f32) (x y : S512x1536.Idx), A = B → x = y → k0_pay2 v A x = k0_pay2 v B y := by
    rintro _ _ _ _ rfl rfl; rfl
  unfold dxOut
  refine key _ _ _ _ (funext fun j' => congrArg X (funext fun a => Fin.ext ?_)) (funext fun a => Fin.ext ?_)
  · have hj' : (j' 0).val < 512 := (j' 0).isLt
    match a with
    | ⟨0, _⟩ => exact (rI_emb0 i k h3 j').trans (by show 512 * k.val + (j' 0).val = 512 * ((((Rect.unit (s := S4608x1536) (k0_off5 k) S512x1536.size (k0_off5_inb i k h3)).emb j) 0).val / 512) + (j' 0).val; omega)
    | ⟨1, _⟩ => exact rI_emb1 i k h3 j'
  · match a with
    | ⟨0, _⟩ => show (j 0).val = (((Rect.unit (s := S4608x1536) (k0_off5 k) S512x1536.size (k0_off5_inb i k h3)).emb j) 0).val % 512; omega
    | ⟨1, _⟩ => exact e1.symm

/-- The rows copied out before trip `k`. -/
def doneP (k : Nat) : Set S4608x1536.Idx := {y | (y 0).val < 512 * k}

theorem put_trip (v : FVec F S1x1 .f32) (X : Vec F S4608x1536 .f32) (P : Vec F S4608x1536 .bf16) (i : grid0.Coords) (k : Fin k0_t1_loop.trips) (h3 : k0_cond3 i = 1#1) :
    put (Rect.unit (s := S4608x1536) (k0_off5 k) S512x1536.size (k0_off5_inb i k h3)) (mix (doneP k.val) (dxOut v X) P)
        (k0_pay2 v (fun j => X ((Rect.unit (s := S4608x1536) (k0_off4 k) S512x1536.size (k0_off4_inb i k h3)).emb j)))
      = mix (doneP (k.val + 1)) (dxOut v X) P := by
  refine put_mix _ _ _ _ _ _ (dxOut_emb v X i k h3) fun y => ?_
  simp only [doneP, Set.mem_setOf_eq]
  constructor
  · intro h
    by_cases h2 : (y 0).val < 512 * k.val
    · exact .inl h2
    · refine .inr ⟨(fun a => match a with
        | ⟨0, _⟩ => ⟨(y 0).val - 512 * k.val, by show (y 0).val - 512 * k.val < 512; omega⟩
        | ⟨1, _⟩ => ⟨(y 1).val, (y 1).isLt⟩), funext fun a => Fin.ext ?_⟩
      match a with
      | ⟨0, _⟩ => exact (rO_emb0 i k h3 _).trans (by show 512 * k.val + ((y 0).val - 512 * k.val) = (y 0).val; omega)
      | ⟨1, _⟩ => exact rO_emb1 i k h3 _
  · rintro (h | ⟨j, he⟩)
    · omega
    · have h0 : (y 0).val = 512 * k.val + (j 0).val := he ▸ rO_emb0 i k h3 j
      have hj : (j 0).val < 512 := (j 0).isLt
      omega

theorem wp_loop (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32) (k0_h3 : k0_cond3 i = 1#1)
    (X : Vec F S4608x1536 .f32) (P : Vec F S4608x1536 .bf16) (Q : PUnit → sProp 𝕄) :
    iprop(owns (c : Thread nD τ) arg17 fullShare X ∗ (∃ Y, owns (c : Thread nD τ) arg18 fullShare Y) ∗ hbmAt c arg13 P ∗ semVal ((c : Thread nD τ), SemLoc.dma arg21.sem) 0 ∗ (∃ W, owes (c : Thread nD τ) 0 W)
        ∗ (iprop(owns (c : Thread nD τ) arg17 fullShare X ∗ (∃ Y, owns (c : Thread nD τ) arg18 fullShare Y) ∗ hbmAt c arg13 (dxOut v73 X) ∗ semVal ((c : Thread nD τ), SemLoc.dma arg21.sem) 0 ∗ (∃ W, owes (c : Thread nD τ) 0 W)) -∗ Q ⟨⟩))
      ⊢ wp frame (wpE (defs₀ (F := F)) Variants.none (c : Thread nD τ) none) Set.univ
          (Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)) Q := by
  have hE : mix (doneP 0) (dxOut v73 X) P = P := by
    rw [show doneP 0 = ∅ from by ext y; simp only [doneP, Set.mem_setOf_eq, Set.mem_empty_iff_false, iff_false]; omega, mix_empty]
  have hU : mix (doneP k0_t1_loop.trips) (dxOut v73 X) P = dxOut v73 X :=
    mix_univ _ _ _ fun y => by
      have h : (y 0).val < 4608 := (y 0).isLt
      simp only [doneP, Set.mem_setOf_eq, trips_eq]; omega
  have hstep : ∀ (k : Fin k0_t1_loop.trips) (acc : PUnit), iprop(owns (c : Thread nD τ) arg17 fullShare X ∗ (∃ Y, owns (c : Thread nD τ) arg18 fullShare Y) ∗ hbmAt c arg13 (mix (doneP k.val) (dxOut v73 X) P) ∗ semVal ((c : Thread nD τ), SemLoc.dma arg21.sem) 0 ∗ (∃ W, owes (c : Thread nD τ) 0 W))
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k acc)
        (fun _ => iprop(owns (c : Thread nD τ) arg17 fullShare X ∗ (∃ Y, owns (c : Thread nD τ) arg18 fullShare Y) ∗ hbmAt c arg13 (mix (doneP (k.val + 1)) (dxOut v73 X) P) ∗ semVal ((c : Thread nD τ), SemLoc.dma arg21.sem) 0 ∗ (∃ W, owes (c : Thread nD τ) 0 W))) := by
    intro k acc
    have h := wp_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k X (mix (doneP k.val) (dxOut v73 X) P)
    rw [put_trip v73 X P i k k0_h3] at h
    exact h
  have hfor := Scf.wp_for frame (wpE (defs₀ (F := F)) Variants.none (c : Thread nD τ) none) Set.univ k0_t1_loop.lb k0_t1_loop.ub k0_t1_loop.st (k0_t1_ok i k0_h3) PUnit.unit
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)
    (fun (k : Nat) (_ : PUnit) => iprop(owns (c : Thread nD τ) arg17 fullShare X ∗ (∃ Y, owns (c : Thread nD τ) arg18 fullShare Y) ∗ hbmAt c arg13 (mix (doneP k) (dxOut v73 X) P) ∗ semVal ((c : Thread nD τ), SemLoc.dma arg21.sem) 0 ∗ (∃ W, owes (c : Thread nD τ) 0 W)))
    (Q := Q) hstep
  dsimp only at hfor
  rw [hE, show Scf.trips k0_t1_loop.lb k0_t1_loop.ub k0_t1_loop.st = k0_t1_loop.trips from rfl, hU] at hfor
  iintro ⟨H17, H18, H13, HC, HO, Hk⟩
  iapply hfor
  isplitl [H17 H18 H13 HC HO]
  · isplitl [H17]; · iexact H17
    isplitl [H18]; · iexact H18
    isplitl [H13]; · iexact H13
    isplitl [HC]; · iexact HC
    iexact HO
  · iintro %acc H
    iapply Hk
    iexact H
/-- The whole body, its conditionals as programs run one after the other. -/
def bodyB (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) : Prog (TpuEff nD τ sig (Elt F) Λ₀ .tc) PUnit := do
  let v0 : Vec F S1x16 .f32 ← Prog.lift (.load arg2 (Rect.unit (s := S1x16) ![0, 0] S1x16.size inb_S1x16_S1x16_0_0).toLoadRect (View.loadsAt_vmem h_S1x16))
  let _ : PUnit ← (if k0_h1 : k0_cond1 i = 1#1 then initBufs arg14 harg14 arg15 harg15 arg16 harg16 arg17 harg17 (scaleVec v0) else pure ⟨⟩)
  let _ : PUnit ← (if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩)
  let v110 : Vec F S32x128 .f32 ← Prog.lift (.load arg15 (Rect.unit (s := S32x128) ![0, 0] S32x128.size inb_S32x128_S32x128_0_0).toLoadRect (View.loadsAt_vmem h_S32x128))
  let a12 ← rowBlocks i arg3 harg3 arg4 harg4 arg5 harg5 arg6 harg6 arg7 harg7 arg11 harg11 arg14 harg14 arg19 harg19 arg20 harg20 v0 12 0 (by omega) (shapeCast S32x128 v110 shapeCasts_S32x128_S32x128)
  dxHalf i arg17 harg17 arg18 harg18 arg19 harg19 0
  let a24 ← rowBlocks i arg3 harg3 arg4 harg4 arg5 harg5 arg6 harg6 arg7 harg7 arg11 harg11 arg14 harg14 arg19 harg19 arg20 harg20 v0 12 12 (by omega) a12
  dxHalf i arg17 harg17 arg18 harg18 arg19 harg19 1
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) a24 Finset.univ (View.stores_vmem_bits_univ h_S32x128 rfl) (.inl rfl))
  dwTile i arg8 harg8 arg12 harg12 arg20 harg20
  (if k0_h3 : k0_cond3 i = 1#1 then do
    Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec v0) k0_h3)
    pure ⟨⟩
  else pure ⟨⟩)

theorem dite_bind {p : Prop} [Decidable p] {β : Type} (a : p → Prog (TpuEff nD τ sig (Elt F) Λ₀ .tc) PUnit)
    (k : PUnit → Prog (TpuEff nD τ sig (Elt F) Λ₀ .tc) β) : (if h : p then a h >>= k else k ⟨⟩) = ((if h : p then a h else pure ⟨⟩) >>= k) := by
  by_cases h : p
  · rw [dif_pos h, dif_pos h]
  · rw [dif_neg h, dif_neg h]; rfl

theorem bodyS_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    bodyS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold bodyS bodyB
  refine congrArg (Bind.bind _) (funext fun v0 => ?_)
  refine (dite_bind _ _).trans (congrArg (Bind.bind _) (funext fun _ => ?_))
  refine (dite_bind _ _).trans (congrArg (Bind.bind _) (funext fun _ => ?_))
  refine congrArg (Bind.bind _) (funext fun v110 => ?_)
  refine congrArg (Bind.bind _) (funext fun a12 => ?_)
  refine congrArg (Bind.bind _) (funext fun _ => ?_)
  refine congrArg (Bind.bind _) (funext fun a24 => ?_)
  refine congrArg (Bind.bind _) (funext fun _ => ?_)
  refine congrArg (Bind.bind _) (funext fun _ => ?_)
  refine congrArg (Bind.bind _) (funext fun _ => ?_)
  refine congrArg (Bind.bind _) (funext fun _ => ?_)
  rfl

/-- The test for a vocabulary tile's first grid point. -/
abbrev first1 (i : grid0.Coords) : Prop := Scalar.cmpi .ne (Scalar.extui (Scalar.cmpi .eq (BitVec.ofNat 32 (i 1).val) 0#32)) 0#32 = 1#1

theorem wp_initC (c : Dev nD) (i : grid0.Coords) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) (A : Vec F S4608x128 .f32) (M : Vec F S32x128 .f32) (S : Vec F S1x1 .f32) (X : Vec F S4608x1536 .f32)
    (Q : PUnit → sProp 𝕄) :
    iprop(owns (c : Thread nD τ) arg14 fullShare (A)
        ∗ owns (c : Thread nD τ) arg15 fullShare (M)
        ∗ owns (c : Thread nD τ) arg16 fullShare (S)
        ∗ owns (c : Thread nD τ) arg17 fullShare (X)
        ∗ (iprop(owns (c : Thread nD τ) arg14 fullShare (if k0_cond1 i = 1#1 then zeroA else A)
        ∗ owns (c : Thread nD τ) arg15 fullShare (if k0_cond1 i = 1#1 then zeroM else M)
        ∗ owns (c : Thread nD τ) arg16 fullShare (if k0_cond1 i = 1#1 then sc else S)
        ∗ owns (c : Thread nD τ) arg17 fullShare (if k0_cond1 i = 1#1 then zeroX else X)) -∗ Q ⟨⟩))
      ⊢ wp frame (wpE (defs₀ (F := F)) Variants.none (c : Thread nD τ) none) Set.univ (if k0_h1 : k0_cond1 i = 1#1 then initBufs arg14 harg14 arg15 harg15 arg16 harg16 arg17 harg17 sc else pure ⟨⟩) Q := by
  by_cases h : k0_cond1 i = 1#1
  · simp only [if_pos h, dif_pos h]
    exact wp_initBufs c arg14 harg14 arg15 harg15 arg16 harg16 arg17 harg17 sc A M S X Q
  · simp only [if_neg h, dif_neg h]
    iintro ⟨H14, H15, H16, H17, Hk⟩
    iapply (le_wp_ret _ _ _ _ _)
    iapply Hk
    isplitl [H14]; · iexact H14
    isplitl [H15]; · iexact H15
    isplitl [H16]; · iexact H16
    iexact H17

theorem wp_weightC (c : Dev nD) (i : grid0.Coords) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) (w : Vec F S512x1536 .fp8e4m3) (ws : Vec F S512x1 .f32) (W : Vec F S512x1536 .bf16)
    (Q : PUnit → sProp 𝕄) :
    iprop(owns (c : Thread nD τ) arg9 fullShare (w)
        ∗ owns (c : Thread nD τ) arg10 fullShare (ws)
        ∗ owns (c : Thread nD τ) arg18 fullShare (W)
        ∗ (iprop(owns (c : Thread nD τ) arg9 fullShare (w)
        ∗ owns (c : Thread nD τ) arg10 fullShare (ws)
        ∗ owns (c : Thread nD τ) arg18 fullShare (if first1 i then wqNext i w ws else W)) -∗ Q ⟨⟩))
      ⊢ wp frame (wpE (defs₀ (F := F)) Variants.none (c : Thread nD τ) none) Set.univ (if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩) Q := by
  by_cases h : first1 i
  · simp only [if_pos h, dif_pos h]
    exact wp_weightTile c i arg9 harg9 arg10 harg10 arg18 harg18 w ws W Q
  · simp only [if_neg h, dif_neg h]
    iintro ⟨H9, H10, H18, Hk⟩
    iapply (le_wp_ret _ _ _ _ _)
    iapply Hk
    isplitl [H9]; · iexact H9
    isplitl [H10]; · iexact H10
    iexact H18

theorem wp_loopC (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32)
    (X : Vec F S4608x1536 .f32) (W : Vec F S512x1536 .bf16) (P : Vec F S4608x1536 .bf16) (Q : PUnit → sProp 𝕄) :
    iprop(owns (c : Thread nD τ) arg17 fullShare X ∗ owns (c : Thread nD τ) arg18 fullShare W ∗ hbmAt c arg13 P ∗ semVal ((c : Thread nD τ), SemLoc.dma arg21.sem) 0 ∗ (∃ W, owes (c : Thread nD τ) 0 W)
        ∗ (iprop(owns (c : Thread nD τ) arg17 fullShare X ∗ (∃ Y, ⌜¬ k0_cond3 i = 1#1 → Y = W⌝ ∗ owns (c : Thread nD τ) arg18 fullShare Y)
            ∗ hbmAt c arg13 (if k0_cond3 i = 1#1 then dxOut v73 X else P) ∗ semVal ((c : Thread nD τ), SemLoc.dma arg21.sem) 0 ∗ (∃ W, owes (c : Thread nD τ) 0 W)) -∗ Q ⟨⟩))
      ⊢ wp frame (wpE (defs₀ (F := F)) Variants.none (c : Thread nD τ) none) Set.univ (if k0_h3 : k0_cond3 i = 1#1 then do
            Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)
            pure ⟨⟩
          else pure ⟨⟩) Q := by
  by_cases h : k0_cond3 i = 1#1
  · simp only [if_pos h, dif_pos h]
    iintro ⟨H17, H18, H13, HC, HO, Hk⟩
    rw [wp_bind]
    iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 h X P)
    isplitl [H17]; · iexact H17
    isplitl [H18]; · iexists W; iexact H18
    isplitl [H13]; · iexact H13
    isplitl [HC]; · iexact HC
    isplitl [HO]; · iexact HO
    iintro ⟨H17, ⟨%Y, H18⟩, H13, HC, HO⟩
    iapply (le_wp_ret _ _ _ _ _)
    iapply Hk
    isplitl [H17]; · iexact H17
    isplitl [H18]
    · iexists Y; isplitr
      · ipureintro; exact fun hn => absurd h hn
      iexact H18
    isplitl [H13]; · iexact H13
    isplitl [HC]; · iexact HC
    iexact HO
  · simp only [if_neg h, dif_neg h]
    iintro ⟨H17, H18, H13, HC, HO, Hk⟩
    iapply (le_wp_ret _ _ _ _ _)
    iapply Hk
    isplitl [H17]; · iexact H17
    isplitl [H18]
    · iexists W; isplitr
      · ipureintro; exact fun _ => rfl
      iexact H18
    isplitl [H13]; · iexact H13
    isplitl [HC]; · iexact HC
    iexact HO

theorem rH_done (j : S384x512.Idx) : (rH 0).emb j ∈ doneT 12 0 := by
  have hj : (j 0).val < 384 := (j 0).isLt
  refine Or.inl ?_
  show 384 * 0 + 1 * (j 0).val < 32 * 12
  omega

theorem dxStep_mix (i : grid0.Coords) (G Y : Vec F S768x512 .bf16) (W : Vec F S512x1536 .bf16) (X : Vec F S4608x1536 .f32) :
    dxStep i 0 (mix (doneT 12 0) G Y) W X = dxStep i 0 G W X := by
  unfold dxStep dxP
  exact congrArg (fun g : Vec F S384x512 .bf16 => put (rX i 0) X (shapeCast S384x1536 (addf (fun j => X ((rX i 0).emb j)) (matmul dot_S384x512_S512x1536_S384x1536_1_0_0_1_n_n none g W (constant S384x1536 .f32 0x00000000#32))) shapeCasts_S384x1536_S384x1536))
    (funext fun j => mix_mem _ _ _ _ (rH_done j))

/-! ## The state after a grid point -/

/-- The label logits, the largest gradients, the scale, the activations' gradient, the tile's weights after the point. -/
def nA (T : Tile F) (i : grid0.Coords) (A : Vec F S4608x128 .f32) : Vec F S4608x128 .f32 := llNext T i (if k0_cond1 i = 1#1 then zeroA else A)
def nM (T : Tile F) (i : grid0.Coords) (M : Vec F S32x128 .f32) : Vec F S32x128 .f32 :=
  amaxRun T i 12 12 (by omega) (amaxRun T i 12 0 (by omega) (shapeCast S32x128 (if k0_cond1 i = 1#1 then zeroM else M) shapeCasts_S32x128_S32x128))
def nS (T : Tile F) (i : grid0.Coords) (S : Vec F S1x1 .f32) : Vec F S1x1 .f32 := if k0_cond1 i = 1#1 then scaleVec T.v0 else S
def nW (i : grid0.Coords) (w : Vec F S512x1536 .fp8e4m3) (ws : Vec F S512x1 .f32) (W : Vec F S512x1536 .bf16) : Vec F S512x1536 .bf16 :=
  if first1 i then wqNext i w ws else W
def nX (T : Tile F) (i : grid0.Coords) (W : Vec F S512x1536 .bf16) (X : Vec F S4608x1536 .f32) : Vec F S4608x1536 .f32 :=
  dxStep i 1 (tileOf (deqP T i)) W (dxStep i 0 (tileOf (deqP T i)) W (if k0_cond1 i = 1#1 then zeroX else X))

theorem wp_bodyS (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (T : Tile F) (H : Vec F S4608x1536 .fp8e4m3)
    (w : Vec F S512x1536 .fp8e4m3) (ws : Vec F S512x1 .f32) (Y11 : Vec F S768x512 .fp8e5m2) (D : Vec F S512x1536 .f32) (P : Vec F S4608x1536 .bf16)
    (A : Vec F S4608x128 .f32) (M : Vec F S32x128 .f32) (S : Vec F S1x1 .f32) (X : Vec F S4608x1536 .f32) (W : Vec F S512x1536 .bf16) (Y19 Y20 : Vec F S768x512 .bf16)
    (Q : PUnit → sProp 𝕄) :
    iprop(owns (c : Thread nD τ) arg2 fullShare (T.v0)
        ∗ owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg8 fullShare (H)
        ∗ owns (c : Thread nD τ) arg9 fullShare (w)
        ∗ owns (c : Thread nD τ) arg10 fullShare (ws)
        ∗ owns (c : Thread nD τ) arg11 fullShare (Y11)
        ∗ owns (c : Thread nD τ) arg12 fullShare (D)
        ∗ hbmAt c arg13 P
        ∗ owns (c : Thread nD τ) arg14 fullShare (A)
        ∗ owns (c : Thread nD τ) arg15 fullShare (M)
        ∗ owns (c : Thread nD τ) arg16 fullShare (S)
        ∗ owns (c : Thread nD τ) arg17 fullShare (X)
        ∗ owns (c : Thread nD τ) arg18 fullShare (W)
        ∗ owns (c : Thread nD τ) arg19 fullShare (Y19)
        ∗ owns (c : Thread nD τ) arg20 fullShare (Y20)
        ∗ semVal ((c : Thread nD τ), SemLoc.dma arg21.sem) 0
        ∗ (∃ W, owes (c : Thread nD τ) 0 W)
        ∗ (iprop(owns (c : Thread nD τ) arg2 fullShare (T.v0)
        ∗ owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg8 fullShare (H)
        ∗ owns (c : Thread nD τ) arg9 fullShare (w)
        ∗ owns (c : Thread nD τ) arg10 fullShare (ws)
        ∗ owns (c : Thread nD τ) arg11 fullShare (tileOf (codeP T i))
        ∗ owns (c : Thread nD τ) arg12 fullShare (dwNext i (tileOf (wgtP T i)) H D)
        ∗ hbmAt c arg13 (if k0_cond3 i = 1#1 then dxOut (scaleVec T.v0) (nX T i (nW i w ws W) X) else P)
        ∗ owns (c : Thread nD τ) arg14 fullShare (nA T i A)
        ∗ owns (c : Thread nD τ) arg15 fullShare (nM T i M)
        ∗ owns (c : Thread nD τ) arg16 fullShare (nS T i S)
        ∗ owns (c : Thread nD τ) arg17 fullShare (nX T i (nW i w ws W) X)
        ∗ (∃ Y, ⌜¬ k0_cond3 i = 1#1 → Y = nW i w ws W⌝ ∗ owns (c : Thread nD τ) arg18 fullShare Y)
        ∗ owns (c : Thread nD τ) arg19 fullShare (tileOf (deqP T i))
        ∗ owns (c : Thread nD τ) arg20 fullShare (tileOf (wgtP T i))
        ∗ semVal ((c : Thread nD τ), SemLoc.dma arg21.sem) 0
        ∗ (∃ W, owes (c : Thread nD τ) 0 W)) -∗ Q ⟨⟩))
      ⊢ wp frame (wpE (defs₀ (F := F)) Variants.none (c : Thread nD τ) none) Set.univ (bodyS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) Q := by
  rw [bodyS_eq]
  unfold bodyB
  iintro ⟨H2, H3, H4, H5, H6, H7, H8, H9, H10, H11, H12, H13, H14, H15, H16, H17, H18, H19, H20, HC, HO, Hk⟩
  iapply (wp_load_full Variants.none (c : Thread nD τ) none Set.univ off2_zero) $$ H2
  iintro H2
  rw [Prog.bind, wp_bind]
  iapply (wp_initC c i arg14 harg14 arg15 harg15 arg16 harg16 arg17 harg17 (scaleVec T.v0) A M S X)
  isplitl [H14]; · iexact H14
  isplitl [H15]; · iexact H15
  isplitl [H16]; · iexact H16
  isplitl [H17]; · iexact H17
  iintro ⟨H14, H15, H16, H17⟩
  rw [wp_bind]
  iapply (wp_weightC c i arg9 harg9 arg10 harg10 arg18 harg18 w ws W)
  isplitl [H9]; · iexact H9
  isplitl [H10]; · iexact H10
  isplitl [H18]; · iexact H18
  iintro ⟨H9, H10, H18⟩
  iapply (wp_load_full Variants.none (c : Thread nD τ) none Set.univ off2_zero) $$ H15
  iintro H15
  rw [Prog.bind, wp_bind]
  iapply (wp_rowBlocks c i arg3 harg3 arg4 harg4 arg5 harg5 arg6 harg6 arg7 harg7 arg11 harg11 arg14 harg14 arg19 harg19 arg20 harg20 T (if k0_cond1 i = 1#1 then zeroA else A) Y11 Y19 Y20)
  rw [doneA_zero, doneT_zero, mix_empty, mix_empty, mix_empty, mix_empty]
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  isplitl [H20]; · iexact H20
  iintro ⟨H3, H4, H5, H6, H7, H14, H11, H19, H20⟩
  rw [wp_bind]
  iapply (wp_dxHalf c i arg17 harg17 arg18 harg18 arg19 harg19 0)
  isplitl [H17]; · iexact H17
  isplitl [H18]; · iexact H18
  isplitl [H19]; · iexact H19
  iintro ⟨H17, H18, H19⟩
  rw [dxStep_mix, wp_bind]
  iapply (wp_rowBlocks c i arg3 harg3 arg4 harg4 arg5 harg5 arg6 harg6 arg7 harg7 arg11 harg11 arg14 harg14 arg19 harg19 arg20 harg20 T (if k0_cond1 i = 1#1 then zeroA else A) Y11 Y19 Y20)
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  isplitl [H20]; · iexact H20
  rw [doneA_all, mix_univ (doneT (12 + 12) 0) _ _ doneT_all, mix_univ (doneT (12 + 12) 0) _ _ doneT_all, mix_univ (doneT (12 + 12) 0) _ _ doneT_all]
  iintro ⟨H3, H4, H5, H6, H7, H14, H11, H19, H20⟩
  rw [wp_bind]
  iapply (wp_dxHalf c i arg17 harg17 arg18 harg18 arg19 harg19 1)
  isplitl [H17]; · iexact H17
  isplitl [H18]; · iexact H18
  isplitl [H19]; · iexact H19
  iintro ⟨H17, H18, H19⟩
  iapply (wp_load_full Variants.none (c : Thread nD τ) none Set.univ off2_zero) $$ H15
  iintro H15
  iapply (wp_store_full Variants.none (c : Thread nD τ) none Set.univ off2_zero) $$ H15
  iintro H15
  rw [Prog.bind, wp_bind]
  iapply (wp_dwTile c i arg8 harg8 arg12 harg12 arg20 harg20 H D (tileOf (wgtP T i)))
  isplitl [H8]; · iexact H8
  isplitl [H12]; · iexact H12
  isplitl [H20]; · iexact H20
  iintro ⟨H8, H12, H20⟩
  iapply (wp_loopC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec T.v0) (nX T i (nW i w ws W) X) (nW i w ws W) P)
  isplitl [H17]; · iexact H17
  isplitl [H18]; · iexact H18
  isplitl [H13]; · iexact H13
  isplitl [HC]; · iexact HC
  isplitl [HO]; · iexact HO
  iintro ⟨H17, H18, H13, HC, HO⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HC]; · iexact HC
  iexact HO

end Cert.Kernel.Hand

end
-- ==== Proof.Hand.StateP.lean ====
/- What the `grad` body computes at a grid point, buffer by buffer, and the run of the structured body (`bodyS`) to it.
   A buffer rewritten a rectangle at a time is `mix`ed part of the way. -/
module

public import proofs.«01_k».proof.Proof.Hand.BodyP
public import proofs.«01_k».proof.Proof.Hand.Rules
public import proofs.«01_k».proof.Proof.Hand.LoopP
public import proofs.«01_k».proof.Proof.Gen.Kernel.Frame
public import Idealize.ShloMosaic.Lib.Pipeline.Value
public import Idealize.ShloMosaic.Lib.Pointwise.Index
public import Idealize.ShloMosaic.Lib.Pipeline.FrameBody
public import Idealize.ShloMosaic.Lib.Tactic

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-! ## The grid points -/

theorem coords_0 (t : Fin cfg0.N) : (grid0.coords t 0).val = t.val / 6 := by
  have ht : t.val < 594 := Nat.lt_of_lt_of_eq t.isLt N_0
  show t.val / grid0.stride 0 % 99 = _
  rw [show grid0.stride 0 = 6 by decide]
  omega
theorem coords_1 (t : Fin cfg0.N) : (grid0.coords t 1).val = t.val % 6 := by
  show t.val / grid0.stride 1 % 6 = _
  rw [show grid0.stride 1 = 1 by decide, Nat.div_one]

theorem cond1_val : ∀ (a : Fin 99) (b : Fin 6), (Scalar.andi (Scalar.cmpi .eq (BitVec.ofNat 32 a.val) 0#32) (Scalar.cmpi .eq (BitVec.ofNat 32 b.val) 0#32) = 1#1) ↔ (a.val = 0 ∧ b.val = 0) := by
  decide
theorem cond3_val : ∀ (a : Fin 99) (b : Fin 6), (Scalar.andi (Scalar.cmpi .eq (BitVec.ofNat 32 a.val) 98#32) (Scalar.cmpi .eq (BitVec.ofNat 32 b.val) 5#32) = 1#1) ↔ (a.val = 98 ∧ b.val = 5) := by
  decide
theorem bit_conv : ∀ x : BitVec 1, (Scalar.cmpi .ne (Scalar.extui x) 0#32 = 1#1) ↔ x = 1#1 := by decide
theorem cmp0_val : ∀ b : Fin 6, (Scalar.cmpi .eq (BitVec.ofNat 32 b.val) 0#32 = 1#1) ↔ b.val = 0 := by decide

theorem cond1_iff (t : Fin cfg0.N) : k0_cond1 (grid0.coords t) = 1#1 ↔ t.val = 0 := by
  have h : k0_cond1 (grid0.coords t) = 1#1 ↔ ((grid0.coords t 0).val = 0 ∧ (grid0.coords t 1).val = 0) := (bit_conv _).trans (cond1_val (grid0.coords t 0) (grid0.coords t 1))
  rw [h, coords_0, coords_1]
  exact ⟨fun h => by omega, fun h => by omega⟩
theorem cond3_iff (t : Fin cfg0.N) : k0_cond3 (grid0.coords t) = 1#1 ↔ t.val = 593 := by
  have ht : t.val < 594 := Nat.lt_of_lt_of_eq t.isLt N_0
  have h : k0_cond3 (grid0.coords t) = 1#1 ↔ ((grid0.coords t 0).val = 98 ∧ (grid0.coords t 1).val = 5) := (bit_conv _).trans (cond3_val (grid0.coords t 0) (grid0.coords t 1))
  rw [h, coords_0, coords_1]
  exact ⟨fun h => by omega, fun h => by omega⟩
theorem cmp0_iff (t : Fin cfg0.N) : Scalar.cmpi .eq (BitVec.ofNat 32 (grid0.coords t 1).val) 0#32 = 1#1 ↔ t.val % 6 = 0 := by
  rw [← coords_1]; exact cmp0_val (grid0.coords t 1)
theorem first1_iff (t : Fin cfg0.N) : first1 (grid0.coords t) ↔ t.val % 6 = 0 :=
  Iff.trans (bit_conv _) (cmp0_iff t)

/-! ## What a point reads -/

/-- The point's inputs that are not weights. -/
def tileAt (c : Dev nD) (t : Fin cfg0.N) : Tile F where
  v0 := iblk m c 0 t
  lg := iblk m c 1 t
  mx := iblk m c 2 t
  ri := iblk m c 3 t
  lab := iblk m c 4 t
  hs := iblk m c 5 t

/-- The hidden codes. -/
def hidAt (c : Dev nD) (t : Fin cfg0.N) : Vec F S4608x1536 .fp8e4m3 := iblk m c 6 t

/-- The tile's weight codes and scales, zero past the vocabulary's end. -/
def wAt (c : Dev nD) (t : Fin cfg0.N) : Vec F S512x1536 .fp8e4m3 := win0_7.fill (grid0.coords t) (fun _ => Scalar.ofBits .fp8e4m3 0#8) (iblk m c 7 t)
def wsAt (c : Dev nD) (t : Fin cfg0.N) : Vec F S512x1 .f32 := win0_8.fill (grid0.coords t) (fun _ => Scalar.ofBits .f32 0#32) (iblk m c 8 t)

/-- The accumulators. -/
structure St (F : FTy → Type) [FloatOps F] where
  A : Vec F S4608x128 .f32
  M : Vec F S32x128 .f32
  S : Vec F S1x1 .f32
  X : Vec F S4608x1536 .f32
  W : Vec F S512x1536 .bf16
  D : Vec F S512x1536 .f32

/-- One point. -/
def step (c : Dev nD) (t : Fin cfg0.N) (s : St F) : St F where
  A := nA (tileAt m c t) (grid0.coords t) s.A
  M := nM (tileAt m c t) (grid0.coords t) s.M
  S := nS (tileAt m c t) (grid0.coords t) s.S
  W := nW (grid0.coords t) (wAt m c t) (wsAt m c t) s.W
  X := nX (tileAt m c t) (grid0.coords t) (nW (grid0.coords t) (wAt m c t) (wsAt m c t) s.W) s.X
  D := dwNext (grid0.coords t) (tileOf (wgtP (tileAt m c t) (grid0.coords t))) (hidAt m c t) s.D

/-- The accumulators before point `n`. -/
def st (c : Dev nD) : ℕ → St F
  | 0 => ⟨zeroA, zeroM, broadcast S1x1 (Scalar.ofBits .f32 0#32), zeroX, broadcast S512x1536 (Scalar.ofBits .bf16 0#16), broadcast S512x1536 (Scalar.ofBits .f32 0#32)⟩
  | n + 1 => if h : n < cfg0.N then step m c ⟨n, h⟩ (st c n) else st c n

theorem st_succ (c : Dev nD) (t : Fin cfg0.N) : st m c (t.val + 1) = step m c t (st m c t.val) := by
  show (if h : t.val < cfg0.N then step m c ⟨t.val, h⟩ (st m c t.val) else _) = _
  rw [dif_pos t.isLt]

/-- The first point reads no accumulator. -/
theorem nA_at (T : Tile F) (t : Fin cfg0.N) {A A' : Vec F S4608x128 .f32} (h : t.val ≠ 0 → A = A') : nA T (grid0.coords t) A = nA T (grid0.coords t) A' := by
  by_cases h0 : t.val = 0
  · unfold nA; rw [if_pos ((cond1_iff t).mpr h0), if_pos ((cond1_iff t).mpr h0)]
  · rw [h h0]
theorem nM_at (T : Tile F) (t : Fin cfg0.N) {A A' : Vec F S32x128 .f32} (h : t.val ≠ 0 → A = A') : nM T (grid0.coords t) A = nM T (grid0.coords t) A' := by
  by_cases h0 : t.val = 0
  · unfold nM; rw [if_pos ((cond1_iff t).mpr h0), if_pos ((cond1_iff t).mpr h0)]
  · rw [h h0]
theorem nS_at (T : Tile F) (t : Fin cfg0.N) {A A' : Vec F S1x1 .f32} (h : t.val ≠ 0 → A = A') : nS T (grid0.coords t) A = nS T (grid0.coords t) A' := by
  by_cases h0 : t.val = 0
  · unfold nS; rw [if_pos ((cond1_iff t).mpr h0), if_pos ((cond1_iff t).mpr h0)]
  · rw [h h0]
theorem nX_at (T : Tile F) (t : Fin cfg0.N) (W : Vec F S512x1536 .bf16) {A A' : Vec F S4608x1536 .f32} (h : t.val ≠ 0 → A = A') : nX T (grid0.coords t) W A = nX T (grid0.coords t) W A' := by
  by_cases h0 : t.val = 0
  · unfold nX; rw [if_pos ((cond1_iff t).mpr h0), if_pos ((cond1_iff t).mpr h0)]
  · rw [h h0]

/-- The rows a window of the vocabulary moves. -/
theorem extent_lt (a : ℕ) (ha : a < 99) (r : ℕ) (hr : r < 512) (h : 512 * a + r < 50304) :
    r < (Pipeline.Clip.of a 512 50304).extent 512 := by
  unfold Pipeline.Clip.of
  split
  · exact hr
  · show r < 50304 - a * 512
    omega
theorem extent_full (a d r : ℕ) (h : (a + 1) * d ≤ d) (hr : r < d) : r < (Pipeline.Clip.of a d d).extent d := by
  unfold Pipeline.Clip.of
  rw [if_pos h]; exact hr
theorem ofNat_val (t : Fin cfg0.N) : (BitVec.ofNat 32 (grid0.coords t 0).val).toNat = t.val / 6 := by
  have ht : t.val < 594 := Nat.lt_of_lt_of_eq t.isLt N_0
  rw [coords_0, BitVec.toNat_ofNat]; omega

/-- Rows inside the array are moved. -/
theorem moved7 (t : Fin cfg0.N) (j : S512x1536.Idx) (h : 512 * (t.val / 6) + (j 0).val < 50304) : win0_7.moved (grid0.coords t) j = true := by
  have ht : t.val < 594 := Nat.lt_of_lt_of_eq t.isLt N_0
  refine (win0_7.moved_iff _ j).mpr fun a => ?_
  match a with
  | ⟨0, _⟩ =>
    show (j 0).val < (Pipeline.Clip.of (BitVec.ofNat 32 (grid0.coords t 0).val).toNat 512 50304).extent 512
    rw [ofNat_val]; exact extent_lt _ (by omega) _ (j 0).isLt h
  | ⟨1, _⟩ => exact extent_full 0 1536 (j 1).val (by omega) (j 1).isLt
theorem moved8 (t : Fin cfg0.N) (j : S512x1.Idx) (h : 512 * (t.val / 6) + (j 0).val < 50304) : win0_8.moved (grid0.coords t) j = true := by
  have ht : t.val < 594 := Nat.lt_of_lt_of_eq t.isLt N_0
  refine (win0_8.moved_iff _ j).mpr fun a => ?_
  match a with
  | ⟨0, _⟩ =>
    show (j 0).val < (Pipeline.Clip.of (BitVec.ofNat 32 (grid0.coords t 0).val).toNat 512 50304).extent 512
    rw [ofNat_val]; exact extent_lt _ (by omega) _ (j 0).isLt h
  | ⟨1, _⟩ => exact extent_full 0 1 (j 1).val (by omega) (j 1).isLt

theorem fill_moved {w : Window sig grid0} {α : Type} (i : grid0.Coords) (d d' : w.block.Idx → α) (g : (w.xblock i).Idx → α) (j : w.block.Idx)
    (h : w.moved i j = true) : w.fill i d g j = w.fill i d' g j := by
  unfold Window.fill; rw [dif_pos h, dif_pos h]

theorem mask_sub : ∀ a : Fin 99, Scalar.subi 50304#32 (Scalar.muli (BitVec.ofNat 32 a.val) 512#32) = BitVec.ofNat 32 (50304 - 512 * a.val) := by decide
theorem mask_val (a : Fin 99) (r : Fin 512) : (IntOp.cmpi .slt (BitVec.ofNat 32 r.val) (Scalar.subi 50304#32 (Scalar.muli (BitVec.ofNat 32 a.val) 512#32)) = 1#1) ↔ (512 * a.val + r.val < 50304) := by
  have ha := a.isLt
  have hr := r.isLt
  rw [mask_sub, WordCmp.cmpi_slt_ofNat (by omega) (by omega)]
  by_cases h : r.val < 50304 - 512 * a.val
  · rw [decide_eq_true h]; exact ⟨fun _ => by omega, fun _ => rfl⟩
  · rw [decide_eq_false h]; exact ⟨fun h' => absurd h' (by decide), fun h' => by omega⟩

/-- The scale's place for a weight. -/
def rowOf (j : S512x1536.Idx) : S512x1.Idx := ix2 (j 0 : Fin 512) (0 : Fin 1)
theorem broadcast_row {α : Type} (x : S512x1.Idx → α) (j : S512x1536.Idx) : broadcastTo S512x1536 x broadcasts_S512x1_S512x1536 j = x (rowOf j) :=
  broadcastTo_apply _ _ j (rowOf j) (by intro a; fin_cases a <;> rfl)

/-- A stored weight. -/
theorem weightVec_apply (b : BitVec 32) (w : Vec F S512x1536 .fp8e4m3) (ws : Vec F S512x1 .f32) (j : S512x1536.Idx) :
    weightVec (F := F) b w ws j
      = if IntOp.cmpi .slt (BitVec.ofNat 32 (j 0).val) (Scalar.subi 50304#32 (Scalar.muli b 512#32)) = 1#1 then
          FloatOps.mulf (FloatOps.extf .bf16 bitsLt_fp8e4m3_bf16 (w j)) (FloatOps.truncf .bf16 bitsLt_bf16_f32 (ws (rowOf j)))
        else Scalar.ofBits .bf16 0x0000#16 := by
  unfold weightVec
  rw [shapeCast_self]
  unfold select
  rw [show cmpi .slt (iota .tc S512x1536 32 [0] iota_S512x1536_d0_w32) (broadcast S512x1536 (Scalar.subi 50304#32 (Scalar.muli b 512#32))) j
      = IntOp.cmpi .slt (iota .tc S512x1536 32 [0] iota_S512x1536_d0_w32 j) (Scalar.subi 50304#32 (Scalar.muli b 512#32)) from rfl,
    iota_single_apply]
  unfold mulf Scalar.select
  rw [broadcast_row]
  rfl

/-- The weights as stored do not depend on what lies past the vocabulary's end. -/
theorem wqNext_fill (t : Fin cfg0.N) (d7 d7' : Vec F S512x1536 .fp8e4m3) (d8 d8' : Vec F S512x1 .f32) (g7 : (win0_7.xblock (grid0.coords t)).Idx → Elt F .fp8e4m3)
    (g8 : (win0_8.xblock (grid0.coords t)).Idx → Elt F .f32) :
    wqNext (grid0.coords t) (win0_7.fill (grid0.coords t) d7 g7) (win0_8.fill (grid0.coords t) d8 g8)
      = wqNext (grid0.coords t) (win0_7.fill (grid0.coords t) d7' g7) (win0_8.fill (grid0.coords t) d8' g8) := by
  unfold wqNext
  refine congrArg (fun v => shapeCast S512x1536 v shapeCasts_S512x1536_S512x1536) (funext fun j => ?_)
  rw [weightVec_apply, weightVec_apply]
  have hm := mask_val (grid0.coords t 0) (j 0)
  by_cases hc : IntOp.cmpi .slt (BitVec.ofNat 32 (j 0).val) (Scalar.subi 50304#32 (Scalar.muli (BitVec.ofNat 32 (grid0.coords t 0).val) 512#32)) = 1#1
  · rw [if_pos hc, if_pos hc]
    have h := hm.mp hc
    rw [coords_0] at h
    have h7 := fill_moved (w := win0_7) (grid0.coords t) d7 d7' g7 j (moved7 t j h)
    have h8 := fill_moved (w := win0_8) (grid0.coords t) d8 d8' g8 (rowOf j) (moved8 t _ h)
    rw [h7, h8]
  · rw [if_neg hc, if_neg hc]

end Cert.Kernel.Hand

end
-- ==== Proof.Hand.FrameP.lean ====
/- What the `grad` body computes at a grid point, buffer by buffer, and the run of the structured body (`bodyS`) to it.
   A buffer rewritten a rectangle at a time is `mix`ed part of the way. -/
module

public import proofs.«01_k».proof.Proof.Hand.BodyP
public import proofs.«01_k».proof.Proof.Hand.Rules
public import proofs.«01_k».proof.Proof.Hand.StateP
public import Idealize.ShloMosaic.Lib.Pipeline.FrameSuffixV
public import Idealize.ShloMosaic.Lib.Pipeline.FrameBody
public import Idealize.ShloMosaic.Lib.Tactic

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

attribute [local irreducible] st

/-! ## The blocks of one vocabulary tile -/

theorem coords_prev (t : Fin cfg0.N) (h : t.val % 6 ≠ 0) (hp : t.val - 1 < cfg0.N) : grid0.coords ⟨t.val - 1, hp⟩ 0 = grid0.coords t 0 :=
  Fin.ext (by rw [coords_0 ⟨t.val - 1, hp⟩, coords_0]; show (t.val - 1) / 6 = _; omega)

theorem index7 (i i' : grid0.Coords) (h : i 0 = i' 0) : cc0_transform_7 i = cc0_transform_7 i' := by unfold cc0_transform_7; rw [h]
theorem index8 (i i' : grid0.Coords) (h : i 0 = i' 0) : cc0_transform_8 i = cc0_transform_8 i' := by unfold cc0_transform_8; rw [h]
theorem index10 (i i' : grid0.Coords) (h : i 0 = i' 0) : cc0_transform_10 i = cc0_transform_10 i' := by unfold cc0_transform_10; rw [h]
theorem clip7 (i i' : grid0.Coords) (h : i 0 = i' 0) : win0_7.clip i = win0_7.clip i' := by
  funext a; show Pipeline.Clip.of (cc0_transform_7 i a) _ _ = Pipeline.Clip.of (cc0_transform_7 i' a) _ _; rw [index7 i i' h]
theorem clip8 (i i' : grid0.Coords) (h : i 0 = i' 0) : win0_8.clip i = win0_8.clip i' := by
  funext a; show Pipeline.Clip.of (cc0_transform_8 i a) _ _ = Pipeline.Clip.of (cc0_transform_8 i' a) _ _; rw [index8 i i' h]
theorem clip10 (i i' : grid0.Coords) (h : i 0 = i' 0) : win0_10.clip i = win0_10.clip i' := by
  funext a; show Pipeline.Clip.of (cc0_transform_10 i a) _ _ = Pipeline.Clip.of (cc0_transform_10 i' a) _ _; rw [index10 i i' h]
theorem moved10 (i i' : grid0.Coords) (h : i 0 = i' 0) (j : S512x1536.Idx) : win0_10.moved i j = win0_10.moved i' j := by
  unfold Window.moved; rw [clip10 i i' h]

theorem before_7_of {c : Dev nD} (dat : Dat τ (Elt F) Unit ℕ (Pipeline.UD sig nD τ) ℕ cfg0 c) (hA : dat.A 7 = V m c (Pipeline.arrRef spec0 7))
    (hafter : ∀ t, dat.after 7 t = wAt m c t) (t : Fin cfg0.N) (d) : dat.before 7 t d = win0_7.fill (grid0.coords t) d (iblk m c 7 t) := by
  have hf : ∀ t d, dat.fetched 7 t d = win0_7.fill (grid0.coords t) d (iblk m c 7 t) := fun t d => by
    unfold Dat.fetched Dat.blockOf iblk; rw [hA]
  by_cases h : (cfg0.win 7).fetch t = true
  · rw [dat.before_fetched 7 t h, hf]
  · have hn : t.val % 6 ≠ 0 := fun h' => h ((fetch0_7 t).mpr h')
    have hp : t.val - 1 < cfg0.N := Nat.lt_of_le_of_lt (Nat.sub_le _ _) t.isLt
    rw [dat.before_unfetched_in 7 rfl t (Bool.eq_false_iff.mpr h) (fun _ => rfl)]
    refine Eq.trans ?_ ((dat.fetched_congr 7 (t := ⟨t.val - 1, hp⟩) (t' := t) (index7 _ _ (coords_prev t hn hp)) (clip7 _ _ (coords_prev t hn hp)) d).trans (hf t d))
    rw [hf]
    show win0_7.fill (grid0.coords ⟨t.val - 1, hp⟩) d (win0_7.cut (grid0.coords ⟨t.val - 1, hp⟩) (dat.after 7 ⟨t.val - 1, hp⟩)) = _
    rw [hafter]
    exact congrArg (win0_7.fill _ d) (win0_7.cut_fill _ _ _)
theorem before_8_of {c : Dev nD} (dat : Dat τ (Elt F) Unit ℕ (Pipeline.UD sig nD τ) ℕ cfg0 c) (hA : dat.A 8 = V m c (Pipeline.arrRef spec0 8))
    (hafter : ∀ t, dat.after 8 t = wsAt m c t) (t : Fin cfg0.N) (d) : dat.before 8 t d = win0_8.fill (grid0.coords t) d (iblk m c 8 t) := by
  have hf : ∀ t d, dat.fetched 8 t d = win0_8.fill (grid0.coords t) d (iblk m c 8 t) := fun t d => by
    unfold Dat.fetched Dat.blockOf iblk; rw [hA]
  by_cases h : (cfg0.win 8).fetch t = true
  · rw [dat.before_fetched 8 t h, hf]
  · have hn : t.val % 6 ≠ 0 := fun h' => h ((fetch0_8 t).mpr h')
    have hp : t.val - 1 < cfg0.N := Nat.lt_of_le_of_lt (Nat.sub_le _ _) t.isLt
    rw [dat.before_unfetched_in 8 rfl t (Bool.eq_false_iff.mpr h) (fun _ => rfl)]
    refine Eq.trans ?_ ((dat.fetched_congr 8 (t := ⟨t.val - 1, hp⟩) (t' := t) (index8 _ _ (coords_prev t hn hp)) (clip8 _ _ (coords_prev t hn hp)) d).trans (hf t d))
    rw [hf]
    show win0_8.fill (grid0.coords ⟨t.val - 1, hp⟩) d (win0_8.cut (grid0.coords ⟨t.val - 1, hp⟩) (dat.after 8 ⟨t.val - 1, hp⟩)) = _
    rw [hafter]
    exact congrArg (win0_8.fill _ d) (win0_8.cut_fill _ _ _)

/-- The weights' gradient is pointwise in what its buffer held. -/
theorem dwNext_at (t : Fin cfg0.N) (G : Vec F S768x512 .bf16) (H : Vec F S4608x1536 .fp8e4m3) (D D' : Vec F S512x1536 .f32) (j : S512x1536.Idx)
    (h : t.val % 6 ≠ 0 → D j = D' j) : dwNext (grid0.coords t) G H D j = dwNext (grid0.coords t) G H D' j := by
  unfold dwNext Scalar.select
  by_cases h0 : t.val % 6 = 0
  · rw [if_pos (show _ = (1 : BitVec 1) from (cmp0_iff t).mpr h0), if_pos (show _ = (1 : BitVec 1) from (cmp0_iff t).mpr h0)]
  · rw [if_neg (show ¬ _ = (1 : BitVec 1) from mt (cmp0_iff t).mp h0), if_neg (show ¬ _ = (1 : BitVec 1) from mt (cmp0_iff t).mp h0), shapeCast_self, shapeCast_self]
    unfold addf; rw [h h0]

/-! ## The proof data -/

/-- The activations' gradient the last point leaves. -/
def outX (c : Dev nD) : Vec F S4608x1536 .bf16 := dxOut (scaleVec (tileAt m c ⟨593, Nat.lt_of_lt_of_eq (by omega : 593 < 594) N_0.symm⟩).v0) (st m c 594).X

theorem step_X (c : Dev nD) (t : Fin cfg0.N) (s : St F) :
    (step m c t s).X = nX (tileAt m c t) (grid0.coords t) (nW (grid0.coords t) (wAt m c t) (wsAt m c t) s.W) s.X := by dsimp only [step]
theorem outX_last (c : Dev nD) (t : Fin cfg0.N) (h : t.val = 593) :
    outX m c = dxOut (scaleVec (tileAt m c t).v0) (nX (tileAt m c t) (grid0.coords t) (nW (grid0.coords t) (wAt m c t) (wsAt m c t) (st m c t.val).W) (st m c t.val).X) := by
  obtain ⟨n, hn⟩ := t
  obtain rfl : n = 593 := h
  rw [← step_X, ← st_succ]
  unfold outX
  exact congrArg (fun n => dxOut (scaleVec (tileAt m c ⟨593, hn⟩).v0) (st m c n).X) (show (594 : ℕ) = 593 + 1 from rfl)

/-- The scratch buffers between points. -/
def inv (c : Dev nD) (n : ℕ) : sProp 𝕄 :=
  iprop(∃ X W P, ⌜n ≠ 0 → X = (st m c n).X⌝ ∗ ⌜n ≠ 0 → n ≠ 594 → W = (st m c n).W⌝ ∗ ⌜n = 594 → P = outX m c⌝
    ∗ owns (c : Thread nD τ) (Memref.whole cc0_scratch0) fullShare X ∗ owns (c : Thread nD τ) (Memref.whole cc0_scratch1) fullShare W
    ∗ (∃ Y, owns (c : Thread nD τ) (Memref.whole cc0_scratch2) fullShare Y) ∗ (∃ Y, owns (c : Thread nD τ) (Memref.whole cc0_scratch3) fullShare Y)
    ∗ hbmAt c (Memref.whole main_v13_2) P ∗ semVal ((c : Thread nD τ), SemLoc.dma cc0_scratch4.sem) 0)

/-- The proof data: the arrays as the region finds them, each buffer after the point's body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wAt m c t
    | ⟨8, _⟩ => wsAt m c t
    | ⟨9, _⟩ => tileOf (codeP (tileAt m c t) (grid0.coords t))
    | ⟨10, _⟩ => (st m c (t.val + 1)).D
    | ⟨11, _⟩ => (st m c (t.val + 1)).A
    | ⟨12, _⟩ => (st m c (t.val + 1)).M
    | ⟨13, _⟩ => (st m c (t.val + 1)).S
    | ⟨_ + 14, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = wAt m c t := by dsimp only [dats]
theorem after_8 (c : Dev nD) (t : Fin cfg0.N) : (dats m 0 c).after 8 t = wsAt m c t := by dsimp only [dats]
theorem after_9 (c : Dev nD) (t : Fin cfg0.N) : (dats m 0 c).after 9 t = tileOf (codeP (tileAt m c t) (grid0.coords t)) := by dsimp only [dats]
theorem after_10 (c : Dev nD) (t : Fin cfg0.N) : (dats m 0 c).after 10 t = (st m c (t.val + 1)).D := by dsimp only [dats]
theorem after_11 (c : Dev nD) (t : Fin cfg0.N) : (dats m 0 c).after 11 t = (st m c (t.val + 1)).A := by dsimp only [dats]
theorem after_12 (c : Dev nD) (t : Fin cfg0.N) : (dats m 0 c).after 12 t = (st m c (t.val + 1)).M := by dsimp only [dats]
theorem after_13 (c : Dev nD) (t : Fin cfg0.N) : (dats m 0 c).after 13 t = (st m c (t.val + 1)).S := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = win0_7.fill (grid0.coords t) d (iblk m c 7 t) :=
  before_7_of m (dats m 0 c) (A_eq m c 7) (after_7 m c) t d
theorem before_8 (c : Dev nD) (t : Fin cfg0.N) (d) : (dats m 0 c).before 8 t d = win0_8.fill (grid0.coords t) d (iblk m c 8 t) :=
  before_8_of m (dats m 0 c) (A_eq m c 8) (after_8 m c) t d
theorem before_11 (c : Dev nD) (t : Fin cfg0.N) (d) (h : t.val ≠ 0) : (dats m 0 c).before 11 t d = (st m c t.val).A := by
  have ht : t.val < 594 := Nat.lt_of_lt_of_eq t.isLt N_0
  have hp : t.val - 1 < cfg0.N := Nat.lt_of_le_of_lt (Nat.sub_le _ _) t.isLt
  have hf : ¬ (cfg0.win 11).flush ⟨t.val - 1, hp⟩ = true := fun h' => by
    have := (flush0_11 ⟨t.val - 1, hp⟩).mp h'
    have e : (t.val - 1) % 594 = 593 := this
    omega
  rw [(dats m 0 c).before_of_pos 11 t h ((cfg0.win 11).fetch_out rfl t), if_neg hf]
  show (dats m 0 c).after 11 ⟨t.val - 1, hp⟩ = _
  rw [after_11]
  exact congrArg (fun n => (st m c n).A) (by show t.val - 1 + 1 = t.val; omega)
theorem before_12 (c : Dev nD) (t : Fin cfg0.N) (d) (h : t.val ≠ 0) : (dats m 0 c).before 12 t d = (st m c t.val).M := by
  have ht : t.val < 594 := Nat.lt_of_lt_of_eq t.isLt N_0
  have hp : t.val - 1 < cfg0.N := Nat.lt_of_le_of_lt (Nat.sub_le _ _) t.isLt
  have hf : ¬ (cfg0.win 12).flush ⟨t.val - 1, hp⟩ = true := fun h' => by
    have := (flush0_12 ⟨t.val - 1, hp⟩).mp h'
    have e : (t.val - 1) % 594 = 593 := this
    omega
  rw [(dats m 0 c).before_of_pos 12 t h ((cfg0.win 12).fetch_out rfl t), if_neg hf]
  show (dats m 0 c).after 12 ⟨t.val - 1, hp⟩ = _
  rw [after_12]
  exact congrArg (fun n => (st m c n).M) (by show t.val - 1 + 1 = t.val; omega)
theorem idle_13 (t : Fin cfg0.N) (h : t.val ≠ 0) : cfg0.idle 13 (cfg0.grid.coords t) = true := by
  show (!(k0_cond1 (grid0.coords t) == 1#1)) = true
  rw [Bool.not_eq_true', beq_eq_false_iff_ne]
  exact mt (cond1_iff t).mp h
theorem idle_13_zero (t : Fin cfg0.N) (h : t.val = 0) : cfg0.idle 13 (cfg0.grid.coords t) = false := by
  show (!(k0_cond1 (grid0.coords t) == 1#1)) = false
  rw [Bool.not_eq_false', beq_iff_eq]
  exact (cond1_iff t).mpr h
theorem S_kept (c : Dev nD) (t : Fin cfg0.N) (h : t.val ≠ 0) : (st m c (t.val + 1)).S = (st m c t.val).S := by
  rw [st_succ]; exact if_neg (mt (cond1_iff t).mp h)
theorem before_13 (c : Dev nD) : ∀ (n : ℕ) (t : Fin cfg0.N) (_ : t.val = n + 1) (d), (dats m 0 c).before 13 t d = (st m c t.val).S
  | n, t, hn, d => by
    have ht : t.val < 594 := Nat.lt_of_lt_of_eq t.isLt N_0
    have h : t.val ≠ 0 := by omega
    have hp : t.val - 1 < cfg0.N := Nat.lt_of_le_of_lt (Nat.sub_le _ _) t.isLt
    have hf : ¬ (cfg0.win 13).flush ⟨t.val - 1, hp⟩ = true := fun h' => by
      have := (flush0_13 ⟨t.val - 1, hp⟩).mp h'
      have e : (t.val - 1) % 594 = 593 := this
      omega
    have e1 : t.val - 1 + 1 = t.val := by omega
    rw [(dats m 0 c).before_of_pos 13 t h ((cfg0.win 13).fetch_out rfl t), if_neg hf]
    unfold Dat.left
    match n, hn with
    | 0, hn =>
      rw [idle_13_zero ⟨t.val - 1, hp⟩ (by show t.val - 1 = 0; omega)]
      show (dats m 0 c).after 13 ⟨t.val - 1, hp⟩ = _
      rw [after_13]
      exact congrArg (fun n => (st m c n).S) e1
    | n + 1, hn =>
      rw [idle_13 ⟨t.val - 1, hp⟩ (by show t.val - 1 ≠ 0; omega)]
      show (dats m 0 c).before 13 ⟨t.val - 1, hp⟩ d = _
      rw [before_13 c n ⟨t.val - 1, hp⟩ (by show t.val - 1 = n + 1; omega) d, ← S_kept m c ⟨t.val - 1, hp⟩ (by show t.val - 1 ≠ 0; omega)]
      exact congrArg (fun n => (st m c n).S) e1
/-- The weights' gradient, on the rows inside the array, from the tile's second point on. -/
theorem before_10 (c : Dev nD) (t : Fin cfg0.N) (d) (h : t.val % 6 ≠ 0) (j : S512x1536.Idx) (hj : win0_10.moved (grid0.coords t) j = true) :
    (dats m 0 c).before 10 t d j = (st m c t.val).D j := by
  have ht : t.val < 594 := Nat.lt_of_lt_of_eq t.isLt N_0
  have h0 : t.val ≠ 0 := fun h' => h (by rw [h'])
  have hp : t.val - 1 < cfg0.N := Nat.lt_of_le_of_lt (Nat.sub_le _ _) t.isLt
  have hf : ¬ (cfg0.win 10).flush ⟨t.val - 1, hp⟩ = true := fun h' => by
    have := (flush0_10 ⟨t.val - 1, hp⟩).mp h'
    have e : (t.val - 1) % 6 = 5 := this
    omega
  rw [(dats m 0 c).before_of_pos 10 t h0 ((cfg0.win 10).fetch_out rfl t), if_neg hf]
  show win0_10.fill (grid0.coords ⟨t.val - 1, hp⟩) d (win0_10.cut (grid0.coords ⟨t.val - 1, hp⟩) ((dats m 0 c).after 10 ⟨t.val - 1, hp⟩)) j = _
  rw [fill_moved (w := win0_10) _ d ((dats m 0 c).after 10 ⟨t.val - 1, hp⟩) _ j ((moved10 _ _ (coords_prev t h hp) j).trans hj), Window.fill_cut, after_10]
  exact congrArg (fun n => (st m c n).D j) (by show t.val - 1 + 1 = t.val; omega)

/-! ## The body -/

/-- The scale's buffer after the point: written at the first point only. -/
def post13 (c : Dev nD) (t : Fin cfg0.N) : sProp 𝕄 :=
  match cfg0.idle 13 (cfg0.grid.coords t) with
  | true =>
    match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)

theorem to_post13 (c : Dev nD) (t : Fin cfg0.N) : owns (c : Thread nD τ) (st0_13 t) fullShare ((st m c (t.val + 1)).S) ⊢ post13 m c t := by
  unfold post13
  by_cases h : t.val = 0
  · rw [idle_13_zero t h, after_13]
  · rw [idle_13 t h]
    cases hf : (cfg0.win 13).flush t
    · iintro H
      iexists (fun _ => Scalar.ofBits .f32 0#32)
      rw [before_13 m c (t.val - 1) t (by omega), S_kept m c t h]
      iexact H
    · rw [after_13]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare (win0_7.fill (grid0.coords t) d (win0_7.cut (grid0.coords t) ((dats m 0 c).after 7 t))))
    ∗ (∃ d, owns (c : Thread nD τ) (st0_8 t) fullShare (win0_8.fill (grid0.coords t) d (win0_8.cut (grid0.coords t) ((dats m 0 c).after 8 t))))
    ∗ (∃ d, owns (c : Thread nD τ) (st0_9 t) fullShare (win0_9.fill (grid0.coords t) d (win0_9.cut (grid0.coords t) ((dats m 0 c).after 9 t))))
    ∗ (∃ d, owns (c : Thread nD τ) (st0_10 t) fullShare (win0_10.fill (grid0.coords t) d (win0_10.cut (grid0.coords t) ((dats m 0 c).after 10 t))))
    ∗ owns (c : Thread nD τ) (st0_11 t) fullShare ((dats m 0 c).after 11 t)
    ∗ owns (c : Thread nD τ) (st0_12 t) fullShare ((dats m 0 c).after 12 t)
    ∗ post13 m c t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  have ht : t.val < 594 := Nat.lt_of_lt_of_eq t.isLt N_0
  unfold bodyPre bodyPost bodyAt0
  rw [show (dats m 0 c).Φ t.castSucc = inv m c t.val from rfl, show (dats m 0 c).Φ t.succ = inv m c (t.val + 1) from rfl]
  unfold inv
  unfold Dat.owesAt Pipeline.owesWithin
  rw [show (dats m 0 c).owed t.castSucc = 0 from rfl, show (dats m 0 c).owed t.succ = 0 from rfl]
  simp only [before_0, before_1, before_2, before_3, before_4, before_5, before_6, before_7, before_8]
  simp only [after_0, after_1, after_2, after_3, after_4, after_5, after_6, after_7, after_8, after_9, after_10, after_11, after_12]
  rw [cc0_grad_eq]
  iintro ⟨⟨%X, %W, %P, %hX, %hW, -, HS0, HS1, ⟨%Y2, HS2⟩, ⟨%Y3, HS3⟩, HP, HC⟩, ⟨%O, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have eA := nA_at (tileAt m c t) t (A := (dats m 0 c).before 11 t d11) (A' := (st m c t.val).A) (before_11 m c t d11)
  have eM := nM_at (tileAt m c t) t (A := (dats m 0 c).before 12 t d12) (A' := (st m c t.val).M) (before_12 m c t d12)
  have eS := nS_at (tileAt m c t) t (A := (dats m 0 c).before 13 t d13) (A' := (st m c t.val).S) (fun h => before_13 m c (t.val - 1) t (by omega) d13)
  have eW : nW (grid0.coords t) (win0_7.fill (grid0.coords t) d7 (iblk m c 7 t)) (win0_8.fill (grid0.coords t) d8 (iblk m c 8 t)) W
      = nW (grid0.coords t) (wAt m c t) (wsAt m c t) (st m c t.val).W := by
    unfold nW
    by_cases h : first1 (grid0.coords t)
    · rw [if_pos h, if_pos h]; exact wqNext_fill t _ _ _ _ _ _
    · have h0 : t.val ≠ 0 := fun h' => h ((first1_iff t).mpr (by rw [h']))
      rw [if_neg h, if_neg h, hW h0 (by omega)]
  have eX := nX_at (tileAt m c t) t (nW (grid0.coords t) (wAt m c t) (wsAt m c t) (st m c t.val).W) (A := X) (A' := (st m c t.val).X) hX
  have eD : win0_10.cut (grid0.coords t) (dwNext (grid0.coords t) (tileOf (wgtP (tileAt m c t) (grid0.coords t))) (hidAt m c t) ((dats m 0 c).before 10 t d10))
      = win0_10.cut (grid0.coords t) (st m c (t.val + 1)).D := by
    rw [st_succ]
    funext j
    exact dwNext_at t _ _ _ _ _ fun h => before_10 m c t d10 h _ (win0_10.moved_xinj _ j)
  iapply (wp_bodyS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole main_v13_2) (Memref.isWhole_whole _) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (tileAt m c t) (hidAt m c t) (win0_7.fill (grid0.coords t) d7 (iblk m c 7 t)) (win0_8.fill (grid0.coords t) d8 (iblk m c 8 t))
    ((dats m 0 c).before 9 t d9) ((dats m 0 c).before 10 t d10) P ((dats m 0 c).before 11 t d11) ((dats m 0 c).before 12 t d12) ((dats m 0 c).before 13 t d13) X W Y2 Y3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HP]; · iexact HP
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HC]; · iexact HC
  isplitl [HO]; · iexists O; iexact HO
  rw [eA, eM, eS, eW, eX]
  iintro ⟨H0, H1, H2, H3, H4, H5, H6, H7, H8, H9, H10, HP, H11, H12, H13, HS0, ⟨%Y1, %hY1, HS1⟩, HS2, HS3, HC, ⟨%O', HO⟩⟩
  isplitl [HS0 HS1 HS2 HS3 HP HC]
  · iexists (nX (tileAt m c t) (grid0.coords t) (nW (grid0.coords t) (wAt m c t) (wsAt m c t) (st m c t.val).W) (st m c t.val).X), Y1, _
    isplitr
    · ipureintro; intro _; rw [st_succ]; rfl
    isplitr
    · ipureintro; intro _ h; rw [st_succ]
      exact hY1 fun h3 => h (by rw [(cond3_iff t).mp h3])
    isplitr; swap
    · isplitl [HS0]; · iexact HS0
      isplitl [HS1]; · iexact HS1
      isplitl [HS2]; · iexists _; iexact HS2
      isplitl [HS3]; · iexists _; iexact HS3
      isplitl [HP]; · iexact HP
      iexact HC
    ipureintro; intro h
    have h' : t.val = 593 := by omega
    rw [if_pos ((cond3_iff t).mpr h')]
    exact (outX_last m c t h').symm
  isplitl [HO]
  · iexists O'; isplitr
    · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; unfold wAt; rw [win0_7.cut_fill]; iexact H7
  isplitl [H8]
  · iexists d8; unfold wsAt; rw [win0_8.cut_fill]; iexact H8
  isplitl [H9]
  · iexists (tileOf (codeP (tileAt m c t) (grid0.coords t))); rw [win0_9.fill_cut]; iexact H9
  isplitl [H10]
  · iexists (dwNext (grid0.coords t) (tileOf (wgtP (tileAt m c t) (grid0.coords t))) (hidAt m c t) ((dats m 0 c).before 10 t d10)); rw [← eD, win0_10.fill_cut]; iexact H10
  isplitl [H11]; · rw [st_succ]; iexact H11
  isplitl [H12]; · rw [st_succ]; iexact H12
  iapply (to_post13 m c t)
  rw [st_succ]; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

end Cert.Kernel.Hand

end
-- ==== Proof.Hand.LaunchP.lean ====
/- The launch of the `grad` kernel: @main runs, every buffer ends at contents named here, the arguments are unchanged and every
   semaphore counter ends at zero. -/
module

public import proofs.«01_k».proof.Proof.Hand.FrameP
public import Idealize.ShloMosaic.Lib.Claim

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-- The body's one DMA cell. -/
abbrev osem : Unit → SemLoc sig := fun _ => .dma cc0_scratch4.sem
theorem ownSemFacts : Pipeline.OwnSemFacts cfg0.spec osem := by decide

theorem H_sub : (∅ : Finset (Ref sig .tc)) ⊆ Pipeline.restRefs sig cfg0.spec := Finset.empty_subset _
theorem R_sub : ({main_v13_2} : Finset (Ref sig .tc)) ⊆ Pipeline.restRefs sig cfg0.spec \ ∅ := by
  rw [Finset.sdiff_empty, Finset.singleton_subset_iff]
  exact Pipeline.mem_restRefs_of main_v13_2 (by decide) (by decide)

/-- What the body writes to the array it copies to itself. -/
def outBuf (c : Dev nD) : Buf (Elt F) ((c : Thread nD τ).loc main_v13_2) := outX m c
/-- The contents the body leaves in the arrays it copies to itself. -/
def outG (c : Dev nD) (b : Ref sig .tc) : Buf (Elt F) ((c : Thread nD τ).loc b) :=
  if h : b = main_v13_2 then h ▸ outBuf m c else V m c b
theorem outG_eq (c : Dev nD) : outG m c main_v13_2 = outBuf m c := by unfold outG; rw [dif_pos rfl]

/-- The buffers when the region is left. -/
def regionV (c : Dev nD) : Valuation τ sig (Elt F) :=
  Pipeline.withArrays cfg0.spec c (Pipeline.withR (V0 m c) {main_v13_2} c (outG m c)) fun w => (dats m 0 c).arrAt w cfg0.N
/-- The buffers at the end. -/
def endV (c : Dev nD) (b : Ref sig .tc) : Buf (Elt F) ((c : Thread nD τ).loc b) :=
  StableHlo.after ([hostOps1] : List (List (HloOp τ sig (Elt F)))).flatten (regionV m c) (Proc.devRef .tc b)

theorem regionV_of_ne (c : Dev nD) (b : Ref sig .tc) (h : ∀ w, Pipeline.arrRef spec0 w ≠ b) (h' : b ≠ main_v13_2) :
    regionV m c (Proc.devRef .tc b) = V0 m c (Proc.devRef .tc b) := by
  unfold regionV
  rw [Pipeline.withArrays_of_ne _ c _ _ b h, Pipeline.withR_of_not_mem _ _ c _ b (by rw [Finset.mem_singleton]; exact h')]
theorem regionV_arr (c : Dev nD) (w : Fin cfg0.W) : regionV m c (Proc.devRef .tc (Pipeline.arrRef spec0 w)) = (dats m 0 c).arrAt w cfg0.N := by
  unfold regionV
  exact Pipeline.withArrays_arr _ launch0.win.arr_inj c _ _ w
theorem regionV_out (c : Dev nD) : regionV m c (Proc.devRef .tc main_v13_2) = outBuf m c := by
  unfold regionV
  rw [Pipeline.withArrays_of_ne _ c _ _ main_v13_2 (by decide), Pipeline.withR_of_mem _ _ c _ main_v13_2 (Finset.mem_singleton_self _), outG_eq]

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The region enters the invariant. -/
theorem enter (c : Dev nD) : Pipeline.ΦDRV osem cfg0.spec ∅ {main_v13_2} (fun c b => V0 m c (Proc.devRef .tc b)) (fun c b => V0 m c (Proc.devRef .tc b)) c
    ⊢ (inv m c 0 : sProp 𝕄) := by
  unfold Pipeline.ΦDRV inv Pipeline.ownSems0 hbmAt
  rw [show (Pipeline.scopedRest cfg0.spec c : sProp 𝕄) = _ from scopedRest0_eq c, bigSep_singleton, bigSep_empty]
  rw [show (Finset.univ : Finset Unit) = {()} from rfl, bigSep_singleton]
  iintro ⟨⟨⟨%X, HX⟩, ⟨%W, HW⟩, ⟨%G, HG⟩, ⟨%K, HK⟩⟩, HC, -, HP⟩
  iexists X, W, (V0 m c (Proc.devRef .tc main_v13_2))
  rw [owns_whole, owns_whole]
  isplitr; · ipureintro; exact fun h => absurd rfl h
  isplitr; · ipureintro; exact fun h => absurd rfl h
  isplitr; · ipureintro; exact fun h => absurd h (by decide)
  isplitl [HX]; · iexact HX
  isplitl [HW]; · iexact HW
  isplitl [HG]; · iexists G; rw [owns_whole]; iexact HG
  isplitl [HK]; · iexists K; rw [owns_whole]; iexact HK
  isplitl [HP]
  · iexists (V0 m c (Proc.devRef .tc main_v13_2))
    isplitr; · ipureintro; rfl
    iexact HP
  iexact HC

/-- The invariant gives the region's buffers back. -/
theorem leave (c : Dev nD) : (inv m c 594 : sProp 𝕄)
    ⊢ Pipeline.ΦDRV osem cfg0.spec ∅ {main_v13_2} (fun c b => V0 m c (Proc.devRef .tc b)) (outG m) c := by
  unfold Pipeline.ΦDRV inv Pipeline.ownSems0 hbmAt
  rw [show (Pipeline.scopedRest cfg0.spec c : sProp 𝕄) = _ from scopedRest0_eq c, bigSep_singleton, bigSep_empty]
  rw [show (Finset.univ : Finset Unit) = {()} from rfl, bigSep_singleton]
  simp only [owns_whole]
  iintro ⟨%X, %W, %P, -, -, %hP, HX, HW, ⟨%G, HG⟩, ⟨%K, HK⟩, ⟨%g, %hg, HP⟩, HC⟩
  have e : outG m c main_v13_2 = g := by
    rw [outG_eq]; unfold outBuf; rw [← hP trivial, ← hg]; rfl
  rw [e]
  isplitl [HX HW HG HK]
  · isplitl [HX]; · iexists X; iexact HX
    isplitl [HW]; · iexists W; iexact HW
    isplitl [HG]; · iexists G; iexact HG
    iexists K; iexact HK
  isplitl [HC]; · iexact HC
  isplitr; · iempintro
  iexact HP

/-- THE RUN: every array ends as its window left it, every other buffer as the host lines after the region leave it, every counter at zero. -/
theorem run_main : θ_run defs (onTc (τ := τ) (main (F := F))) (s₀ m ρ) (fun r => (∀ c : Dev nD,
      (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = endV m c b) ∧ r.2.sem = fun _ => 0) :=
  Pipeline.θ_run_frame_dmaR_aroundV cfgs (dats m) 0 launch0 osem defs₀ Variants.none ownSemFacts ∅ {main_v13_2} H_sub R_sub m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (G := outG m) (hmain := hmainD m)
    (hA := A_eq m) (hin := enter m) (hout := fun c => by
      show inv m c cfg0.N ⊢ _
      rw [show cfg0.N = 594 from N_0]; exact leave m c) (Q' := _) (hQ' := fun _ h => h)

theorem end_main_arg0 (c : Dev nD) : endV m c main_arg0 = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg0 (by decide) (by decide)]
  exact V_main_arg0 m c
theorem end_main_arg1 (c : Dev nD) : endV m c main_arg1 = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg1 (by decide) (by decide)]
  exact V_main_arg1 m c
theorem end_main_arg2 (c : Dev nD) : endV m c main_arg2 = m ((c : Thread nD τ).loc main_arg2) := by
  unfold endV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg2 (by decide) (by decide)]
  exact V_main_arg2 m c
theorem end_main_arg3 (c : Dev nD) : endV m c main_arg3 = m ((c : Thread nD τ).loc main_arg3) := by
  unfold endV
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg3 (by decide) (by decide)]
  exact V_main_arg3 m c
theorem end_main_arg4 (c : Dev nD) : endV m c main_arg4 = m ((c : Thread nD τ).loc main_arg4) := by
  unfold endV
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg4 (by decide) (by decide)]
  exact V_main_arg4 m c
theorem end_main_arg5 (c : Dev nD) : endV m c main_arg5 = m ((c : Thread nD τ).loc main_arg5) := by
  unfold endV
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg5 (by decide) (by decide)]
  exact V_main_arg5 m c
theorem end_main_arg8 (c : Dev nD) : endV m c main_arg8 = m ((c : Thread nD τ).loc main_arg8) := by
  unfold endV
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg8 (by decide) (by decide)]
  exact V_main_arg8 m c

/-- THE FRAME: @main runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (end_main_arg0 m c),
    ((h.1 c).2 main_arg1 (Pipeline.mem_restRefs_of main_arg1 (by decide) (by decide))).trans (end_main_arg1 m c),
    ((h.1 c).2 main_arg2 (Pipeline.mem_restRefs_of main_arg2 (by decide) (by decide))).trans (end_main_arg2 m c),
    ((h.1 c).2 main_arg3 (Pipeline.mem_restRefs_of main_arg3 (by decide) (by decide))).trans (end_main_arg3 m c),
    ((h.1 c).2 main_arg4 (Pipeline.mem_restRefs_of main_arg4 (by decide) (by decide))).trans (end_main_arg4 m c),
    ((h.1 c).2 main_arg5 (Pipeline.mem_restRefs_of main_arg5 (by decide) (by decide))).trans (end_main_arg5 m c),
    ((h.1 c).1 6).trans (((dats m 0 c).arrAt_in 6 rfl _).trans ((A_eq m c 6).trans (V_main_arg6 m c))),
    ((h.1 c).1 7).trans (((dats m 0 c).arrAt_in 7 rfl _).trans ((A_eq m c 7).trans (V_main_arg7 m c))),
    ((h.1 c).2 main_arg8 (Pipeline.mem_restRefs_of main_arg8 (by decide) (by decide))).trans (end_main_arg8 m c)⟩, h.2⟩) (run_main m ρ)

end Cert.Kernel.Hand

end
-- ==== Proof.Hand.BodyI.lean ====
/- The body of the `grad` kernel, written with its repetition named: one row block of 32 tokens is `rowBlock`, one
   group of 128 columns of it `laneGroup`. `cc0_grad_eq` says the printed body is this program; the certificate runs
   this one, a row block at a time. -/
module

public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Hand

open Cert.KernelIdeal Cert.KernelIdeal.Gen
open Idealize.ShloMosaic Idealize.SL.Sem

variable {F : FTy → Type} [FloatOps F]

/-! ## What the body computes, as functions of what it loads -/

/-- One step of the search for the exponent field: add the bit `b` when the power of two of the larger field is still at most `y`. -/
def bitStep (y : FVec F S1x1 .f32) (b : BitVec 32) (v : IVec S1x1 32) : IVec S1x1 32 :=
  select (cmpf .ole (bitcastToFloat .f32 (shli (addi v (broadcast S1x1 b)) (broadcast S1x1 23#32))) y) (addi v (broadcast S1x1 b)) v

/-- The largest entry of the history, over the largest e5m2 number. -/
def ratio (v0 : Vec F S1x16 .f32) : FVec F S1x1 .f32 :=
  mulf (shapeCast S1x1 (multiReduction .maximumf [1] S1 (shapeCast S1x16 v0 shapeCasts_S1x16_S1x16) 0xFF800000#32 reduces_S1x16_S1 (.inl rfl) rfl) shapeCasts_S1_S1x1)
    (broadcast S1x1 (Scalar.ofBits .f32 0x37924925#32))

/-- The exponent field of `ratio`, found bit by bit. -/
def expField (v0 : Vec F S1x16 .f32) : IVec S1x1 32 :=
  bitStep (ratio v0) 1#32 (bitStep (ratio v0) 2#32 (bitStep (ratio v0) 4#32 (bitStep (ratio v0) 8#32 (bitStep (ratio v0) 16#32
    (bitStep (ratio v0) 32#32 (bitStep (ratio v0) 64#32 (bitStep (ratio v0) 128#32 (broadcast S1x1 0#32))))))))

/-- The scale's exponent. -/
def scaleExp (v0 : Vec F S1x16 .f32) : IVec S1x1 32 :=
  select (cmpi .eq (expField v0) (broadcast S1x1 0#32)) (broadcast S1x1 0#32) (subi (expField v0) (broadcast S1x1 126#32))

/-- The scale. -/
def scaleVec (v0 : Vec F S1x16 .f32) : FVec F S1x1 .f32 :=
  bitcastToFloat .f32 (shli (addi (broadcast S1x1 127#32) (scaleExp v0)) (broadcast S1x1 23#32))

/-- The scale's inverse. -/
def invVec (v0 : Vec F S1x16 .f32) : FVec F S1x1 .f32 :=
  bitcastToFloat .f32 (shli (subi (broadcast S1x1 127#32) (scaleExp v0)) (broadcast S1x1 23#32))

/-- The scale over a row block's lanes. -/
def scaleB (v0 : Vec F S1x16 .f32) : FVec F S32x128 .f32 :=
  broadcastTo S32x128 (shapeCast S1x1 (scaleVec v0) shapeCasts_S1x1_S1x1) broadcasts_S1x1_S32x128

/-- Its inverse over a row block's lanes. -/
def invB (v0 : Vec F S1x16 .f32) : FVec F S32x128 .f32 :=
  broadcastTo S32x128 (shapeCast S1x1 (invVec v0) shapeCasts_S1x1_S1x1) broadcasts_S1x1_S32x128

/-- The vocabulary columns of lane group `k` of a tile. -/
def colVec (i : grid0.Coords) (k : Fin 4) : IVec S32x128 32 :=
  addi (iota .tc S32x128 32 [1] iota_S32x128_d1_w32)
    (broadcast S32x128 (Scalar.addi (Scalar.muli (BitVec.ofNat 32 (i 0).val) 512#32) (BitVec.ofNat 32 (128 * k.val))))

/-- The probabilities of a lane group. -/
def probVec (mx ri l : FVec F S32x128 .f32) : FVec F S32x128 .f32 := mulf (exp (subf l mx)) ri

/-- The gradient of the logits of a lane group. -/
def gradVec (mx ri : FVec F S32x128 .f32) (lab col : IVec S32x128 32) (l : FVec F S32x128 .f32) : FVec F S32x128 .f32 :=
  select (cmpi .eq col lab) (subf (probVec mx ri l) (broadcast S32x128 (Scalar.ofBits .f32 0x3F800000#32))) (probVec mx ri l)

/-- What a lane group adds to the label logits. -/
def hitVec (lab col : IVec S32x128 32) (l : FVec F S32x128 .f32) : FVec F S32x128 .f32 :=
  select (cmpi .eq col lab) l (broadcast S32x128 (Scalar.ofBits .f32 0x00000000#32))

/-- The codes of a lane group's gradient. -/
def codeVec (inv g : FVec F S32x128 .f32) : FVec F S32x128 .fp8e5m2 :=
  truncf .fp8e5m2 (minimumf (broadcast S32x128 (Scalar.ofBits .f32 0x47600000#32))
    (maximumf (broadcast S32x128 (Scalar.ofBits .f32 0xC7600000#32)) (mulf g inv))) bitsLt_fp8e5m2_f32

/-- The factor of a token's codes in the weight gradient: its activation scale by the gradient's scale. -/
def factorVec (hs sc : FVec F S32x128 .f32) : FVec F S32x128 .bf16 := truncf .bf16 (mulf hs sc) bitsLt_bf16_f32

/-- The dequantised weights of a vocabulary tile, with zeros past the vocabulary. -/
def weightVec (arg0 : BitVec 32) (w : Vec F S512x1536 .fp8e4m3) (ws : Vec F S512x1 .f32) : FVec F S512x1536 .bf16 :=
  select (cmpi .slt (iota .tc S512x1536 32 [0] iota_S512x1536_d0_w32)
      (broadcast S512x1536 (Scalar.subi 50304#32 (Scalar.muli arg0 512#32))))
    (mulf (extf .bf16 w bitsLt_fp8e4m3_bf16)
      (broadcastTo S512x1536 (truncf .bf16 (shapeCast S512x1 ws shapeCasts_S512x1_S512x1) bitsLt_bf16_f32) broadcasts_S512x1_S512x1536))
    (broadcast S512x1536 (Scalar.ofBits .bf16 0x0000#16))

/-! ## The rectangles of a row block -/

theorem inbT (n : Fin 24) (k : Fin 4) : ∀ a, (![32 * n.val, 128 * k.val] : Fin 2 → Nat) a + S32x128.size a ≤ S768x512.size a := by
  intro a; have := n.2; have := k.2
  match a with
  | ⟨0, _⟩ => show 32 * n.val + 32 ≤ 768; omega
  | ⟨1, _⟩ => show 128 * k.val + 128 ≤ 512; omega

theorem inbR (n : Fin 24) : ∀ a, (![32 * n.val, 0] : Fin 2 → Nat) a + S32x128.size a ≤ S768x128.size a := by
  intro a; have := n.2
  match a with
  | ⟨0, _⟩ => show 32 * n.val + 32 ≤ 768; omega
  | ⟨1, _⟩ => show 0 + 128 ≤ 128; omega

theorem inbL (n : Fin 24) (k : Fin 4) : ∀ a, (![0, 32 * n.val, 128 * k.val] : Fin 3 → Nat) a + S1x32x128.size a ≤ S1x768x512.size a := by
  intro a; have := n.2; have := k.2
  match a with
  | ⟨0, _⟩ => show 0 + 1 ≤ 1; omega
  | ⟨1, _⟩ => show 32 * n.val + 32 ≤ 768; omega
  | ⟨2, _⟩ => show 128 * k.val + 128 ≤ 512; omega

theorem inbH (m : Fin 2) : ∀ a, (![384 * m.val, 0] : Fin 2 → Nat) a + S384x512.size a ≤ S768x512.size a := by
  intro a; have := m.2
  match a with
  | ⟨0, _⟩ => show 384 * m.val + 384 ≤ 768; omega
  | ⟨1, _⟩ => show 0 + 512 ≤ 512; omega

/-- Lane group `k` of row block `n` of a tile. -/
abbrev rT (n : Fin 24) (k : Fin 4) : Rect S768x512 := Rect.unit (s := S768x512) ![32 * n.val, 128 * k.val] S32x128.size (inbT n k)
/-- Row block `n` of the per-token inputs. -/
abbrev rR (n : Fin 24) : Rect S768x128 := Rect.unit (s := S768x128) ![32 * n.val, 0] S32x128.size (inbR n)
/-- Lane group `k` of row block `n` of the logits' tile. -/
abbrev rL (n : Fin 24) (k : Fin 4) : Rect S1x768x512 := Rect.unit (s := S1x768x512) ![0, 32 * n.val, 128 * k.val] S1x32x128.size (inbL n k)
/-- Row block `n` of the token tile in the label logits. -/
abbrev rA (i : grid0.Coords) (n : Fin 24) : Rect S4608x128 := Rect.unit (s := S4608x128) (k0_off1 i (BitVec.ofNat 32 (32 * n.val))) S32x128.size (k0_off1_inb i n)
/-- Half `m` of the tile. -/
abbrev rH (m : Fin 2) : Rect S768x512 := Rect.unit (s := S768x512) ![384 * m.val, 0] S384x512.size (inbH m)
/-- Half `m` of the token tile in the activations' gradient. -/
abbrev rX (i : grid0.Coords) (m : Fin 2) : Rect S4608x1536 := Rect.unit (s := S4608x1536) (k0_off2 i (BitVec.ofNat 32 (384 * m.val))) S384x1536.size (k0_off2_inb i m)

theorem packT8 (n : Fin 24) (k : Fin 4) : (rT n k).PackedRows (EltTy.packing .fp8e5m2) := by
  revert n k; decide
theorem packT16 (n : Fin 24) (k : Fin 4) : (rT n k).PackedRows (EltTy.packing .bf16) := by
  revert n k; decide

/-! ## The program -/

/-- One lane group of one row block: its logits read, its codes, their dequantised copies and their copies scaled for the
    weight gradient stored. -/
def laneGroup (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (n : Fin 24) (k : Fin 4)
    (inv mx ri : FVec F S32x128 .f32) (lab : IVec S32x128 32) (fac : FVec F S32x128 .bf16) :
    Prog (TpuEff nD τ sig (Elt F) Λ₀ .tc) (FVec F S32x128 .f32) := do
  let l3 : Vec F S1x32x128 .f32 ← Prog.lift (.load arg3 (rL n k).toLoadRect (View.loadsAt_vmem h_S1x32x128))
  let _ : Vec F S32x128 .fp8e5m2 ← Prog.lift (.load arg11 (rT n k).toLoadRect (View.loadsAt_vmem h_S32x128))
  Prog.lift (.store arg11 (rT n k) (codeVec inv (gradVec mx ri lab (colVec i k) (shapeCast S32x128 l3 shapeCasts_S1x32x128_S32x128))) Finset.univ
    (View.stores_vmem h_S32x128 (harg11.storeExact_slice rfl _ (packT8 n k)) (fun _ => rfl)) (.inl rfl))
  let _ : Vec F S32x128 .bf16 ← Prog.lift (.load arg19 (rT n k).toLoadRect (View.loadsAt_vmem h_S32x128))
  Prog.lift (.store arg19 (rT n k) (shapeCast S32x128 (extf .bf16 (codeVec inv (gradVec mx ri lab (colVec i k) (shapeCast S32x128 l3 shapeCasts_S1x32x128_S32x128))) bitsLt_fp8e5m2_bf16) shapeCasts_S32x128_S32x128) Finset.univ
    (View.stores_vmem h_S32x128 (harg19.storeExact_slice rfl _ (packT16 n k)) (fun _ => rfl)) (.inl rfl))
  let _ : Vec F S32x128 .bf16 ← Prog.lift (.load arg20 (rT n k).toLoadRect (View.loadsAt_vmem h_S32x128))
  Prog.lift (.store arg20 (rT n k) (shapeCast S32x128 (mulf (extf .bf16 (codeVec inv (gradVec mx ri lab (colVec i k) (shapeCast S32x128 l3 shapeCasts_S1x32x128_S32x128))) bitsLt_fp8e5m2_bf16) fac) shapeCasts_S32x128_S32x128) Finset.univ
    (View.stores_vmem h_S32x128 (harg20.storeExact_slice rfl _ (packT16 n k)) (fun _ => rfl)) (.inl rfl))
  pure (shapeCast S32x128 l3 shapeCasts_S1x32x128_S32x128)

/-- One row block: the token's inputs read, the four lane groups, the label logits updated; the largest gradients so far returned. -/
def rowBlock (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (v0 : Vec F S1x16 .f32) (n : Fin 24)
    (amax : FVec F S32x128 .f32) : Prog (TpuEff nD τ sig (Elt F) Λ₀ .tc) (FVec F S32x128 .f32) := do
  let mx : Vec F S32x128 .f32 ← Prog.lift (.load arg4 (rR n).toLoadRect (View.loadsAt_vmem h_S32x128))
  let ri : Vec F S32x128 .f32 ← Prog.lift (.load arg5 (rR n).toLoadRect (View.loadsAt_vmem h_S32x128))
  let lab : Vec F S32x128 .i32 ← Prog.lift (.load arg6 (rR n).toLoadRect (View.loadsAt_vmem h_S32x128))
  let hs : Vec F S32x128 .f32 ← Prog.lift (.load arg7 (rR n).toLoadRect (View.loadsAt_vmem h_S32x128))
  let mx' : FVec F S32x128 .f32 := shapeCast S32x128 mx shapeCasts_S32x128_S32x128
  let ri' : FVec F S32x128 .f32 := shapeCast S32x128 ri shapeCasts_S32x128_S32x128
  let lab' : IVec S32x128 32 := shapeCast S32x128 lab shapeCasts_S32x128_S32x128
  let fac : FVec F S32x128 .bf16 := factorVec (shapeCast S32x128 hs shapeCasts_S32x128_S32x128) (scaleB v0)
  let ll : Vec F S32x128 .f32 ← Prog.lift (.load arg14 (rA i n).toLoadRect (View.loadsAt_vmem h_S32x128))
  let l0 ← laneGroup i arg3 harg3 arg11 harg11 arg19 harg19 arg20 harg20 n 0 (invB v0) mx' ri' lab' fac
  let l1 ← laneGroup i arg3 harg3 arg11 harg11 arg19 harg19 arg20 harg20 n 1 (invB v0) mx' ri' lab' fac
  let l2 ← laneGroup i arg3 harg3 arg11 harg11 arg19 harg19 arg20 harg20 n 2 (invB v0) mx' ri' lab' fac
  let l3 ← laneGroup i arg3 harg3 arg11 harg11 arg19 harg19 arg20 harg20 n 3 (invB v0) mx' ri' lab' fac
  let _ : Vec F S32x128 .f32 ← Prog.lift (.load arg14 (rA i n).toLoadRect (View.loadsAt_vmem h_S32x128))
  Prog.lift (.store arg14 (rA i n) (addf (addf (addf (addf (shapeCast S32x128 ll shapeCasts_S32x128_S32x128) (hitVec lab' (colVec i 0) l0))
      (hitVec lab' (colVec i 1) l1)) (hitVec lab' (colVec i 2) l2)) (hitVec lab' (colVec i 3) l3)) Finset.univ
    (View.stores_vmem_bits_univ h_S32x128 rfl) (.inl rfl))
  pure (maximumf (maximumf (maximumf (maximumf amax (absf (gradVec mx' ri' lab' (colVec i 0) l0))) (absf (gradVec mx' ri' lab' (colVec i 1) l1)))
    (absf (gradVec mx' ri' lab' (colVec i 2) l2))) (absf (gradVec mx' ri' lab' (colVec i 3) l3)))

/-- The row blocks `n, …, n + m - 1`, in order. -/
def rowBlocks (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (v0 : Vec F S1x16 .f32) :
    (m n : Nat) → n + m ≤ 24 → FVec F S32x128 .f32 → Prog (TpuEff nD τ sig (Elt F) Λ₀ .tc) (FVec F S32x128 .f32)
  | 0, _, _, amax => pure amax
  | m + 1, n, h, amax => do
    let a ← rowBlock i arg3 harg3 arg4 harg4 arg5 harg5 arg6 harg6 arg7 harg7 arg11 harg11 arg14 harg14 arg19 harg19 arg20 harg20 v0 ⟨n, by omega⟩ amax
    rowBlocks i arg3 harg3 arg4 harg4 arg5 harg5 arg6 harg6 arg7 harg7 arg11 harg11 arg14 harg14 arg19 harg19 arg20 harg20 v0 m (n + 1) (by omega) a

/-- Half `m` of the token tile: its dequantised codes times the tile's weights, added to the activations' gradient. -/
def dxHalf (i : grid0.Coords) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (m : Fin 2) : Prog (TpuEff nD τ sig (Elt F) Λ₀ .tc) PUnit := do
  let x : Vec F S384x1536 .f32 ← Prog.lift (.load arg17 (rX i m).toLoadRect (View.loadsAt_vmem h_S384x1536))
  let g : Vec F S384x512 .bf16 ← Prog.lift (.load arg19 (rH m).toLoadRect (View.loadsAt_vmem h_S384x512))
  let w : Vec F S512x1536 .bf16 ← Prog.lift (.load arg18 (Rect.unit (s := S512x1536) ![0, 0] S512x1536.size inb_S512x1536_S512x1536_0_0).toLoadRect (View.loadsAt_vmem h_S512x1536))
  let _ : Vec F S384x1536 .f32 ← Prog.lift (.load arg17 (rX i m).toLoadRect (View.loadsAt_vmem h_S384x1536))
  Prog.lift (.store arg17 (rX i m) (shapeCast S384x1536 (addf x (matmul dot_S384x512_S512x1536_S384x1536_1_0_0_1_n_n none g w (constant S384x1536 .f32 0x00000000#32))) shapeCasts_S384x1536_S384x1536) Finset.univ
    (View.stores_vmem_bits_univ h_S384x1536 rfl) (.inl rfl))

/-- The weights' gradient of the vocabulary tile: the token tile's products stored, or added. -/
def dwTile (i : grid0.Coords) (arg8 : Memref sig .tc .vmem S4608x1536 .fp8e4m3) (harg8 : arg8.IsWhole) (arg12 : Memref sig .tc .vmem S512x1536 .f32) (harg12 : arg12.IsWhole) (arg20 : Memref sig .tc .vmem S768x512 .bf16) (harg20 : arg20.IsWhole) : Prog (TpuEff nD τ sig (Elt F) Λ₀ .tc) PUnit := do
  let g : Vec F S768x512 .bf16 ← Prog.lift (.load arg20 (Rect.unit (s := S768x512) ![0, 0] S768x512.size inb_S768x512_S768x512_0_0).toLoadRect (View.loadsAt_vmem h_S768x512))
  let h : Vec F S768x1536 .fp8e4m3 ← Prog.lift (.load arg8 (Rect.unit (s := S4608x1536) (k0_off3 i) S768x1536.size (k0_off3_inb i)).toLoadRect (View.loadsAt_vmem h_S768x1536))
  let o : Vec F S512x1536 .f32 ← Prog.lift (.load arg12 (Rect.unit (s := S512x1536) ![0, 0] S512x1536.size inb_S512x1536_S512x1536_0_0).toLoadRect (View.loadsAt_vmem h_S512x1536))
  let _ : Vec F S512x1536 .f32 ← Prog.lift (.load arg12 (Rect.unit (s := S512x1536) ![0, 0] S512x1536.size inb_S512x1536_S512x1536_0_0).toLoadRect (View.loadsAt_vmem h_S512x1536))
  Prog.lift (.store arg12 (Rect.unit (s := S512x1536) ![0, 0] S512x1536.size inb_S512x1536_S512x1536_0_0)
    (Scalar.select (Scalar.cmpi .eq (BitVec.ofNat 32 (i 1).val) 0#32)
      (matmul dot_S768x512_S768x1536_S512x1536_0_0_1_1_n_n none g h (constant S512x1536 .f32 0x00000000#32))
      (addf (shapeCast S512x1536 o shapeCasts_S512x1536_S512x1536)
        (matmul dot_S768x512_S768x1536_S512x1536_0_0_1_1_n_n none g h (constant S512x1536 .f32 0x00000000#32)))) Finset.univ
    (View.stores_vmem_bits_univ h_S512x1536 rfl) (.inl rfl))

/-- The first grid point's stores: the scale, and zeros where the body accumulates. -/
def initBufs (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) : Prog (TpuEff nD τ sig (Elt F) Λ₀ .tc) PUnit := do
  let _ : Vec F S1x1 .f32 ← Prog.lift (.load arg16 (Rect.unit (s := S1x1) ![0, 0] S1x1.size inb_S1x1_S1x1_0_0).toLoadRect (View.loadsAt_vmem h_S1x1))
  Prog.lift (.store arg16 (Rect.unit (s := S1x1) ![0, 0] S1x1.size inb_S1x1_S1x1_0_0) sc Finset.univ (View.stores_vmem_bits_univ h_S1x1 rfl) (.inl rfl))
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) (broadcast S32x128 (Scalar.ofBits .f32 0x00000000#32)) Finset.univ (View.stores_vmem_bits_univ h_S32x128 rfl) (.inl rfl))
  let _ : Vec F S4608x128 .f32 ← Prog.lift (.load arg14 (Rect.unit (s := S4608x128) ![0, 0] S4608x128.size inb_S4608x128_S4608x128_0_0).toLoadRect (View.loadsAt_vmem h_S4608x128))
  Prog.lift (.store arg14 (Rect.unit (s := S4608x128) ![0, 0] S4608x128.size inb_S4608x128_S4608x128_0_0) (broadcast S4608x128 (Scalar.ofBits .f32 0x00000000#32)) Finset.univ (View.stores_vmem_bits_univ h_S4608x128 rfl) (.inl rfl))
  let _ : Vec F S4608x1536 .f32 ← Prog.lift (.load arg17 (Rect.unit (s := S4608x1536) ![0, 0] S4608x1536.size inb_S4608x1536_S4608x1536_0_0).toLoadRect (View.loadsAt_vmem h_S4608x1536))
  Prog.lift (.store arg17 (Rect.unit (s := S4608x1536) ![0, 0] S4608x1536.size inb_S4608x1536_S4608x1536_0_0) (shapeCast S4608x1536 (broadcast S4608x1536 (Scalar.ofBits .f32 0x00000000#32)) shapeCasts_S4608x1536_S4608x1536) Finset.univ (View.stores_vmem_bits_univ h_S4608x1536 rfl) (.inl rfl))
  pure ⟨⟩

/-- A vocabulary tile's first grid point: its weights dequantised. -/
def weightTile (arg0 : BitVec 32) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) : Prog (TpuEff nD τ sig (Elt F) Λ₀ .tc) PUnit := do
  let w : Vec F S512x1536 .fp8e4m3 ← Prog.lift (.load arg9 (Rect.unit (s := S512x1536) ![0, 0] S512x1536.size inb_S512x1536_S512x1536_0_0).toLoadRect (View.loadsAt_vmem h_S512x1536))
  let ws : Vec F S512x1 .f32 ← Prog.lift (.load arg10 (Rect.unit (s := S512x1) ![0, 0] S512x1.size inb_S512x1_S512x1_0_0).toLoadRect (View.loadsAt_vmem h_S512x1))
  let _ : Vec F S512x1536 .bf16 ← Prog.lift (.load arg18 (Rect.unit (s := S512x1536) ![0, 0] S512x1536.size inb_S512x1536_S512x1536_0_0).toLoadRect (View.loadsAt_vmem h_S512x1536))
  Prog.lift (.store arg18 (Rect.unit (s := S512x1536) ![0, 0] S512x1536.size inb_S512x1536_S512x1536_0_0) (shapeCast S512x1536 (weightVec arg0 w ws) shapeCasts_S512x1536_S512x1536) Finset.univ
    (View.stores_vmem h_S512x1536 (harg18.storeExact_slice rfl _ packedbf16_S512x1536_S512x1536_0_0) (fun _ => rfl)) (.inl rfl))
  pure ⟨⟩

/-- The whole body. -/
def bodyS (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) : Prog (TpuEff nD τ sig (Elt F) Λ₀ .tc) PUnit := do
  let v0 : Vec F S1x16 .f32 ← Prog.lift (.load arg2 (Rect.unit (s := S1x16) ![0, 0] S1x16.size inb_S1x16_S1x16_0_0).toLoadRect (View.loadsAt_vmem h_S1x16))
  if k0_h1 : k0_cond1 i = 1#1 then initBufs arg14 harg14 arg15 harg15 arg16 harg16 arg17 harg17 (scaleVec v0) else pure ⟨⟩
  if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩
  let v110 : Vec F S32x128 .f32 ← Prog.lift (.load arg15 (Rect.unit (s := S32x128) ![0, 0] S32x128.size inb_S32x128_S32x128_0_0).toLoadRect (View.loadsAt_vmem h_S32x128))
  let a12 ← rowBlocks i arg3 harg3 arg4 harg4 arg5 harg5 arg6 harg6 arg7 harg7 arg11 harg11 arg14 harg14 arg19 harg19 arg20 harg20 v0 12 0 (by omega) (shapeCast S32x128 v110 shapeCasts_S32x128_S32x128)
  dxHalf i arg17 harg17 arg18 harg18 arg19 harg19 0
  let a24 ← rowBlocks i arg3 harg3 arg4 harg4 arg5 harg5 arg6 harg6 arg7 harg7 arg11 harg11 arg14 harg14 arg19 harg19 arg20 harg20 v0 12 12 (by omega) a12
  dxHalf i arg17 harg17 arg18 harg18 arg19 harg19 1
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) a24 Finset.univ (View.stores_vmem_bits_univ h_S32x128 rfl) (.inl rfl))
  dwTile i arg8 harg8 arg12 harg12 arg20 harg20
  if k0_h3 : k0_cond3 i = 1#1 then do
    Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec v0) k0_h3)
    pure ⟨⟩
  else pure ⟨⟩
  pure ⟨⟩

/-! ## The printed body is this program -/

theorem part2_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v5 : FVec F S1x1 .f32) (v41 : IVec S1x1 32) (c4 : BitVec 32) (h : k0_cond1 i = 1#1) :
    Cert.KernelIdeal.k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v5 v41 c4
      = initBufs arg14 harg14 arg15 harg15 arg16 harg16 arg17 harg17 (k0_pay6 v5 v41 c4) >>= fun _ => pure ⟨k0_pay6 v5 v41 c4, k0_pay7 v5 v41 c4, Scalar.cmpi .eq arg1 0#32⟩ := by
  unfold Cert.KernelIdeal.k0_part2
  rw [dif_pos h]
  chain_rfl

theorem part2_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v5 : FVec F S1x1 .f32) (v41 : IVec S1x1 32) (c4 : BitVec 32) (h : ¬ k0_cond1 i = 1#1) :
    Cert.KernelIdeal.k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v5 v41 c4
      = pure ⟨k0_pay6 v5 v41 c4, k0_pay7 v5 v41 c4, Scalar.cmpi .eq arg1 0#32⟩ := by
  unfold Cert.KernelIdeal.k0_part2
  rw [dif_neg h]
  chain_rfl

/-- What follows the weights' conditional in the printed body's third part. -/
def part3Rest (arg0 arg1 : BitVec 32) (arg4 : Memref sig .tc .vmem S768x128 .f32) (arg5 : Memref sig .tc .vmem S768x128 .f32) (arg6 : Memref sig .tc .vmem S768x128 .i32) (arg7 : Memref sig .tc .vmem S768x128 .f32) (arg15 : Memref sig .tc .vmem S32x128 .f32) (v73 v78 : FVec F S1x1 .f32) :
    Prog (TpuEff nD τ sig (Elt F) Λ₀ .tc) (Σ' (v88 : BitVec 32) (v93 : IVec S32x128 32) (v97 : IVec S32x128 32) (v101 : IVec S32x128 32) (v105 : IVec S32x128 32) (v107 : FVec F S32x128 .f32) (v109 : FVec F S32x128 .f32) (v111 : FVec F S32x128 .f32) (v113 : FVec F S32x128 .f32) (v115 : FVec F S32x128 .f32) (v117 : IVec S32x128 32) (v121 : FVec F S32x128 .bf16), BitVec 32) := do
  let c768_i32 : BitVec 32 := 768#32
  let v87 : BitVec 32 := Scalar.muli arg1 c768_i32
  let v88 : BitVec 32 := v87
  have v89 : IVec S32x128 32 := iota .tc S32x128 32 [1] iota_S32x128_d1_w32
  let c512_i32 : BitVec 32 := 512#32
  let v90 : BitVec 32 := Scalar.muli arg0 c512_i32
  let c0_i32_19 : BitVec 32 := 0#32
  let v91 : BitVec 32 := Scalar.addi v90 c0_i32_19
  have v92 : IVec S32x128 32 := broadcast S32x128 v91
  have v93 : IVec S32x128 32 := addi v89 v92
  let c512_i32_20 : BitVec 32 := 512#32
  let v94 : BitVec 32 := Scalar.muli arg0 c512_i32_20
  let c128_i32_21 : BitVec 32 := 128#32
  let v95 : BitVec 32 := Scalar.addi v94 c128_i32_21
  have v96 : IVec S32x128 32 := broadcast S32x128 v95
  have v97 : IVec S32x128 32 := addi v89 v96
  let c512_i32_22 : BitVec 32 := 512#32
  let v98 : BitVec 32 := Scalar.muli arg0 c512_i32_22
  let c256_i32 : BitVec 32 := 256#32
  let v99 : BitVec 32 := Scalar.addi v98 c256_i32
  have v100 : IVec S32x128 32 := broadcast S32x128 v99
  have v101 : IVec S32x128 32 := addi v89 v100
  let c512_i32_23 : BitVec 32 := 512#32
  let v102 : BitVec 32 := Scalar.muli arg0 c512_i32_23
  let c384_i32 : BitVec 32 := 384#32
  let v103 : BitVec 32 := Scalar.addi v102 c384_i32
  have v104 : IVec S32x128 32 := broadcast S32x128 v103
  have v105 : IVec S32x128 32 := addi v89 v104
  have v106 : FVec F S1x1 .f32 := shapeCast S1x1 v78 shapeCasts_S1x1_S1x1
  have v107 : FVec F S32x128 .f32 := broadcastTo S32x128 v106 broadcasts_S1x1_S32x128
  have v108 : FVec F S1x1 .f32 := shapeCast S1x1 v73 shapeCasts_S1x1_S1x1
  have v109 : FVec F S32x128 .f32 := broadcastTo S32x128 v108 broadcasts_S1x1_S32x128
  let c0_24 : Index := 0#32
  let c0_25 : Index := 0#32
  let v110 : Vec F S32x128 .f32 ← Prog.lift (.load arg15 (Rect.unit (s := S32x128) ![0, 0] S32x128.size inb_S32x128_S32x128_0_0).toLoadRect (View.loadsAt_vmem h_S32x128))
  have v111 : FVec F S32x128 .f32 := shapeCast S32x128 v110 shapeCasts_S32x128_S32x128
  let c0_26 : Index := 0#32
  let c0_27 : Index := 0#32
  let v112 : Vec F S32x128 .f32 ← Prog.lift (.load arg4 (Rect.unit (s := S768x128) ![0, 0] S32x128.size inb_S768x128_S32x128_0_0).toLoadRect (View.loadsAt_vmem h_S32x128))
  have v113 : FVec F S32x128 .f32 := shapeCast S32x128 v112 shapeCasts_S32x128_S32x128
  let c0_28 : Index := 0#32
  let c0_29 : Index := 0#32
  let v114 : Vec F S32x128 .f32 ← Prog.lift (.load arg5 (Rect.unit (s := S768x128) ![0, 0] S32x128.size inb_S768x128_S32x128_0_0).toLoadRect (View.loadsAt_vmem h_S32x128))
  have v115 : FVec F S32x128 .f32 := shapeCast S32x128 v114 shapeCasts_S32x128_S32x128
  let c0_30 : Index := 0#32
  let c0_31 : Index := 0#32
  let v116 : Vec F S32x128 .i32 ← Prog.lift (.load arg6 (Rect.unit (s := S768x128) ![0, 0] S32x128.size inb_S768x128_S32x128_0_0).toLoadRect (View.loadsAt_vmem h_S32x128))
  have v117 : IVec S32x128 32 := shapeCast S32x128 v116 shapeCasts_S32x128_S32x128
  let c0_32 : Index := 0#32
  let c0_33 : Index := 0#32
  let v118 : Vec F S32x128 .f32 ← Prog.lift (.load arg7 (Rect.unit (s := S768x128) ![0, 0] S32x128.size inb_S768x128_S32x128_0_0).toLoadRect (View.loadsAt_vmem h_S32x128))
  have v119 : FVec F S32x128 .f32 := shapeCast S32x128 v118 shapeCasts_S32x128_S32x128
  have v120 : FVec F S32x128 .f32 := mulf v119 v109
  have v121 : FVec F S32x128 .bf16 := truncf .bf16 v120 bitsLt_bf16_f32
  let c0_i32_34 : BitVec 32 := 0#32
  let v122 : BitVec 32 := Scalar.addi v88 c0_i32_34
  pure ⟨v88, v93, v97, v101, v105, v107, v109, v111, v113, v115, v117, v121, v122⟩

theorem part3_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v73 v78 : FVec F S1x1 .f32) (v84 : BitVec 1) (h : Scalar.cmpi .ne (Scalar.extui v84) 0#32 = 1#1) :
    Cert.KernelIdeal.k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v73 v78 v84
      = weightTile arg0 arg9 harg9 arg10 harg10 arg18 harg18 >>= fun _ => part3Rest arg0 arg1 arg4 arg5 arg6 arg7 arg15 v73 v78 := by
  unfold Cert.KernelIdeal.k0_part3
  extract_lets _ _ v86
  rw [dif_pos (show v86 = 1#1 from h)]
  chain_rfl

theorem part3_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (arg0 arg1 : BitVec 32) (v73 v78 : FVec F S1x1 .f32) (v84 : BitVec 1) (h : ¬ Scalar.cmpi .ne (Scalar.extui v84) 0#32 = 1#1) :
    Cert.KernelIdeal.k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg0 arg1 v73 v78 v84
      = part3Rest arg0 arg1 arg4 arg5 arg6 arg7 arg15 v73 v78 := by
  unfold Cert.KernelIdeal.k0_part3
  extract_lets _ _ v86
  rw [dif_neg (show ¬ v86 = 1#1 from h)]
  chain_rfl

/-- A program whose first two steps end in a known value, inside two more. -/
theorem bind_glue {E : Type → Type} {α β γ δ : Type} (A : Prog E α) (r : β) (f : β → Prog E γ) (k : γ → Prog E δ) :
    (((A >>= fun _ => pure r) >>= f) >>= k) = A >>= fun _ => f r >>= k := by
  rw [Prog.bind_assoc, Prog.bind_assoc]; rfl

theorem bind_glue' {E : Type → Type} {α β γ δ : Type} (A : Prog E α) (B : Prog E β) (f : β → Prog E γ) (k : γ → Prog E δ) :
    (((A >>= fun _ => B) >>= f) >>= k) = A >>= fun _ => ((B >>= f) >>= k) := by
  simp only [Prog.bind_assoc]

theorem bind_glueL {E : Type → Type} {α β γ δ : Type} (A : Prog E α) (r : α → β) (f : β → Prog E γ) (k : γ → Prog E δ) :
    (((A >>= fun v => pure (r v)) >>= f) >>= k) = A >>= fun v => f (r v) >>= k := by
  rw [Prog.bind_assoc, Prog.bind_assoc]; rfl

theorem bind_congrK {E : Type → Type} {α β : Type} (A : Prog E α) {f g : α → Prog E β} (h : ∀ a, f a = g a) : (A >>= f) = A >>= g :=
  congrArg (A >>= ·) (funext h)

theorem part1_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    Cert.KernelIdeal.k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
      = Prog.lift (.load arg2 (Rect.unit (s := S1x16) ![0, 0] S1x16.size inb_S1x16_S1x16_0_0).toLoadRect (View.loadsAt_vmem h_S1x16)) >>= fun v0 : Vec F S1x16 .f32 =>
          pure ⟨BitVec.ofNat 32 (i 0).val, BitVec.ofNat 32 (i 1).val, k0_pay3 v0, k0_pay4 v0, 4#32⟩ := by
  unfold Cert.KernelIdeal.k0_part1
  chain_rfl

theorem cc0_grad_eq_pos_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : k0_cond1 i = 1#1) (h2 : Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.KernelIdeal.k0_part88
  rw [part1_eq, bind_glueL]
  refine bind_congrK _ fun v0 => ?_
  rw [dif_pos h1, dif_pos h2]
  change ((Cert.KernelIdeal.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_pos (h := h1), bind_glue]
  refine bind_congrK _ fun _ => ?_
  change ((Cert.KernelIdeal.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_pos (h := h2), bind_glue']
  refine bind_congrK _ fun _ => ?_
  chain_rfl

theorem cc0_grad_eq_pos_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : k0_cond1 i = 1#1) (h2 : ¬ Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.KernelIdeal.k0_part88
  rw [part1_eq, bind_glueL]
  refine bind_congrK _ fun v0 => ?_
  rw [dif_pos h1, dif_neg h2]
  change ((Cert.KernelIdeal.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_pos (h := h1), bind_glue]
  refine bind_congrK _ fun _ => ?_
  change ((Cert.KernelIdeal.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_neg (h := h2)]
  chain_rfl

theorem cc0_grad_eq_neg_pos (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : ¬ k0_cond1 i = 1#1) (h2 : Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.KernelIdeal.k0_part88
  rw [part1_eq, bind_glueL]
  refine bind_congrK _ fun v0 => ?_
  rw [dif_neg h1, dif_pos h2]
  change ((Cert.KernelIdeal.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_neg (h := h1)]
  change ((Cert.KernelIdeal.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_pos (h := h2), bind_glue']
  refine bind_congrK _ fun _ => ?_
  chain_rfl

theorem cc0_grad_eq_neg_neg (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_)
    (h1 : ¬ k0_cond1 i = 1#1) (h2 : ¬ Scalar.cmpi .ne (Scalar.extui (Scalar.cmpi .eq (BitVec.ofNat 32 (i 1).val) 0#32)) 0#32 = 1#1) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold cc0_grad bodyS Cert.KernelIdeal.k0_part88
  rw [part1_eq, bind_glueL]
  refine bind_congrK _ fun v0 => ?_
  rw [dif_neg h1, dif_neg h2]
  change ((Cert.KernelIdeal.k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay3 v0) (k0_pay4 v0) 4#32) >>= _) >>= _ = _
  rw [part2_neg (h := h1)]
  change ((Cert.KernelIdeal.k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (BitVec.ofNat 32 (i 0).val) (BitVec.ofNat 32 (i 1).val) (k0_pay6 (k0_pay3 v0) (k0_pay4 v0) 4#32) (k0_pay7 (k0_pay3 v0) (k0_pay4 v0) 4#32) _) >>= _) >>= _ = _
  rw [part3_neg (h := h2)]
  chain_rfl

/-- The printed body is this program. -/
theorem cc0_grad_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    cc0_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  by_cases h1 : k0_cond1 i = 1#1
  · by_cases h2 : Scalar.cmpi .ne (Scalar.extui (Scalar.cmpi .eq (BitVec.ofNat 32 (i 1).val) 0#32)) 0#32 = 1#1
    · exact cc0_grad_eq_pos_pos (h1 := h1) (h2 := h2) ..
    · exact cc0_grad_eq_pos_neg (h1 := h1) (h2 := h2) ..
  · by_cases h2 : Scalar.cmpi .ne (Scalar.extui (Scalar.cmpi .eq (BitVec.ofNat 32 (i 1).val) 0#32)) 0#32 = 1#1
    · exact cc0_grad_eq_neg_pos (h1 := h1) (h2 := h2) ..
    · exact cc0_grad_eq_neg_neg (h1 := h1) (h2 := h2) ..

end Cert.KernelIdeal.Hand

end
-- ==== Proof.Hand.RunI.lean ====
/- What the `grad` body computes at a grid point, buffer by buffer, and the run of the structured body (`bodyS`) to it.
   A buffer rewritten a rectangle at a time is `mix`ed part of the way. -/
module

public import proofs.«01_k».proof.Proof.Hand.BodyI
public import proofs.«01_k».proof.Proof.Hand.Rules
public import Idealize.ShloMosaic.Lib.Pipeline.FrameBody
public import Idealize.ShloMosaic.Lib.Tactic

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-! ## What a grid point computes -/

/-- What a grid point reads: the history, its tile of logits, and per token of the tile the largest logit, the inverse of
    the sum of exponentials, the label and the activation's scale. -/
structure Tile (F : FTy → Type) [FloatOps F] where
  v0 : Vec F S1x16 .f32
  lg : Vec F S1x768x512 .f32
  mx : Vec F S768x128 .f32
  ri : Vec F S768x128 .f32
  lab : Vec F S768x128 .i32
  hs : Vec F S768x128 .f32

/-- The row block's inputs and the lane group's logits. -/
def mxP (T : Tile F) (n : Fin 24) : FVec F S32x128 .f32 := shapeCast S32x128 (fun j => T.mx ((rR n).emb j)) shapeCasts_S32x128_S32x128
def riP (T : Tile F) (n : Fin 24) : FVec F S32x128 .f32 := shapeCast S32x128 (fun j => T.ri ((rR n).emb j)) shapeCasts_S32x128_S32x128
def labP (T : Tile F) (n : Fin 24) : IVec S32x128 32 := shapeCast (α := BitVec 32) S32x128 (fun j => T.lab ((rR n).emb j)) shapeCasts_S32x128_S32x128
def facP (T : Tile F) (n : Fin 24) : FVec F S32x128 .bf16 :=
  factorVec (shapeCast S32x128 (fun j => T.hs ((rR n).emb j)) shapeCasts_S32x128_S32x128) (scaleB T.v0)
def lgP (T : Tile F) (n : Fin 24) (k : Fin 4) : FVec F S32x128 .f32 := shapeCast S32x128 (fun j => T.lg ((rL n k).emb j)) shapeCasts_S1x32x128_S32x128

/-- A lane group's gradient, its codes, their dequantised copies and their copies scaled for the weight gradient. -/
def gradP (T : Tile F) (i : grid0.Coords) (n : Fin 24) (k : Fin 4) : FVec F S32x128 .f32 := gradVec (mxP T n) (riP T n) (labP T n) (colVec i k) (lgP T n k)
def codeP (T : Tile F) (i : grid0.Coords) (n : Fin 24) (k : Fin 4) : FVec F S32x128 .fp8e5m2 := codeVec (invB T.v0) (gradP T i n k)
def deqP (T : Tile F) (i : grid0.Coords) (n : Fin 24) (k : Fin 4) : FVec F S32x128 .bf16 :=
  shapeCast S32x128 (extf .bf16 (codeP T i n k) bitsLt_fp8e5m2_bf16) shapeCasts_S32x128_S32x128
def wgtP (T : Tile F) (i : grid0.Coords) (n : Fin 24) (k : Fin 4) : FVec F S32x128 .bf16 :=
  shapeCast S32x128 (mulf (extf .bf16 (codeP T i n k) bitsLt_fp8e5m2_bf16) (facP T n)) shapeCasts_S32x128_S32x128

/-- A tile from its lane groups. -/
def tileOf {α : Type} (p : Fin 24 → Fin 4 → S32x128.Idx → α) : S768x512.Idx → α := fun y =>
  p ⟨(y 0).val / 32, by have : (y 0).val < 768 := (y 0).isLt; omega⟩ ⟨(y 1).val / 128, by have : (y 1).val < 512 := (y 1).isLt; omega⟩
    (fun a => match a with
      | ⟨0, _⟩ => ⟨(y 0).val % 32, by show (y 0).val % 32 < 32; omega⟩
      | ⟨1, _⟩ => ⟨(y 1).val % 128, by show (y 1).val % 128 < 128; omega⟩)

theorem rT_emb0 (n : Fin 24) (k : Fin 4) (j : S32x128.Idx) : (((rT n k).emb j) 0).val = 32 * n.val + (j 0).val := by
  show 32 * n.val + 1 * (j 0).val = _; omega
theorem rT_emb1 (n : Fin 24) (k : Fin 4) (j : S32x128.Idx) : (((rT n k).emb j) 1).val = 128 * k.val + (j 1).val := by
  show 128 * k.val + 1 * (j 1).val = _; omega

theorem tileOf_emb {α : Type} (p : Fin 24 → Fin 4 → S32x128.Idx → α) (n : Fin 24) (k : Fin 4) (j : S32x128.Idx) :
    tileOf p ((rT n k).emb j) = p n k j := by
  have h0 := rT_emb0 n k j
  have h1 := rT_emb1 n k j
  have hj0 : (j 0).val < 32 := (j 0).isLt
  have hj1 : (j 1).val < 128 := (j 1).isLt
  have key : ∀ (a : Fin 24) (b : Fin 4) (x : S32x128.Idx), a = n → b = k → x = j → p a b x = p n k j := by
    rintro _ _ _ rfl rfl rfl; rfl
  refine key _ _ _ (Fin.ext ?_) (Fin.ext ?_) (funext fun a => ?_)
  · show (((rT n k).emb j) 0).val / 32 = _; omega
  · show (((rT n k).emb j) 1).val / 128 = _; omega
  · match a with
    | ⟨0, _⟩ => exact Fin.ext (by show (((rT n k).emb j) 0).val % 32 = (j 0).val; omega)
    | ⟨1, _⟩ => exact Fin.ext (by show (((rT n k).emb j) 1).val % 128 = (j 1).val; omega)

/-- The elements of the tile stored before lane group `k` of row block `n`. -/
def doneT (n k : Nat) : Set S768x512.Idx := {y | (y 0).val < 32 * n ∨ ((y 0).val < 32 * (n + 1) ∧ (y 1).val < 128 * k)}

theorem doneT_zero : doneT 0 0 = ∅ := by
  ext y; simp only [doneT, Set.mem_setOf_eq, Set.mem_empty_iff_false, iff_false]; omega

theorem doneT_four (n : Nat) : doneT n 4 = doneT (n + 1) 0 := by
  ext y
  have h1 : (y 1).val < 512 := (y 1).isLt
  simp only [doneT, Set.mem_setOf_eq]; omega

theorem doneT_all (y : S768x512.Idx) : y ∈ doneT 24 0 := by
  have h1 : (y 0).val < 768 := (y 0).isLt
  exact Or.inl h1

theorem doneT_succ (n : Fin 24) (k : Fin 4) (y : S768x512.Idx) :
    y ∈ doneT n.val (k.val + 1) ↔ y ∈ doneT n.val k.val ∨ ∃ j, (rT n k).emb j = y := by
  simp only [doneT, Set.mem_setOf_eq]
  constructor
  · intro h
    by_cases h2 : (y 0).val < 32 * n.val ∨ ((y 0).val < 32 * (n.val + 1) ∧ (y 1).val < 128 * k.val)
    · exact .inl h2
    · refine .inr ⟨(fun a => match a with
        | ⟨0, _⟩ => ⟨(y 0).val - 32 * n.val, by show (y 0).val - 32 * n.val < 32; omega⟩
        | ⟨1, _⟩ => ⟨(y 1).val - 128 * k.val, by show (y 1).val - 128 * k.val < 128; omega⟩), funext fun a => Fin.ext ?_⟩
      match a with
      | ⟨0, _⟩ => show 32 * n.val + 1 * ((y 0).val - 32 * n.val) = (y 0).val; omega
      | ⟨1, _⟩ => show 128 * k.val + 1 * ((y 1).val - 128 * k.val) = (y 1).val; omega
  · rintro (h | ⟨j, rfl⟩)
    · omega
    · have h0 := rT_emb0 n k j
      have h1 := rT_emb1 n k j
      have hj0 : (j 0).val < 32 := (j 0).isLt
      have hj1 : (j 1).val < 128 := (j 1).isLt
      omega

theorem put_tile {α : Type} (p : Fin 24 → Fin 4 → S32x128.Idx → α) (Y : S768x512.Idx → α) (n : Fin 24) (k : Fin 4) :
    put (rT n k) (mix (doneT n.val k.val) (tileOf p) Y) (p n k) = mix (doneT n.val (k.val + 1)) (tileOf p) Y :=
  put_mix _ _ _ _ _ _ (fun j => (tileOf_emb p n k j).symm) (doneT_succ n k)

/-- The label logits of a row block after the point, from what they were. -/
def llP (T : Tile F) (i : grid0.Coords) (A : Vec F S4608x128 .f32) (n : Fin 24) : FVec F S32x128 .f32 :=
  addf (addf (addf (addf (shapeCast S32x128 (fun j => A ((rA i n).emb j)) shapeCasts_S32x128_S32x128) (hitVec (labP T n) (colVec i 0) (lgP T n 0)))
      (hitVec (labP T n) (colVec i 1) (lgP T n 1))) (hitVec (labP T n) (colVec i 2) (lgP T n 2))) (hitVec (labP T n) (colVec i 3) (lgP T n 3))

/-- The label logits after the point. -/
def llNext (T : Tile F) (i : grid0.Coords) (A : Vec F S4608x128 .f32) : Vec F S4608x128 .f32 := fun y =>
  if h : 768 * (i 1).val ≤ (y 0).val ∧ (y 0).val < 768 * (i 1).val + 768 then
    llP T i A ⟨((y 0).val - 768 * (i 1).val) / 32, by omega⟩
      (fun a => match a with
        | ⟨0, _⟩ => ⟨((y 0).val - 768 * (i 1).val) % 32, by show ((y 0).val - 768 * (i 1).val) % 32 < 32; omega⟩
        | ⟨1, _⟩ => ⟨(y 1).val, (y 1).isLt⟩)
  else A y

theorem rA_emb0 (i : grid0.Coords) (n : Fin 24) (j : S32x128.Idx) : (((rA i n).emb j) 0).val = 768 * (i 1).val + 32 * n.val + (j 0).val := by
  show k0_off1 i (BitVec.ofNat 32 (32 * n.val)) 0 + 1 * (j 0).val = _
  rw [k0_off1_eq]; show 768 * (i 1).val + 32 * n.val + 1 * (j 0).val = _; omega
theorem rA_emb1 (i : grid0.Coords) (n : Fin 24) (j : S32x128.Idx) : (((rA i n).emb j) 1).val = (j 1).val := by
  show k0_off1 i (BitVec.ofNat 32 (32 * n.val)) 1 + 1 * (j 1).val = _
  rw [k0_off1_eq]; show 0 + 1 * (j 1).val = _; omega

theorem llNext_emb (T : Tile F) (i : grid0.Coords) (A : Vec F S4608x128 .f32) (n : Fin 24) (j : S32x128.Idx) :
    llNext T i A ((rA i n).emb j) = llP T i A n j := by
  have h0 := rA_emb0 i n j
  have h1 := rA_emb1 i n j
  have hj0 : (j 0).val < 32 := (j 0).isLt
  have hn := n.isLt
  have key : ∀ (a : Fin 24) (x : S32x128.Idx), a = n → x = j → llP T i A a x = llP T i A n j := by
    rintro _ _ rfl rfl; rfl
  unfold llNext
  rw [dif_pos (by omega)]
  refine key _ _ (Fin.ext ?_) (funext fun a => ?_)
  · show ((((rA i n).emb j) 0).val - 768 * (i 1).val) / 32 = _; omega
  · match a with
    | ⟨0, _⟩ => exact Fin.ext (by show ((((rA i n).emb j) 0).val - 768 * (i 1).val) % 32 = (j 0).val; omega)
    | ⟨1, _⟩ => exact Fin.ext (by show (((rA i n).emb j) 1).val = (j 1).val; omega)

/-- The label logits of the tile stored before row block `n`. -/
def doneA (i : grid0.Coords) (n : Nat) : Set S4608x128.Idx := {y | 768 * (i 1).val ≤ (y 0).val ∧ (y 0).val < 768 * (i 1).val + 32 * n}

theorem doneA_zero (i : grid0.Coords) : doneA i 0 = ∅ := by
  ext y; simp only [doneA, Set.mem_setOf_eq, Set.mem_empty_iff_false, iff_false]; omega

theorem doneA_succ (i : grid0.Coords) (n : Fin 24) (y : S4608x128.Idx) :
    y ∈ doneA i (n.val + 1) ↔ y ∈ doneA i n.val ∨ ∃ j, (rA i n).emb j = y := by
  simp only [doneA, Set.mem_setOf_eq]
  constructor
  · intro h
    by_cases h2 : (y 0).val < 768 * (i 1).val + 32 * n.val
    · exact .inl ⟨h.1, h2⟩
    · refine .inr ⟨(fun a => match a with
        | ⟨0, _⟩ => ⟨(y 0).val - (768 * (i 1).val + 32 * n.val), by show (y 0).val - (768 * (i 1).val + 32 * n.val) < 32; omega⟩
        | ⟨1, _⟩ => ⟨(y 1).val, (y 1).isLt⟩), funext fun a => Fin.ext ?_⟩
      match a with
      | ⟨0, _⟩ => exact (rA_emb0 i n _).trans (by show 768 * (i 1).val + 32 * n.val + ((y 0).val - (768 * (i 1).val + 32 * n.val)) = (y 0).val; omega)
      | ⟨1, _⟩ => exact rA_emb1 i n _
  · rintro (h | ⟨j, rfl⟩)
    · omega
    · have h0 := rA_emb0 i n j
      have hj0 : (j 0).val < 32 := (j 0).isLt
      omega

theorem doneA_not (i : grid0.Coords) (n : Fin 24) (j : S32x128.Idx) : (rA i n).emb j ∉ doneA i n.val := by
  have h0 := rA_emb0 i n j
  simp only [doneA, Set.mem_setOf_eq]; omega

theorem doneA_all (T : Tile F) (i : grid0.Coords) (A : Vec F S4608x128 .f32) : mix (doneA i 24) (llNext T i A) A = llNext T i A := by
  funext y
  by_cases h : y ∈ doneA i 24
  · rw [mix_mem _ _ _ _ h]
  · rw [mix_not_mem _ _ _ _ h]
    unfold llNext
    rw [dif_neg]
    intro h2
    exact h ⟨h2.1, by omega⟩

/-- The largest gradients after a row block. -/
def amaxP (T : Tile F) (i : grid0.Coords) (n : Fin 24) (a : FVec F S32x128 .f32) : FVec F S32x128 .f32 :=
  maximumf (maximumf (maximumf (maximumf a (absf (gradP T i n 0))) (absf (gradP T i n 1))) (absf (gradP T i n 2))) (absf (gradP T i n 3))

/-- And after `m` row blocks from the `n`-th on. -/
def amaxRun (T : Tile F) (i : grid0.Coords) : (m n : Nat) → n + m ≤ 24 → FVec F S32x128 .f32 → FVec F S32x128 .f32
  | 0, _, _, a => a
  | m + 1, n, h, a => amaxRun T i m (n + 1) (by omega) (amaxP T i ⟨n, by omega⟩ a)

/-- Half `m` of the tile's contribution to the activations' gradient, added to what was there. -/
def dxP (i : grid0.Coords) (m : Fin 2) (G : Vec F S768x512 .bf16) (W : Vec F S512x1536 .bf16) (X : Vec F S4608x1536 .f32) : FVec F S384x1536 .f32 :=
  shapeCast S384x1536 (addf (fun j => X ((rX i m).emb j)) (matmul dot_S384x512_S512x1536_S384x1536_1_0_0_1_n_n none (fun j => G ((rH m).emb j)) W (constant S384x1536 .f32 0x00000000#32))) shapeCasts_S384x1536_S384x1536

/-- The activations' gradient after half `m`. -/
def dxStep (i : grid0.Coords) (m : Fin 2) (G : Vec F S768x512 .bf16) (W : Vec F S512x1536 .bf16) (X : Vec F S4608x1536 .f32) : Vec F S4608x1536 .f32 :=
  put (rX i m) X (dxP i m G W X)

/-- The weights' gradient of the vocabulary tile after the point. -/
def dwNext (i : grid0.Coords) (G : Vec F S768x512 .bf16) (H : Vec F S4608x1536 .fp8e4m3) (D : Vec F S512x1536 .f32) : Vec F S512x1536 .f32 :=
  Scalar.select (Scalar.cmpi .eq (BitVec.ofNat 32 (i 1).val) 0#32)
      (matmul dot_S768x512_S768x1536_S512x1536_0_0_1_1_n_n none G (fun j => H ((Rect.unit (s := S4608x1536) (k0_off3 i) S768x1536.size (k0_off3_inb i)).emb j)) (constant S512x1536 .f32 0x00000000#32))
      (addf (shapeCast S512x1536 D shapeCasts_S512x1536_S512x1536)
        (matmul dot_S768x512_S768x1536_S512x1536_0_0_1_1_n_n none G (fun j => H ((Rect.unit (s := S4608x1536) (k0_off3 i) S768x1536.size (k0_off3_inb i)).emb j)) (constant S512x1536 .f32 0x00000000#32)))

/-- Zeros. -/
def zeroA : Vec F S4608x128 .f32 := broadcast S4608x128 (Scalar.ofBits .f32 0x00000000#32)
def zeroM : Vec F S32x128 .f32 := broadcast S32x128 (Scalar.ofBits .f32 0x00000000#32)
def zeroX : Vec F S4608x1536 .f32 := shapeCast S4608x1536 (broadcast S4608x1536 (Scalar.ofBits .f32 0x00000000#32)) shapeCasts_S4608x1536_S4608x1536

/-- The tile's weights as stored. -/
def wqNext (i : grid0.Coords) (w : Vec F S512x1536 .fp8e4m3) (ws : Vec F S512x1 .f32) : Vec F S512x1536 .bf16 :=
  shapeCast S512x1536 (weightVec (BitVec.ofNat 32 (i 0).val) w ws) shapeCasts_S512x1536_S512x1536

/-! ## The runs -/

theorem wp_laneGroup (c : Dev nD) (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (T : Tile F) (n : Fin 24) (k : Fin 4)
    (Y11 : Vec F S768x512 .fp8e5m2) (Y19 Y20 : Vec F S768x512 .bf16) (Q : FVec F S32x128 .f32 → sProp 𝕄) :
    iprop(owns (c : Thread nD τ) arg3 fullShare T.lg
        ∗ owns (c : Thread nD τ) arg11 fullShare (mix (doneT n.val k.val) (tileOf (codeP T i)) Y11)
        ∗ owns (c : Thread nD τ) arg19 fullShare (mix (doneT n.val k.val) (tileOf (deqP T i)) Y19)
        ∗ owns (c : Thread nD τ) arg20 fullShare (mix (doneT n.val k.val) (tileOf (wgtP T i)) Y20)
        ∗ (iprop(owns (c : Thread nD τ) arg3 fullShare T.lg
            ∗ owns (c : Thread nD τ) arg11 fullShare (mix (doneT n.val (k.val + 1)) (tileOf (codeP T i)) Y11)
            ∗ owns (c : Thread nD τ) arg19 fullShare (mix (doneT n.val (k.val + 1)) (tileOf (deqP T i)) Y19)
            ∗ owns (c : Thread nD τ) arg20 fullShare (mix (doneT n.val (k.val + 1)) (tileOf (wgtP T i)) Y20)) -∗ Q (lgP T n k)))
      ⊢ wp frame (wpE (defs₀ (F := F)) Variants.none (c : Thread nD τ) none) Set.univ
          (laneGroup i arg3 harg3 arg11 harg11 arg19 harg19 arg20 harg20 n k (invB T.v0) (mxP T n) (riP T n) (labP T n) (facP T n)) Q := by
  unfold laneGroup
  rw [← put_tile (codeP T i) Y11 n k, ← put_tile (deqP T i) Y19 n k, ← put_tile (wgtP T i) Y20 n k]
  iintro ⟨H3, H11, H19, H20, Hk⟩
  iapply (wp_load_owns Variants.none (c : Thread nD τ) none Set.univ) $$ H3
  iintro H3
  iapply (wp_load_owns Variants.none (c : Thread nD τ) none Set.univ) $$ H11
  iintro H11
  iapply (wp_store_owns Variants.none (c : Thread nD τ) none Set.univ) $$ H11
  iintro H11
  iapply (wp_load_owns Variants.none (c : Thread nD τ) none Set.univ) $$ H19
  iintro H19
  iapply (wp_store_owns Variants.none (c : Thread nD τ) none Set.univ) $$ H19
  iintro H19
  iapply (wp_load_owns Variants.none (c : Thread nD τ) none Set.univ) $$ H20
  iintro H20
  iapply (wp_store_owns Variants.none (c : Thread nD τ) none Set.univ) $$ H20
  iintro H20
  iapply (le_wp_ret _ _ _ (lgP T n k) _)
  iapply Hk
  isplitl [H3]; · iexact H3
  isplitl [H11]; · iexact H11
  isplitl [H19]; · iexact H19
  iexact H20

theorem wp_laneGroup_bind (c : Dev nD) (i : grid0.Coords) (arg3 : Memref sig .tc .vmem S1x768x512 .f32) (harg3 : arg3.IsWhole) (arg11 : Memref sig .tc .vmem S768x512 .fp8e5m2) (harg11 : arg11.IsWhole) (arg19 : Memref sig .tc .vmem S768x512 .bf16) (harg19 : arg19.IsWhole) (arg20 : Memref sig .tc .vmem S768x512 .bf16) (harg20 : arg20.IsWhole) (T : Tile F) (n : Fin 24) (k : Fin 4)
    (Y11 : Vec F S768x512 .fp8e5m2) (Y19 Y20 : Vec F S768x512 .bf16) {α : Type} (kk : FVec F S32x128 .f32 → Prog (TpuEff nD τ sig (Elt F) Λ₀ .tc) α) (Q : α → sProp 𝕄) :
    iprop(owns (c : Thread nD τ) arg3 fullShare (T.lg)
        ∗ owns (c : Thread nD τ) arg11 fullShare (mix (doneT n.val k.val) (tileOf (codeP T i)) Y11)
        ∗ owns (c : Thread nD τ) arg19 fullShare (mix (doneT n.val k.val) (tileOf (deqP T i)) Y19)
        ∗ owns (c : Thread nD τ) arg20 fullShare (mix (doneT n.val k.val) (tileOf (wgtP T i)) Y20)
        ∗ (iprop(owns (c : Thread nD τ) arg3 fullShare (T.lg)
        ∗ owns (c : Thread nD τ) arg11 fullShare (mix (doneT n.val (k.val + 1)) (tileOf (codeP T i)) Y11)
        ∗ owns (c : Thread nD τ) arg19 fullShare (mix (doneT n.val (k.val + 1)) (tileOf (deqP T i)) Y19)
        ∗ owns (c : Thread nD τ) arg20 fullShare (mix (doneT n.val (k.val + 1)) (tileOf (wgtP T i)) Y20)) -∗ wp frame (wpE (defs₀ (F := F)) Variants.none (c : Thread nD τ) none) Set.univ (kk (lgP T n k)) Q))
      ⊢ wp frame (wpE (defs₀ (F := F)) Variants.none (c : Thread nD τ) none) Set.univ
          (laneGroup i arg3 harg3 arg11 harg11 arg19 harg19 arg20 harg20 n k (invB T.v0) (mxP T n) (riP T n) (labP T n) (facP T n) >>= kk) Q := by
  rw [wp_bind]
  exact wp_laneGroup c i arg3 harg3 arg11 harg11 arg19 harg19 arg20 harg20 T n k Y11 Y19 Y20 (fun x => wp frame (wpE (defs₀ (F := F)) Variants.none (c : Thread nD τ) none) Set.univ (kk x) Q)

theorem wp_rowBlock (c : Dev nD) (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (T : Tile F) (n : Fin 24) (a : FVec F S32x128 .f32)
    (A : Vec F S4608x128 .f32) (Y11 : Vec F S768x512 .fp8e5m2) (Y19 Y20 : Vec F S768x512 .bf16) (Q : FVec F S32x128 .f32 → sProp 𝕄) :
    iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i n.val) (llNext T i A) A)
        ∗ owns (c : Thread nD τ) arg11 fullShare (mix (doneT n.val 0) (tileOf (codeP T i)) Y11)
        ∗ owns (c : Thread nD τ) arg19 fullShare (mix (doneT n.val 0) (tileOf (deqP T i)) Y19)
        ∗ owns (c : Thread nD τ) arg20 fullShare (mix (doneT n.val 0) (tileOf (wgtP T i)) Y20)
        ∗ (iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i (n.val + 1)) (llNext T i A) A)
        ∗ owns (c : Thread nD τ) arg11 fullShare (mix (doneT (n.val + 1) 0) (tileOf (codeP T i)) Y11)
        ∗ owns (c : Thread nD τ) arg19 fullShare (mix (doneT (n.val + 1) 0) (tileOf (deqP T i)) Y19)
        ∗ owns (c : Thread nD τ) arg20 fullShare (mix (doneT (n.val + 1) 0) (tileOf (wgtP T i)) Y20)) -∗ Q (amaxP T i n a)))
      ⊢ wp frame (wpE (defs₀ (F := F)) Variants.none (c : Thread nD τ) none) Set.univ
          (rowBlock i arg3 harg3 arg4 harg4 arg5 harg5 arg6 harg6 arg7 harg7 arg11 harg11 arg14 harg14 arg19 harg19 arg20 harg20 T.v0 n a) Q := by
  have hll : (fun j => mix (doneA i n.val) (llNext T i A) A ((rA i n).emb j)) = fun j => A ((rA i n).emb j) :=
    funext fun j => mix_not_mem _ _ _ _ (doneA_not i n j)
  have hput : put (rA i n) (mix (doneA i n.val) (llNext T i A) A) (llP T i A n) = mix (doneA i (n.val + 1)) (llNext T i A) A :=
    put_mix _ _ _ _ _ _ (fun j => (llNext_emb T i A n j).symm) (doneA_succ i n)
  rw [← hput, ← doneT_four]
  unfold rowBlock
  iintro ⟨H3, H4, H5, H6, H7, H14, H11, H19, H20, Hk⟩
  iapply (wp_load_owns Variants.none (c : Thread nD τ) none Set.univ) $$ H4
  iintro H4
  iapply (wp_load_owns Variants.none (c : Thread nD τ) none Set.univ) $$ H5
  iintro H5
  iapply (wp_load_owns Variants.none (c : Thread nD τ) none Set.univ) $$ H6
  iintro H6
  iapply (wp_load_owns Variants.none (c : Thread nD τ) none Set.univ) $$ H7
  iintro H7
  iapply (wp_load_owns Variants.none (c : Thread nD τ) none Set.univ) $$ H14
  iintro H14
  iapply (wp_laneGroup_bind c i arg3 harg3 arg11 harg11 arg19 harg19 arg20 harg20 T n 0 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 1 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 2 Y11 Y19 Y20)
  isplitl [H3]; · iexact H3
  isplitl [H11]; · iexact H11
  isplitl [H19]; · iexact H19
  isplitl [H20]; · iexact H20
  iintro ⟨H3, H11, H19, H20⟩
  iapply (wp_laneGroup_bind c i arg3 harg3 arg11 harg11 arg19 harg19 arg20 harg20 T n 3 Y11 Y19 Y20)
  isplitl [H3]; · iexact H3
  isplitl [H11]; · iexact H11
  isplitl [H19]; · iexact H19
  isplitl [H20]; · iexact H20
  iintro ⟨H3, H11, H19, H20⟩
  iapply (wp_load_owns Variants.none (c : Thread nD τ) none Set.univ) $$ H14
  iintro H14
  rw [hll]
  iapply (wp_store_owns Variants.none (c : Thread nD τ) none Set.univ) $$ H14
  iintro H14
  iapply (le_wp_ret _ _ _ (amaxP T i n a) _)
  iapply Hk
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  iexact H20

theorem wp_rowBlocks (c : Dev nD) (i : grid0.Coords) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg11 : Memref sig .tc .vmem S768x512 .fp8e5m2) (harg11 : arg11.IsWhole) (arg14 : Memref sig .tc .vmem S4608x128 .f32) (harg14 : arg14.IsWhole) (arg19 : Memref sig .tc .vmem S768x512 .bf16) (harg19 : arg19.IsWhole) (arg20 : Memref sig .tc .vmem S768x512 .bf16) (harg20 : arg20.IsWhole) (T : Tile F)
    (A : Vec F S4608x128 .f32) (Y11 : Vec F S768x512 .fp8e5m2) (Y19 Y20 : Vec F S768x512 .bf16) (Q : FVec F S32x128 .f32 → sProp 𝕄) :
    ∀ (m n : Nat) (h : n + m ≤ 24) (a : FVec F S32x128 .f32),
    iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i n) (llNext T i A) A)
        ∗ owns (c : Thread nD τ) arg11 fullShare (mix (doneT n 0) (tileOf (codeP T i)) Y11)
        ∗ owns (c : Thread nD τ) arg19 fullShare (mix (doneT n 0) (tileOf (deqP T i)) Y19)
        ∗ owns (c : Thread nD τ) arg20 fullShare (mix (doneT n 0) (tileOf (wgtP T i)) Y20)
        ∗ (iprop(owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg14 fullShare (mix (doneA i (n + m)) (llNext T i A) A)
        ∗ owns (c : Thread nD τ) arg11 fullShare (mix (doneT (n + m) 0) (tileOf (codeP T i)) Y11)
        ∗ owns (c : Thread nD τ) arg19 fullShare (mix (doneT (n + m) 0) (tileOf (deqP T i)) Y19)
        ∗ owns (c : Thread nD τ) arg20 fullShare (mix (doneT (n + m) 0) (tileOf (wgtP T i)) Y20)) -∗ Q (amaxRun T i m n h a)))
      ⊢ wp frame (wpE (defs₀ (F := F)) Variants.none (c : Thread nD τ) none) Set.univ
          (rowBlocks i arg3 harg3 arg4 harg4 arg5 harg5 arg6 harg6 arg7 harg7 arg11 harg11 arg14 harg14 arg19 harg19 arg20 harg20 T.v0 m n h a) Q := by
  intro m
  induction m with
  | zero =>
    intro n h a
    unfold rowBlocks
    iintro ⟨H3, H4, H5, H6, H7, H14, H11, H19, H20, Hk⟩
    iapply (le_wp_ret _ _ _ (amaxRun T i 0 n h a) _)
    iapply Hk
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    iexact H20
  | succ m ih =>
    intro n h a
    unfold rowBlocks
    rw [wp_bind]
    have hn : n < 24 := by omega
    have hm : n + 1 + m ≤ 24 := by omega
    rw [show n + (m + 1) = n + 1 + m by omega]
    iintro ⟨H3, H4, H5, H6, H7, H14, H11, H19, H20, Hk⟩
    iapply (wp_rowBlock c i arg3 harg3 arg4 harg4 arg5 harg5 arg6 harg6 arg7 harg7 arg11 harg11 arg14 harg14 arg19 harg19 arg20 harg20 T ⟨n, hn⟩ a A Y11 Y19 Y20)
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    isplitl [H20]; · iexact H20
    iintro ⟨H3, H4, H5, H6, H7, H14, H11, H19, H20⟩
    iapply (ih (n + 1) hm (amaxP T i ⟨n, hn⟩ a))
    isplitl [H3]; · iexact H3
    isplitl [H4]; · iexact H4
    isplitl [H5]; · iexact H5
    isplitl [H6]; · iexact H6
    isplitl [H7]; · iexact H7
    isplitl [H14]; · iexact H14
    isplitl [H11]; · iexact H11
    isplitl [H19]; · iexact H19
    isplitl [H20]; · iexact H20
    iexact Hk

theorem off2_zero : ∀ a : Fin 2, (![0, 0] : Fin 2 → Nat) a = 0 := by decide

theorem wp_dxHalf (c : Dev nD) (i : grid0.Coords) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (m : Fin 2) (X : Vec F S4608x1536 .f32) (W : Vec F S512x1536 .bf16) (G : Vec F S768x512 .bf16) (Q : PUnit → sProp 𝕄) :
    iprop(owns (c : Thread nD τ) arg17 fullShare (X)
        ∗ owns (c : Thread nD τ) arg18 fullShare (W)
        ∗ owns (c : Thread nD τ) arg19 fullShare (G)
        ∗ (iprop(owns (c : Thread nD τ) arg17 fullShare (dxStep i m G W X)
        ∗ owns (c : Thread nD τ) arg18 fullShare (W)
        ∗ owns (c : Thread nD τ) arg19 fullShare (G)) -∗ Q ⟨⟩))
      ⊢ wp frame (wpE (defs₀ (F := F)) Variants.none (c : Thread nD τ) none) Set.univ (dxHalf i arg17 harg17 arg18 harg18 arg19 harg19 m) Q := by
  unfold dxHalf dxStep
  iintro ⟨H17, H18, H19, Hk⟩
  iapply (wp_load_owns Variants.none (c : Thread nD τ) none Set.univ) $$ H17
  iintro H17
  iapply (wp_load_owns Variants.none (c : Thread nD τ) none Set.univ) $$ H19
  iintro H19
  iapply (wp_load_full Variants.none (c : Thread nD τ) none Set.univ off2_zero) $$ H18
  iintro H18
  iapply (wp_load_owns Variants.none (c : Thread nD τ) none Set.univ) $$ H17
  iintro H17
  iapply (wp_store_owns Variants.none (c : Thread nD τ) none Set.univ) $$ H17
  iintro H17
  iapply (le_wp_ret _ _ _ _ _)
  iapply Hk
  isplitl [H17]; · iexact H17
  isplitl [H18]; · iexact H18
  iexact H19

theorem wp_dwTile (c : Dev nD) (i : grid0.Coords) (arg8 : Memref sig .tc .vmem S4608x1536 .fp8e4m3) (harg8 : arg8.IsWhole) (arg12 : Memref sig .tc .vmem S512x1536 .f32) (harg12 : arg12.IsWhole) (arg20 : Memref sig .tc .vmem S768x512 .bf16) (harg20 : arg20.IsWhole) (H : Vec F S4608x1536 .fp8e4m3) (D : Vec F S512x1536 .f32) (G : Vec F S768x512 .bf16) (Q : PUnit → sProp 𝕄) :
    iprop(owns (c : Thread nD τ) arg8 fullShare (H)
        ∗ owns (c : Thread nD τ) arg12 fullShare (D)
        ∗ owns (c : Thread nD τ) arg20 fullShare (G)
        ∗ (iprop(owns (c : Thread nD τ) arg8 fullShare (H)
        ∗ owns (c : Thread nD τ) arg12 fullShare (dwNext i G H D)
        ∗ owns (c : Thread nD τ) arg20 fullShare (G)) -∗ Q ⟨⟩))
      ⊢ wp frame (wpE (defs₀ (F := F)) Variants.none (c : Thread nD τ) none) Set.univ (dwTile i arg8 harg8 arg12 harg12 arg20 harg20) Q := by
  unfold dwTile dwNext
  iintro ⟨H8, H12, H20, Hk⟩
  iapply (wp_load_full Variants.none (c : Thread nD τ) none Set.univ off2_zero) $$ H20
  iintro H20
  iapply (wp_load_owns Variants.none (c : Thread nD τ) none Set.univ) $$ H8
  iintro H8
  iapply (wp_load_full Variants.none (c : Thread nD τ) none Set.univ off2_zero) $$ H12
  iintro H12
  iapply (wp_load_full Variants.none (c : Thread nD τ) none Set.univ off2_zero) $$ H12
  iintro H12
  iapply (wp_store_full Variants.none (c : Thread nD τ) none Set.univ off2_zero) $$ H12
  iintro H12
  iapply (le_wp_ret _ _ _ _ _)
  iapply Hk
  isplitl [H8]; · iexact H8
  isplitl [H12]; · iexact H12
  iexact H20

theorem wp_initBufs (c : Dev nD) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) (A : Vec F S4608x128 .f32) (M : Vec F S32x128 .f32) (S : Vec F S1x1 .f32) (X : Vec F S4608x1536 .f32) (Q : PUnit → sProp 𝕄) :
    iprop(owns (c : Thread nD τ) arg14 fullShare (A)
        ∗ owns (c : Thread nD τ) arg15 fullShare (M)
        ∗ owns (c : Thread nD τ) arg16 fullShare (S)
        ∗ owns (c : Thread nD τ) arg17 fullShare (X)
        ∗ (iprop(owns (c : Thread nD τ) arg14 fullShare (zeroA)
        ∗ owns (c : Thread nD τ) arg15 fullShare (zeroM)
        ∗ owns (c : Thread nD τ) arg16 fullShare (sc)
        ∗ owns (c : Thread nD τ) arg17 fullShare (zeroX)) -∗ Q ⟨⟩))
      ⊢ wp frame (wpE (defs₀ (F := F)) Variants.none (c : Thread nD τ) none) Set.univ (initBufs arg14 harg14 arg15 harg15 arg16 harg16 arg17 harg17 sc) Q := by
  unfold initBufs zeroA zeroM zeroX
  iintro ⟨H14, H15, H16, H17, Hk⟩
  iapply (wp_load_full Variants.none (c : Thread nD τ) none Set.univ off2_zero) $$ H16
  iintro H16
  iapply (wp_store_full Variants.none (c : Thread nD τ) none Set.univ off2_zero) $$ H16
  iintro H16
  iapply (wp_load_full Variants.none (c : Thread nD τ) none Set.univ off2_zero) $$ H15
  iintro H15
  iapply (wp_store_full Variants.none (c : Thread nD τ) none Set.univ off2_zero) $$ H15
  iintro H15
  iapply (wp_load_full Variants.none (c : Thread nD τ) none Set.univ off2_zero) $$ H14
  iintro H14
  iapply (wp_store_full Variants.none (c : Thread nD τ) none Set.univ off2_zero) $$ H14
  iintro H14
  iapply (wp_load_full Variants.none (c : Thread nD τ) none Set.univ off2_zero) $$ H17
  iintro H17
  iapply (wp_store_full Variants.none (c : Thread nD τ) none Set.univ off2_zero) $$ H17
  iintro H17
  iapply (le_wp_ret _ _ _ _ _)
  iapply Hk
  isplitl [H14]; · iexact H14
  isplitl [H15]; · iexact H15
  isplitl [H16]; · iexact H16
  iexact H17

theorem wp_weightTile (c : Dev nD) (i : grid0.Coords) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) (w : Vec F S512x1536 .fp8e4m3) (ws : Vec F S512x1 .f32) (W : Vec F S512x1536 .bf16) (Q : PUnit → sProp 𝕄) :
    iprop(owns (c : Thread nD τ) arg9 fullShare (w)
        ∗ owns (c : Thread nD τ) arg10 fullShare (ws)
        ∗ owns (c : Thread nD τ) arg18 fullShare (W)
        ∗ (iprop(owns (c : Thread nD τ) arg9 fullShare (w)
        ∗ owns (c : Thread nD τ) arg10 fullShare (ws)
        ∗ owns (c : Thread nD τ) arg18 fullShare (wqNext i w ws)) -∗ Q ⟨⟩))
      ⊢ wp frame (wpE (defs₀ (F := F)) Variants.none (c : Thread nD τ) none) Set.univ (weightTile (BitVec.ofNat 32 (i 0).val) arg9 harg9 arg10 harg10 arg18 harg18) Q := by
  unfold weightTile wqNext
  iintro ⟨H9, H10, H18, Hk⟩
  iapply (wp_load_full Variants.none (c : Thread nD τ) none Set.univ off2_zero) $$ H9
  iintro H9
  iapply (wp_load_full Variants.none (c : Thread nD τ) none Set.univ off2_zero) $$ H10
  iintro H10
  iapply (wp_load_full Variants.none (c : Thread nD τ) none Set.univ off2_zero) $$ H18
  iintro H18
  iapply (wp_store_full Variants.none (c : Thread nD τ) none Set.univ off2_zero) $$ H18
  iintro H18
  iapply (le_wp_ret _ _ _ _ _)
  iapply Hk
  isplitl [H9]; · iexact H9
  isplitl [H10]; · iexact H10
  iexact H18

end Cert.KernelIdeal.Hand

end
-- ==== Proof.Hand.LoopI.lean ====
/- What the `grad` body computes at a grid point, buffer by buffer, and the run of the structured body (`bodyS`) to it.
   A buffer rewritten a rectangle at a time is `mix`ed part of the way. -/
module

public import proofs.«01_k».proof.Proof.Hand.BodyI
public import proofs.«01_k».proof.Proof.Hand.Rules
public import proofs.«01_k».proof.Proof.Hand.RunI
public import Idealize.ShloMosaic.Lib.Pipeline.FrameBody
public import Idealize.ShloMosaic.Lib.Tactic

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

/-- What the HBM result holds: `P`, over the whole buffer. -/
def hbmAt (c : Dev nD) (arg13 : Memref sig .tc .hbm S4608x1536 .bf16) (P : Vec F S4608x1536 .bf16) : sProp 𝕄 :=
  iprop(∃ g, ⌜arg13.view.read (Elt F) g = P⌝ ∗ (arg13.view.loc (c : Thread nD τ) ↦{fullShare} g))

theorem wp_trip (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32) (k0_h3 : k0_cond3 i = 1#1)
    (k : Fin k0_t1_loop.trips) (X : Vec F S4608x1536 .f32) (P : Vec F S4608x1536 .bf16) :
    iprop(owns (c : Thread nD τ) arg17 fullShare X ∗ (∃ Y, owns (c : Thread nD τ) arg18 fullShare Y) ∗ hbmAt c arg13 P ∗ semVal ((c : Thread nD τ), SemLoc.dma arg21.sem) 0 ∗ (∃ W, owes (c : Thread nD τ) 0 W))
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k PUnit.unit)
          (fun _ => iprop(owns (c : Thread nD τ) arg17 fullShare X ∗ (∃ Y, owns (c : Thread nD τ) arg18 fullShare Y)
            ∗ hbmAt c arg13 (put (Rect.unit (s := S4608x1536) (k0_off5 k) S512x1536.size (k0_off5_inb i k k0_h3)) P
                (k0_pay2 v73 (fun j => X ((Rect.unit (s := S4608x1536) (k0_off4 k) S512x1536.size (k0_off4_inb i k k0_h3)).emb j))))
            ∗ semVal ((c : Thread nD τ), SemLoc.dma arg21.sem) 0 ∗ (∃ W, owes (c : Thread nD τ) 0 W))) := by
  iintro ⟨H17, ⟨%Y, H18⟩, H13, HC, ⟨%W, HO⟩⟩
  unfold k0_t1_body
  iapply (wp_load_owns Variants.none (c : Thread nD τ) none Set.univ) $$ H17
  iintro H17
  iapply (wp_load_full Variants.none (c : Thread nD τ) none Set.univ off2_zero) $$ H18
  iintro H18
  iapply (wp_store_full Variants.none (c : Thread nD τ) none Set.univ off2_zero) $$ H18
  iintro H18
  unfold owns hbmAt
  icases H18 with ⟨%f18, %h18, H18⟩
  icases H13 with ⟨%g, %hg, H13⟩
  rw [Prog.bind]
  sl_exec
  sl_step
  isplitl [H17]; · iexact H17
  isplitl [H18]
  · iexists (arg18.view.read (Elt F) f18); iexists f18; isplitr; · ipureintro; rfl
    iexact H18
  isplitl [H13]
  · iexists (wp_trip.sl.H13_w0 c i arg13 arg18 k0_h3 k f18 g); isplitr
    swap; · iexact H13
    ipureintro
    unfold wp_trip.sl.H13_w0
    rw [← hg]
    exact (read_writes_put arg13.view _ _ g).trans (congrArg (put _ _) h18)
  isplitl [HC]; · iexact HC
  iexists _; iexact HO

/-- The activations' gradient as the last grid point copies it out: scaled, a block of 512 rows at a time. -/
def dxOut (v : FVec F S1x1 .f32) (X : Vec F S4608x1536 .f32) : Vec F S4608x1536 .bf16 := fun y =>
  k0_pay2 v (fun j => X (fun a => match a with
      | ⟨0, _⟩ => ⟨512 * ((y 0).val / 512) + (j 0).val, by
          have h1 : (y 0).val < 4608 := (y 0).isLt
          have h2 : (j 0).val < 512 := (j 0).isLt
          show 512 * ((y 0).val / 512) + (j 0).val < 4608; omega⟩
      | ⟨1, _⟩ => ⟨(j 1).val, (j 1).isLt⟩))
    (fun a => match a with
      | ⟨0, _⟩ => ⟨(y 0).val % 512, by show (y 0).val % 512 < 512; omega⟩
      | ⟨1, _⟩ => ⟨(y 1).val, (y 1).isLt⟩)

theorem trips_eq : k0_t1_loop.trips = 9 := by decide +kernel

theorem rO_emb0 (i : grid0.Coords) (k : Fin k0_t1_loop.trips) (h3 : k0_cond3 i = 1#1) (j : S512x1536.Idx) :
    (((Rect.unit (s := S4608x1536) (k0_off5 k) S512x1536.size (k0_off5_inb i k h3)).emb j) 0).val = 512 * k.val + (j 0).val := by
  show k0_off5 k 0 + 1 * (j 0).val = _
  rw [k0_off5_eq]; show 512 * k.val + 1 * (j 0).val = _; omega
theorem rO_emb1 (i : grid0.Coords) (k : Fin k0_t1_loop.trips) (h3 : k0_cond3 i = 1#1) (j : S512x1536.Idx) :
    (((Rect.unit (s := S4608x1536) (k0_off5 k) S512x1536.size (k0_off5_inb i k h3)).emb j) 1).val = (j 1).val := by
  show k0_off5 k 1 + 1 * (j 1).val = _
  rw [k0_off5_eq]; show 0 + 1 * (j 1).val = _; omega
theorem rI_emb0 (i : grid0.Coords) (k : Fin k0_t1_loop.trips) (h3 : k0_cond3 i = 1#1) (j : S512x1536.Idx) :
    (((Rect.unit (s := S4608x1536) (k0_off4 k) S512x1536.size (k0_off4_inb i k h3)).emb j) 0).val = 512 * k.val + (j 0).val := by
  show k0_off4 k 0 + 1 * (j 0).val = _
  rw [k0_off4_eq]; show 512 * k.val + 1 * (j 0).val = _; omega
theorem rI_emb1 (i : grid0.Coords) (k : Fin k0_t1_loop.trips) (h3 : k0_cond3 i = 1#1) (j : S512x1536.Idx) :
    (((Rect.unit (s := S4608x1536) (k0_off4 k) S512x1536.size (k0_off4_inb i k h3)).emb j) 1).val = (j 1).val := by
  show k0_off4 k 1 + 1 * (j 1).val = _
  rw [k0_off4_eq]; show 0 + 1 * (j 1).val = _; omega

theorem dxOut_emb (v : FVec F S1x1 .f32) (X : Vec F S4608x1536 .f32) (i : grid0.Coords) (k : Fin k0_t1_loop.trips) (h3 : k0_cond3 i = 1#1) (j : S512x1536.Idx) :
    k0_pay2 v (fun j => X ((Rect.unit (s := S4608x1536) (k0_off4 k) S512x1536.size (k0_off4_inb i k h3)).emb j)) j
      = dxOut v X ((Rect.unit (s := S4608x1536) (k0_off5 k) S512x1536.size (k0_off5_inb i k h3)).emb j) := by
  have hj : (j 0).val < 512 := (j 0).isLt
  have e0 := rO_emb0 i k h3 j
  have e1 := rO_emb1 i k h3 j
  have key : ∀ (A B : Vec F S512x1536 .f32) (x y : S512x1536.Idx), A = B → x = y → k0_pay2 v A x = k0_pay2 v B y := by
    rintro _ _ _ _ rfl rfl; rfl
  unfold dxOut
  refine key _ _ _ _ (funext fun j' => congrArg X (funext fun a => Fin.ext ?_)) (funext fun a => Fin.ext ?_)
  · have hj' : (j' 0).val < 512 := (j' 0).isLt
    match a with
    | ⟨0, _⟩ => exact (rI_emb0 i k h3 j').trans (by show 512 * k.val + (j' 0).val = 512 * ((((Rect.unit (s := S4608x1536) (k0_off5 k) S512x1536.size (k0_off5_inb i k h3)).emb j) 0).val / 512) + (j' 0).val; omega)
    | ⟨1, _⟩ => exact rI_emb1 i k h3 j'
  · match a with
    | ⟨0, _⟩ => show (j 0).val = (((Rect.unit (s := S4608x1536) (k0_off5 k) S512x1536.size (k0_off5_inb i k h3)).emb j) 0).val % 512; omega
    | ⟨1, _⟩ => exact e1.symm

/-- The rows copied out before trip `k`. -/
def doneP (k : Nat) : Set S4608x1536.Idx := {y | (y 0).val < 512 * k}

theorem put_trip (v : FVec F S1x1 .f32) (X : Vec F S4608x1536 .f32) (P : Vec F S4608x1536 .bf16) (i : grid0.Coords) (k : Fin k0_t1_loop.trips) (h3 : k0_cond3 i = 1#1) :
    put (Rect.unit (s := S4608x1536) (k0_off5 k) S512x1536.size (k0_off5_inb i k h3)) (mix (doneP k.val) (dxOut v X) P)
        (k0_pay2 v (fun j => X ((Rect.unit (s := S4608x1536) (k0_off4 k) S512x1536.size (k0_off4_inb i k h3)).emb j)))
      = mix (doneP (k.val + 1)) (dxOut v X) P := by
  refine put_mix _ _ _ _ _ _ (dxOut_emb v X i k h3) fun y => ?_
  simp only [doneP, Set.mem_setOf_eq]
  constructor
  · intro h
    by_cases h2 : (y 0).val < 512 * k.val
    · exact .inl h2
    · refine .inr ⟨(fun a => match a with
        | ⟨0, _⟩ => ⟨(y 0).val - 512 * k.val, by show (y 0).val - 512 * k.val < 512; omega⟩
        | ⟨1, _⟩ => ⟨(y 1).val, (y 1).isLt⟩), funext fun a => Fin.ext ?_⟩
      match a with
      | ⟨0, _⟩ => exact (rO_emb0 i k h3 _).trans (by show 512 * k.val + ((y 0).val - 512 * k.val) = (y 0).val; omega)
      | ⟨1, _⟩ => exact rO_emb1 i k h3 _
  · rintro (h | ⟨j, he⟩)
    · omega
    · have h0 : (y 0).val = 512 * k.val + (j 0).val := he ▸ rO_emb0 i k h3 j
      have hj : (j 0).val < 512 := (j 0).isLt
      omega

theorem wp_loop (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32) (k0_h3 : k0_cond3 i = 1#1)
    (X : Vec F S4608x1536 .f32) (P : Vec F S4608x1536 .bf16) (Q : PUnit → sProp 𝕄) :
    iprop(owns (c : Thread nD τ) arg17 fullShare X ∗ (∃ Y, owns (c : Thread nD τ) arg18 fullShare Y) ∗ hbmAt c arg13 P ∗ semVal ((c : Thread nD τ), SemLoc.dma arg21.sem) 0 ∗ (∃ W, owes (c : Thread nD τ) 0 W)
        ∗ (iprop(owns (c : Thread nD τ) arg17 fullShare X ∗ (∃ Y, owns (c : Thread nD τ) arg18 fullShare Y) ∗ hbmAt c arg13 (dxOut v73 X) ∗ semVal ((c : Thread nD τ), SemLoc.dma arg21.sem) 0 ∗ (∃ W, owes (c : Thread nD τ) 0 W)) -∗ Q ⟨⟩))
      ⊢ wp frame (wpE (defs₀ (F := F)) Variants.none (c : Thread nD τ) none) Set.univ
          (Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)) Q := by
  have hE : mix (doneP 0) (dxOut v73 X) P = P := by
    rw [show doneP 0 = ∅ from by ext y; simp only [doneP, Set.mem_setOf_eq, Set.mem_empty_iff_false, iff_false]; omega, mix_empty]
  have hU : mix (doneP k0_t1_loop.trips) (dxOut v73 X) P = dxOut v73 X :=
    mix_univ _ _ _ fun y => by
      have h : (y 0).val < 4608 := (y 0).isLt
      simp only [doneP, Set.mem_setOf_eq, trips_eq]; omega
  have hstep : ∀ (k : Fin k0_t1_loop.trips) (acc : PUnit), iprop(owns (c : Thread nD τ) arg17 fullShare X ∗ (∃ Y, owns (c : Thread nD τ) arg18 fullShare Y) ∗ hbmAt c arg13 (mix (doneP k.val) (dxOut v73 X) P) ∗ semVal ((c : Thread nD τ), SemLoc.dma arg21.sem) 0 ∗ (∃ W, owes (c : Thread nD τ) 0 W))
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k acc)
        (fun _ => iprop(owns (c : Thread nD τ) arg17 fullShare X ∗ (∃ Y, owns (c : Thread nD τ) arg18 fullShare Y) ∗ hbmAt c arg13 (mix (doneP (k.val + 1)) (dxOut v73 X) P) ∗ semVal ((c : Thread nD τ), SemLoc.dma arg21.sem) 0 ∗ (∃ W, owes (c : Thread nD τ) 0 W))) := by
    intro k acc
    have h := wp_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3 k X (mix (doneP k.val) (dxOut v73 X) P)
    rw [put_trip v73 X P i k k0_h3] at h
    exact h
  have hfor := Scf.wp_for frame (wpE (defs₀ (F := F)) Variants.none (c : Thread nD τ) none) Set.univ k0_t1_loop.lb k0_t1_loop.ub k0_t1_loop.st (k0_t1_ok i k0_h3) PUnit.unit
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)
    (fun (k : Nat) (_ : PUnit) => iprop(owns (c : Thread nD τ) arg17 fullShare X ∗ (∃ Y, owns (c : Thread nD τ) arg18 fullShare Y) ∗ hbmAt c arg13 (mix (doneP k) (dxOut v73 X) P) ∗ semVal ((c : Thread nD τ), SemLoc.dma arg21.sem) 0 ∗ (∃ W, owes (c : Thread nD τ) 0 W)))
    (Q := Q) hstep
  dsimp only at hfor
  rw [hE, show Scf.trips k0_t1_loop.lb k0_t1_loop.ub k0_t1_loop.st = k0_t1_loop.trips from rfl, hU] at hfor
  iintro ⟨H17, H18, H13, HC, HO, Hk⟩
  iapply hfor
  isplitl [H17 H18 H13 HC HO]
  · isplitl [H17]; · iexact H17
    isplitl [H18]; · iexact H18
    isplitl [H13]; · iexact H13
    isplitl [HC]; · iexact HC
    iexact HO
  · iintro %acc H
    iapply Hk
    iexact H
/-- The whole body, its conditionals as programs run one after the other. -/
def bodyB (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) : Prog (TpuEff nD τ sig (Elt F) Λ₀ .tc) PUnit := do
  let v0 : Vec F S1x16 .f32 ← Prog.lift (.load arg2 (Rect.unit (s := S1x16) ![0, 0] S1x16.size inb_S1x16_S1x16_0_0).toLoadRect (View.loadsAt_vmem h_S1x16))
  let _ : PUnit ← (if k0_h1 : k0_cond1 i = 1#1 then initBufs arg14 harg14 arg15 harg15 arg16 harg16 arg17 harg17 (scaleVec v0) else pure ⟨⟩)
  let _ : PUnit ← (if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩)
  let v110 : Vec F S32x128 .f32 ← Prog.lift (.load arg15 (Rect.unit (s := S32x128) ![0, 0] S32x128.size inb_S32x128_S32x128_0_0).toLoadRect (View.loadsAt_vmem h_S32x128))
  let a12 ← rowBlocks i arg3 harg3 arg4 harg4 arg5 harg5 arg6 harg6 arg7 harg7 arg11 harg11 arg14 harg14 arg19 harg19 arg20 harg20 v0 12 0 (by omega) (shapeCast S32x128 v110 shapeCasts_S32x128_S32x128)
  dxHalf i arg17 harg17 arg18 harg18 arg19 harg19 0
  let a24 ← rowBlocks i arg3 harg3 arg4 harg4 arg5 harg5 arg6 harg6 arg7 harg7 arg11 harg11 arg14 harg14 arg19 harg19 arg20 harg20 v0 12 12 (by omega) a12
  dxHalf i arg17 harg17 arg18 harg18 arg19 harg19 1
  let _ : Vec F S32x128 .f32 ← Prog.lift (.load arg15 (Rect.unit (s := S32x128) ![0, 0] S32x128.size inb_S32x128_S32x128_0_0).toLoadRect (View.loadsAt_vmem h_S32x128))
  Prog.lift (.store arg15 (Rect.unit (s := S32x128) ![0, 0] S32x128.size inb_S32x128_S32x128_0_0) a24 Finset.univ (View.stores_vmem_bits_univ h_S32x128 rfl) (.inl rfl))
  dwTile i arg8 harg8 arg12 harg12 arg20 harg20
  (if k0_h3 : k0_cond3 i = 1#1 then do
    Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec v0) k0_h3)
    pure ⟨⟩
  else pure ⟨⟩)

theorem dite_bind {p : Prop} [Decidable p] {β : Type} (a : p → Prog (TpuEff nD τ sig (Elt F) Λ₀ .tc) PUnit)
    (k : PUnit → Prog (TpuEff nD τ sig (Elt F) Λ₀ .tc) β) : (if h : p then a h >>= k else k ⟨⟩) = ((if h : p then a h else pure ⟨⟩) >>= k) := by
  by_cases h : p
  · rw [dif_pos h, dif_pos h]
  · rw [dif_neg h, dif_neg h]; rfl

theorem bodyS_eq (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) :
    bodyS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = bodyB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold bodyS bodyB
  refine congrArg (Bind.bind _) (funext fun v0 => ?_)
  refine (dite_bind _ _).trans (congrArg (Bind.bind _) (funext fun _ => ?_))
  refine (dite_bind _ _).trans (congrArg (Bind.bind _) (funext fun _ => ?_))
  refine congrArg (Bind.bind _) (funext fun v110 => ?_)
  refine congrArg (Bind.bind _) (funext fun a12 => ?_)
  refine congrArg (Bind.bind _) (funext fun _ => ?_)
  refine congrArg (Bind.bind _) (funext fun a24 => ?_)
  refine congrArg (Bind.bind _) (funext fun _ => ?_)
  refine congrArg (Bind.bind _) (funext fun _ => ?_)
  refine congrArg (Bind.bind _) (funext fun _ => ?_)
  refine congrArg (Bind.bind _) (funext fun _ => ?_)
  rfl

/-- The test for a vocabulary tile's first grid point. -/
abbrev first1 (i : grid0.Coords) : Prop := Scalar.cmpi .ne (Scalar.extui (Scalar.cmpi .eq (BitVec.ofNat 32 (i 1).val) 0#32)) 0#32 = 1#1

theorem wp_initC (c : Dev nD) (i : grid0.Coords) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (sc : FVec F S1x1 .f32) (A : Vec F S4608x128 .f32) (M : Vec F S32x128 .f32) (S : Vec F S1x1 .f32) (X : Vec F S4608x1536 .f32)
    (Q : PUnit → sProp 𝕄) :
    iprop(owns (c : Thread nD τ) arg14 fullShare (A)
        ∗ owns (c : Thread nD τ) arg15 fullShare (M)
        ∗ owns (c : Thread nD τ) arg16 fullShare (S)
        ∗ owns (c : Thread nD τ) arg17 fullShare (X)
        ∗ (iprop(owns (c : Thread nD τ) arg14 fullShare (if k0_cond1 i = 1#1 then zeroA else A)
        ∗ owns (c : Thread nD τ) arg15 fullShare (if k0_cond1 i = 1#1 then zeroM else M)
        ∗ owns (c : Thread nD τ) arg16 fullShare (if k0_cond1 i = 1#1 then sc else S)
        ∗ owns (c : Thread nD τ) arg17 fullShare (if k0_cond1 i = 1#1 then zeroX else X)) -∗ Q ⟨⟩))
      ⊢ wp frame (wpE (defs₀ (F := F)) Variants.none (c : Thread nD τ) none) Set.univ (if k0_h1 : k0_cond1 i = 1#1 then initBufs arg14 harg14 arg15 harg15 arg16 harg16 arg17 harg17 sc else pure ⟨⟩) Q := by
  by_cases h : k0_cond1 i = 1#1
  · simp only [if_pos h, dif_pos h]
    exact wp_initBufs c arg14 harg14 arg15 harg15 arg16 harg16 arg17 harg17 sc A M S X Q
  · simp only [if_neg h, dif_neg h]
    iintro ⟨H14, H15, H16, H17, Hk⟩
    iapply (le_wp_ret _ _ _ _ _)
    iapply Hk
    isplitl [H14]; · iexact H14
    isplitl [H15]; · iexact H15
    isplitl [H16]; · iexact H16
    iexact H17

theorem wp_weightC (c : Dev nD) (i : grid0.Coords) (arg9 : Memref sig .tc .vmem S512x1536 .fp8e4m3) (harg9 : arg9.IsWhole) (arg10 : Memref sig .tc .vmem S512x1 .f32) (harg10 : arg10.IsWhole) (arg18 : Memref sig .tc .vmem S512x1536 .bf16) (harg18 : arg18.IsWhole) (w : Vec F S512x1536 .fp8e4m3) (ws : Vec F S512x1 .f32) (W : Vec F S512x1536 .bf16)
    (Q : PUnit → sProp 𝕄) :
    iprop(owns (c : Thread nD τ) arg9 fullShare (w)
        ∗ owns (c : Thread nD τ) arg10 fullShare (ws)
        ∗ owns (c : Thread nD τ) arg18 fullShare (W)
        ∗ (iprop(owns (c : Thread nD τ) arg9 fullShare (w)
        ∗ owns (c : Thread nD τ) arg10 fullShare (ws)
        ∗ owns (c : Thread nD τ) arg18 fullShare (if first1 i then wqNext i w ws else W)) -∗ Q ⟨⟩))
      ⊢ wp frame (wpE (defs₀ (F := F)) Variants.none (c : Thread nD τ) none) Set.univ (if k0_h2 : Scalar.cmpi .ne (Scalar.extui (Scalar.cmpi .eq (BitVec.ofNat 32 (i 1).val) 0#32)) 0#32 = 1#1 then weightTile (BitVec.ofNat 32 (i 0).val) arg9 harg9 arg10 harg10 arg18 harg18 else pure ⟨⟩) Q := by
  by_cases h : first1 i
  · simp only [if_pos h, dif_pos h]
    exact wp_weightTile c i arg9 harg9 arg10 harg10 arg18 harg18 w ws W Q
  · simp only [if_neg h, dif_neg h]
    iintro ⟨H9, H10, H18, Hk⟩
    iapply (le_wp_ret _ _ _ _ _)
    iapply Hk
    isplitl [H9]; · iexact H9
    isplitl [H10]; · iexact H10
    iexact H18

theorem wp_loopC (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (v73 : FVec F S1x1 .f32)
    (X : Vec F S4608x1536 .f32) (W : Vec F S512x1536 .bf16) (P : Vec F S4608x1536 .bf16) (Q : PUnit → sProp 𝕄) :
    iprop(owns (c : Thread nD τ) arg17 fullShare X ∗ owns (c : Thread nD τ) arg18 fullShare W ∗ hbmAt c arg13 P ∗ semVal ((c : Thread nD τ), SemLoc.dma arg21.sem) 0 ∗ (∃ W, owes (c : Thread nD τ) 0 W)
        ∗ (iprop(owns (c : Thread nD τ) arg17 fullShare X ∗ (∃ Y, ⌜¬ k0_cond3 i = 1#1 → Y = W⌝ ∗ owns (c : Thread nD τ) arg18 fullShare Y)
            ∗ hbmAt c arg13 (if k0_cond3 i = 1#1 then dxOut v73 X else P) ∗ semVal ((c : Thread nD τ), SemLoc.dma arg21.sem) 0 ∗ (∃ W, owes (c : Thread nD τ) 0 W)) -∗ Q ⟨⟩))
      ⊢ wp frame (wpE (defs₀ (F := F)) Variants.none (c : Thread nD τ) none) Set.univ (if k0_h3 : k0_cond3 i = 1#1 then do
            Scf.Loop.for k0_t1_loop (k0_t1_ok i k0_h3) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 k0_h3)
            pure ⟨⟩
          else pure ⟨⟩) Q := by
  by_cases h : k0_cond3 i = 1#1
  · simp only [if_pos h, dif_pos h]
    iintro ⟨H17, H18, H13, HC, HO, Hk⟩
    rw [wp_bind]
    iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v73 h X P)
    isplitl [H17]; · iexact H17
    isplitl [H18]; · iexists W; iexact H18
    isplitl [H13]; · iexact H13
    isplitl [HC]; · iexact HC
    isplitl [HO]; · iexact HO
    iintro ⟨H17, ⟨%Y, H18⟩, H13, HC, HO⟩
    iapply (le_wp_ret _ _ _ _ _)
    iapply Hk
    isplitl [H17]; · iexact H17
    isplitl [H18]
    · iexists Y; isplitr
      · ipureintro; exact fun hn => absurd h hn
      iexact H18
    isplitl [H13]; · iexact H13
    isplitl [HC]; · iexact HC
    iexact HO
  · simp only [if_neg h, dif_neg h]
    iintro ⟨H17, H18, H13, HC, HO, Hk⟩
    iapply (le_wp_ret _ _ _ _ _)
    iapply Hk
    isplitl [H17]; · iexact H17
    isplitl [H18]
    · iexists W; isplitr
      · ipureintro; exact fun _ => rfl
      iexact H18
    isplitl [H13]; · iexact H13
    isplitl [HC]; · iexact HC
    iexact HO

theorem rH_done (j : S384x512.Idx) : (rH 0).emb j ∈ doneT 12 0 := by
  have hj : (j 0).val < 384 := (j 0).isLt
  refine Or.inl ?_
  show 384 * 0 + 1 * (j 0).val < 32 * 12
  omega

theorem dxStep_mix (i : grid0.Coords) (G Y : Vec F S768x512 .bf16) (W : Vec F S512x1536 .bf16) (X : Vec F S4608x1536 .f32) :
    dxStep i 0 (mix (doneT 12 0) G Y) W X = dxStep i 0 G W X := by
  unfold dxStep dxP
  exact congrArg (fun g : Vec F S384x512 .bf16 => put (rX i 0) X (shapeCast S384x1536 (addf (fun j => X ((rX i 0).emb j)) (matmul dot_S384x512_S512x1536_S384x1536_1_0_0_1_n_n none g W (constant S384x1536 .f32 0x00000000#32))) shapeCasts_S384x1536_S384x1536))
    (funext fun j => mix_mem _ _ _ _ (rH_done j))

/-! ## The state after a grid point -/

/-- The label logits, the largest gradients, the scale, the activations' gradient, the tile's weights after the point. -/
def nA (T : Tile F) (i : grid0.Coords) (A : Vec F S4608x128 .f32) : Vec F S4608x128 .f32 := llNext T i (if k0_cond1 i = 1#1 then zeroA else A)
def nM (T : Tile F) (i : grid0.Coords) (M : Vec F S32x128 .f32) : Vec F S32x128 .f32 :=
  amaxRun T i 12 12 (by omega) (amaxRun T i 12 0 (by omega) (shapeCast S32x128 (if k0_cond1 i = 1#1 then zeroM else M) shapeCasts_S32x128_S32x128))
def nS (T : Tile F) (i : grid0.Coords) (S : Vec F S1x1 .f32) : Vec F S1x1 .f32 := if k0_cond1 i = 1#1 then scaleVec T.v0 else S
def nW (i : grid0.Coords) (w : Vec F S512x1536 .fp8e4m3) (ws : Vec F S512x1 .f32) (W : Vec F S512x1536 .bf16) : Vec F S512x1536 .bf16 :=
  if first1 i then wqNext i w ws else W
def nX (T : Tile F) (i : grid0.Coords) (W : Vec F S512x1536 .bf16) (X : Vec F S4608x1536 .f32) : Vec F S4608x1536 .f32 :=
  dxStep i 1 (tileOf (deqP T i)) W (dxStep i 0 (tileOf (deqP T i)) W (if k0_cond1 i = 1#1 then zeroX else X))

theorem wp_bodyS (c : Dev nD) (i : grid0.Coords) (arg2 : Memref sig .tc .vmem S1x16 .f32) (harg2 : arg2.IsWhole) (arg3 : Memref sig .tc .vmem S1x768x512 .f32) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .i32) (harg6 : arg6.IsWhole) (arg7 : Memref sig .tc .vmem S768x128 .f32) (harg7 : arg7.IsWhole) (arg8 : Memref sig .tc .vmem S4608x1536 .fp8e4m3) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S768x512 .fp8e5m2) (harg11 : arg11.IsWhole) (arg12 : Memref sig .tc .vmem S512x1536 .f32) (harg12 : arg12.IsWhole) (arg13 : Memref sig .tc .hbm S4608x1536 .bf16) (harg13 : arg13.IsWhole) (arg14 : Memref sig .tc .vmem S4608x128 .f32) (harg14 : arg14.IsWhole) (arg15 : Memref sig .tc .vmem S32x128 .f32) (harg15 : arg15.IsWhole) (arg16 : Memref sig .tc .vmem S1x1 .f32) (harg16 : arg16.IsWhole) (arg17 : Memref sig .tc .vmem S4608x1536 .f32) (harg17 : arg17.IsWhole) (arg18 : Memref sig .tc .vmem S512x1536 .bf16) (harg18 : arg18.IsWhole) (arg19 : Memref sig .tc .vmem S768x512 .bf16) (harg19 : arg19.IsWhole) (arg20 : Memref sig .tc .vmem S768x512 .bf16) (harg20 : arg20.IsWhole) (arg21 : DmaSems sig S_) (T : Tile F) (H : Vec F S4608x1536 .fp8e4m3)
    (w : Vec F S512x1536 .fp8e4m3) (ws : Vec F S512x1 .f32) (Y11 : Vec F S768x512 .fp8e5m2) (D : Vec F S512x1536 .f32) (P : Vec F S4608x1536 .bf16)
    (A : Vec F S4608x128 .f32) (M : Vec F S32x128 .f32) (S : Vec F S1x1 .f32) (X : Vec F S4608x1536 .f32) (W : Vec F S512x1536 .bf16) (Y19 Y20 : Vec F S768x512 .bf16)
    (Q : PUnit → sProp 𝕄) :
    iprop(owns (c : Thread nD τ) arg2 fullShare (T.v0)
        ∗ owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg8 fullShare (H)
        ∗ owns (c : Thread nD τ) arg9 fullShare (w)
        ∗ owns (c : Thread nD τ) arg10 fullShare (ws)
        ∗ owns (c : Thread nD τ) arg11 fullShare (Y11)
        ∗ owns (c : Thread nD τ) arg12 fullShare (D)
        ∗ hbmAt c arg13 P
        ∗ owns (c : Thread nD τ) arg14 fullShare (A)
        ∗ owns (c : Thread nD τ) arg15 fullShare (M)
        ∗ owns (c : Thread nD τ) arg16 fullShare (S)
        ∗ owns (c : Thread nD τ) arg17 fullShare (X)
        ∗ owns (c : Thread nD τ) arg18 fullShare (W)
        ∗ owns (c : Thread nD τ) arg19 fullShare (Y19)
        ∗ owns (c : Thread nD τ) arg20 fullShare (Y20)
        ∗ semVal ((c : Thread nD τ), SemLoc.dma arg21.sem) 0
        ∗ (∃ W, owes (c : Thread nD τ) 0 W)
        ∗ (iprop(owns (c : Thread nD τ) arg2 fullShare (T.v0)
        ∗ owns (c : Thread nD τ) arg3 fullShare (T.lg)
        ∗ owns (c : Thread nD τ) arg4 fullShare (T.mx)
        ∗ owns (c : Thread nD τ) arg5 fullShare (T.ri)
        ∗ owns (c : Thread nD τ) arg6 fullShare (T.lab)
        ∗ owns (c : Thread nD τ) arg7 fullShare (T.hs)
        ∗ owns (c : Thread nD τ) arg8 fullShare (H)
        ∗ owns (c : Thread nD τ) arg9 fullShare (w)
        ∗ owns (c : Thread nD τ) arg10 fullShare (ws)
        ∗ owns (c : Thread nD τ) arg11 fullShare (tileOf (codeP T i))
        ∗ owns (c : Thread nD τ) arg12 fullShare (dwNext i (tileOf (wgtP T i)) H D)
        ∗ hbmAt c arg13 (if k0_cond3 i = 1#1 then dxOut (scaleVec T.v0) (nX T i (nW i w ws W) X) else P)
        ∗ owns (c : Thread nD τ) arg14 fullShare (nA T i A)
        ∗ owns (c : Thread nD τ) arg15 fullShare (nM T i M)
        ∗ owns (c : Thread nD τ) arg16 fullShare (nS T i S)
        ∗ owns (c : Thread nD τ) arg17 fullShare (nX T i (nW i w ws W) X)
        ∗ (∃ Y, ⌜¬ k0_cond3 i = 1#1 → Y = nW i w ws W⌝ ∗ owns (c : Thread nD τ) arg18 fullShare Y)
        ∗ owns (c : Thread nD τ) arg19 fullShare (tileOf (deqP T i))
        ∗ owns (c : Thread nD τ) arg20 fullShare (tileOf (wgtP T i))
        ∗ semVal ((c : Thread nD τ), SemLoc.dma arg21.sem) 0
        ∗ (∃ W, owes (c : Thread nD τ) 0 W)) -∗ Q ⟨⟩))
      ⊢ wp frame (wpE (defs₀ (F := F)) Variants.none (c : Thread nD τ) none) Set.univ (bodyS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21) Q := by
  rw [bodyS_eq]
  unfold bodyB
  iintro ⟨H2, H3, H4, H5, H6, H7, H8, H9, H10, H11, H12, H13, H14, H15, H16, H17, H18, H19, H20, HC, HO, Hk⟩
  iapply (wp_load_full Variants.none (c : Thread nD τ) none Set.univ off2_zero) $$ H2
  iintro H2
  rw [Prog.bind, wp_bind]
  iapply (wp_initC c i arg14 harg14 arg15 harg15 arg16 harg16 arg17 harg17 (scaleVec T.v0) A M S X)
  isplitl [H14]; · iexact H14
  isplitl [H15]; · iexact H15
  isplitl [H16]; · iexact H16
  isplitl [H17]; · iexact H17
  iintro ⟨H14, H15, H16, H17⟩
  rw [wp_bind]
  iapply (wp_weightC c i arg9 harg9 arg10 harg10 arg18 harg18 w ws W)
  isplitl [H9]; · iexact H9
  isplitl [H10]; · iexact H10
  isplitl [H18]; · iexact H18
  iintro ⟨H9, H10, H18⟩
  iapply (wp_load_full Variants.none (c : Thread nD τ) none Set.univ off2_zero) $$ H15
  iintro H15
  rw [Prog.bind, wp_bind]
  iapply (wp_rowBlocks c i arg3 harg3 arg4 harg4 arg5 harg5 arg6 harg6 arg7 harg7 arg11 harg11 arg14 harg14 arg19 harg19 arg20 harg20 T (if k0_cond1 i = 1#1 then zeroA else A) Y11 Y19 Y20)
  rw [doneA_zero, doneT_zero, mix_empty, mix_empty, mix_empty, mix_empty]
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  isplitl [H20]; · iexact H20
  iintro ⟨H3, H4, H5, H6, H7, H14, H11, H19, H20⟩
  rw [wp_bind]
  iapply (wp_dxHalf c i arg17 harg17 arg18 harg18 arg19 harg19 0)
  isplitl [H17]; · iexact H17
  isplitl [H18]; · iexact H18
  isplitl [H19]; · iexact H19
  iintro ⟨H17, H18, H19⟩
  rw [dxStep_mix, wp_bind]
  iapply (wp_rowBlocks c i arg3 harg3 arg4 harg4 arg5 harg5 arg6 harg6 arg7 harg7 arg11 harg11 arg14 harg14 arg19 harg19 arg20 harg20 T (if k0_cond1 i = 1#1 then zeroA else A) Y11 Y19 Y20)
  isplitl [H3]; · iexact H3
  isplitl [H4]; · iexact H4
  isplitl [H5]; · iexact H5
  isplitl [H6]; · iexact H6
  isplitl [H7]; · iexact H7
  isplitl [H14]; · iexact H14
  isplitl [H11]; · iexact H11
  isplitl [H19]; · iexact H19
  isplitl [H20]; · iexact H20
  rw [doneA_all, mix_univ (doneT (12 + 12) 0) _ _ doneT_all, mix_univ (doneT (12 + 12) 0) _ _ doneT_all, mix_univ (doneT (12 + 12) 0) _ _ doneT_all]
  iintro ⟨H3, H4, H5, H6, H7, H14, H11, H19, H20⟩
  rw [wp_bind]
  iapply (wp_dxHalf c i arg17 harg17 arg18 harg18 arg19 harg19 1)
  isplitl [H17]; · iexact H17
  isplitl [H18]; · iexact H18
  isplitl [H19]; · iexact H19
  iintro ⟨H17, H18, H19⟩
  iapply (wp_load_full Variants.none (c : Thread nD τ) none Set.univ off2_zero) $$ H15
  iintro H15
  iapply (wp_store_full Variants.none (c : Thread nD τ) none Set.univ off2_zero) $$ H15
  iintro H15
  rw [Prog.bind, wp_bind]
  iapply (wp_dwTile c i arg8 harg8 arg12 harg12 arg20 harg20 H D (tileOf (wgtP T i)))
  isplitl [H8]; · iexact H8
  isplitl [H12]; · iexact H12
  isplitl [H20]; · iexact H20
  iintro ⟨H8, H12, H20⟩
  iapply (wp_loopC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 (scaleVec T.v0) (nX T i (nW i w ws W) X) (nW i w ws W) P)
  isplitl [H17]; · iexact H17
  isplitl [H18]; · iexact H18
  isplitl [H13]; · iexact H13
  isplitl [HC]; · iexact HC
  isplitl [HO]; · iexact HO
  iintro ⟨H17, H18, H13, HC, HO⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HC]; · iexact HC
  iexact HO

end Cert.KernelIdeal.Hand

end
-- ==== Proof.Hand.StateI.lean ====
/- What the `grad` body computes at a grid point, buffer by buffer, and the run of the structured body (`bodyS`) to it.
   A buffer rewritten a rectangle at a time is `mix`ed part of the way. -/
module

public import proofs.«01_k».proof.Proof.Hand.BodyI
public import proofs.«01_k».proof.Proof.Hand.Rules
public import proofs.«01_k».proof.Proof.Hand.LoopI
public import proofs.«01_k».proof.Proof.Gen.KernelIdeal.Frame
public import Idealize.ShloMosaic.Lib.Pipeline.Value
public import Idealize.ShloMosaic.Lib.Pointwise.Index
public import Idealize.ShloMosaic.Lib.Pipeline.FrameBody
public import Idealize.ShloMosaic.Lib.Tactic

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-! ## The grid points -/

theorem coords_0 (t : Fin cfg0.N) : (grid0.coords t 0).val = t.val / 6 := by
  have ht : t.val < 594 := Nat.lt_of_lt_of_eq t.isLt N_0
  show t.val / grid0.stride 0 % 99 = _
  rw [show grid0.stride 0 = 6 by decide]
  omega
theorem coords_1 (t : Fin cfg0.N) : (grid0.coords t 1).val = t.val % 6 := by
  show t.val / grid0.stride 1 % 6 = _
  rw [show grid0.stride 1 = 1 by decide, Nat.div_one]

theorem cond1_val : ∀ (a : Fin 99) (b : Fin 6), (Scalar.andi (Scalar.cmpi .eq (BitVec.ofNat 32 a.val) 0#32) (Scalar.cmpi .eq (BitVec.ofNat 32 b.val) 0#32) = 1#1) ↔ (a.val = 0 ∧ b.val = 0) := by
  decide
theorem cond3_val : ∀ (a : Fin 99) (b : Fin 6), (Scalar.andi (Scalar.cmpi .eq (BitVec.ofNat 32 a.val) 98#32) (Scalar.cmpi .eq (BitVec.ofNat 32 b.val) 5#32) = 1#1) ↔ (a.val = 98 ∧ b.val = 5) := by
  decide
theorem bit_conv : ∀ x : BitVec 1, (Scalar.cmpi .ne (Scalar.extui x) 0#32 = 1#1) ↔ x = 1#1 := by decide
theorem cmp0_val : ∀ b : Fin 6, (Scalar.cmpi .eq (BitVec.ofNat 32 b.val) 0#32 = 1#1) ↔ b.val = 0 := by decide

theorem cond1_iff (t : Fin cfg0.N) : k0_cond1 (grid0.coords t) = 1#1 ↔ t.val = 0 := by
  have h : k0_cond1 (grid0.coords t) = 1#1 ↔ ((grid0.coords t 0).val = 0 ∧ (grid0.coords t 1).val = 0) := (bit_conv _).trans (cond1_val (grid0.coords t 0) (grid0.coords t 1))
  rw [h, coords_0, coords_1]
  exact ⟨fun h => by omega, fun h => by omega⟩
theorem cond3_iff (t : Fin cfg0.N) : k0_cond3 (grid0.coords t) = 1#1 ↔ t.val = 593 := by
  have ht : t.val < 594 := Nat.lt_of_lt_of_eq t.isLt N_0
  have h : k0_cond3 (grid0.coords t) = 1#1 ↔ ((grid0.coords t 0).val = 98 ∧ (grid0.coords t 1).val = 5) := (bit_conv _).trans (cond3_val (grid0.coords t 0) (grid0.coords t 1))
  rw [h, coords_0, coords_1]
  exact ⟨fun h => by omega, fun h => by omega⟩
theorem cmp0_iff (t : Fin cfg0.N) : Scalar.cmpi .eq (BitVec.ofNat 32 (grid0.coords t 1).val) 0#32 = 1#1 ↔ t.val % 6 = 0 := by
  rw [← coords_1]; exact cmp0_val (grid0.coords t 1)
theorem first1_iff (t : Fin cfg0.N) : first1 (grid0.coords t) ↔ t.val % 6 = 0 :=
  Iff.trans (bit_conv _) (cmp0_iff t)

/-! ## What a point reads -/

/-- The point's inputs that are not weights. -/
def tileAt (c : Dev nD) (t : Fin cfg0.N) : Tile F where
  v0 := iblk m c 0 t
  lg := iblk m c 1 t
  mx := iblk m c 2 t
  ri := iblk m c 3 t
  lab := iblk m c 4 t
  hs := iblk m c 5 t

/-- The hidden codes. -/
def hidAt (c : Dev nD) (t : Fin cfg0.N) : Vec F S4608x1536 .fp8e4m3 := iblk m c 6 t

/-- The tile's weight codes and scales, zero past the vocabulary's end. -/
def wAt (c : Dev nD) (t : Fin cfg0.N) : Vec F S512x1536 .fp8e4m3 := win0_7.fill (grid0.coords t) (fun _ => Scalar.ofBits .fp8e4m3 0#8) (iblk m c 7 t)
def wsAt (c : Dev nD) (t : Fin cfg0.N) : Vec F S512x1 .f32 := win0_8.fill (grid0.coords t) (fun _ => Scalar.ofBits .f32 0#32) (iblk m c 8 t)

/-- The accumulators. -/
structure St (F : FTy → Type) [FloatOps F] where
  A : Vec F S4608x128 .f32
  M : Vec F S32x128 .f32
  S : Vec F S1x1 .f32
  X : Vec F S4608x1536 .f32
  W : Vec F S512x1536 .bf16
  D : Vec F S512x1536 .f32

/-- One point. -/
def step (c : Dev nD) (t : Fin cfg0.N) (s : St F) : St F where
  A := nA (tileAt m c t) (grid0.coords t) s.A
  M := nM (tileAt m c t) (grid0.coords t) s.M
  S := nS (tileAt m c t) (grid0.coords t) s.S
  W := nW (grid0.coords t) (wAt m c t) (wsAt m c t) s.W
  X := nX (tileAt m c t) (grid0.coords t) (nW (grid0.coords t) (wAt m c t) (wsAt m c t) s.W) s.X
  D := dwNext (grid0.coords t) (tileOf (wgtP (tileAt m c t) (grid0.coords t))) (hidAt m c t) s.D

/-- The accumulators before point `n`. -/
def st (c : Dev nD) : ℕ → St F
  | 0 => ⟨zeroA, zeroM, broadcast S1x1 (Scalar.ofBits .f32 0#32), zeroX, broadcast S512x1536 (Scalar.ofBits .bf16 0#16), broadcast S512x1536 (Scalar.ofBits .f32 0#32)⟩
  | n + 1 => if h : n < cfg0.N then step m c ⟨n, h⟩ (st c n) else st c n

theorem st_succ (c : Dev nD) (t : Fin cfg0.N) : st m c (t.val + 1) = step m c t (st m c t.val) := by
  show (if h : t.val < cfg0.N then step m c ⟨t.val, h⟩ (st m c t.val) else _) = _
  rw [dif_pos t.isLt]

/-- The first point reads no accumulator. -/
theorem nA_at (T : Tile F) (t : Fin cfg0.N) {A A' : Vec F S4608x128 .f32} (h : t.val ≠ 0 → A = A') : nA T (grid0.coords t) A = nA T (grid0.coords t) A' := by
  by_cases h0 : t.val = 0
  · unfold nA; rw [if_pos ((cond1_iff t).mpr h0), if_pos ((cond1_iff t).mpr h0)]
  · rw [h h0]
theorem nM_at (T : Tile F) (t : Fin cfg0.N) {A A' : Vec F S32x128 .f32} (h : t.val ≠ 0 → A = A') : nM T (grid0.coords t) A = nM T (grid0.coords t) A' := by
  by_cases h0 : t.val = 0
  · unfold nM; rw [if_pos ((cond1_iff t).mpr h0), if_pos ((cond1_iff t).mpr h0)]
  · rw [h h0]
theorem nS_at (T : Tile F) (t : Fin cfg0.N) {A A' : Vec F S1x1 .f32} (h : t.val ≠ 0 → A = A') : nS T (grid0.coords t) A = nS T (grid0.coords t) A' := by
  by_cases h0 : t.val = 0
  · unfold nS; rw [if_pos ((cond1_iff t).mpr h0), if_pos ((cond1_iff t).mpr h0)]
  · rw [h h0]
theorem nX_at (T : Tile F) (t : Fin cfg0.N) (W : Vec F S512x1536 .bf16) {A A' : Vec F S4608x1536 .f32} (h : t.val ≠ 0 → A = A') : nX T (grid0.coords t) W A = nX T (grid0.coords t) W A' := by
  by_cases h0 : t.val = 0
  · unfold nX; rw [if_pos ((cond1_iff t).mpr h0), if_pos ((cond1_iff t).mpr h0)]
  · rw [h h0]

/-- The rows a window of the vocabulary moves. -/
theorem extent_lt (a : ℕ) (ha : a < 99) (r : ℕ) (hr : r < 512) (h : 512 * a + r < 50304) :
    r < (Pipeline.Clip.of a 512 50304).extent 512 := by
  unfold Pipeline.Clip.of
  split
  · exact hr
  · show r < 50304 - a * 512
    omega
theorem extent_full (a d r : ℕ) (h : (a + 1) * d ≤ d) (hr : r < d) : r < (Pipeline.Clip.of a d d).extent d := by
  unfold Pipeline.Clip.of
  rw [if_pos h]; exact hr
theorem ofNat_val (t : Fin cfg0.N) : (BitVec.ofNat 32 (grid0.coords t 0).val).toNat = t.val / 6 := by
  have ht : t.val < 594 := Nat.lt_of_lt_of_eq t.isLt N_0
  rw [coords_0, BitVec.toNat_ofNat]; omega

/-- Rows inside the array are moved. -/
theorem moved7 (t : Fin cfg0.N) (j : S512x1536.Idx) (h : 512 * (t.val / 6) + (j 0).val < 50304) : win0_7.moved (grid0.coords t) j = true := by
  have ht : t.val < 594 := Nat.lt_of_lt_of_eq t.isLt N_0
  refine (win0_7.moved_iff _ j).mpr fun a => ?_
  match a with
  | ⟨0, _⟩ =>
    show (j 0).val < (Pipeline.Clip.of (BitVec.ofNat 32 (grid0.coords t 0).val).toNat 512 50304).extent 512
    rw [ofNat_val]; exact extent_lt _ (by omega) _ (j 0).isLt h
  | ⟨1, _⟩ => exact extent_full 0 1536 (j 1).val (by omega) (j 1).isLt
theorem moved8 (t : Fin cfg0.N) (j : S512x1.Idx) (h : 512 * (t.val / 6) + (j 0).val < 50304) : win0_8.moved (grid0.coords t) j = true := by
  have ht : t.val < 594 := Nat.lt_of_lt_of_eq t.isLt N_0
  refine (win0_8.moved_iff _ j).mpr fun a => ?_
  match a with
  | ⟨0, _⟩ =>
    show (j 0).val < (Pipeline.Clip.of (BitVec.ofNat 32 (grid0.coords t 0).val).toNat 512 50304).extent 512
    rw [ofNat_val]; exact extent_lt _ (by omega) _ (j 0).isLt h
  | ⟨1, _⟩ => exact extent_full 0 1 (j 1).val (by omega) (j 1).isLt

theorem fill_moved {w : Window sig grid0} {α : Type} (i : grid0.Coords) (d d' : w.block.Idx → α) (g : (w.xblock i).Idx → α) (j : w.block.Idx)
    (h : w.moved i j = true) : w.fill i d g j = w.fill i d' g j := by
  unfold Window.fill; rw [dif_pos h, dif_pos h]

theorem mask_sub : ∀ a : Fin 99, Scalar.subi 50304#32 (Scalar.muli (BitVec.ofNat 32 a.val) 512#32) = BitVec.ofNat 32 (50304 - 512 * a.val) := by decide
theorem mask_val (a : Fin 99) (r : Fin 512) : (IntOp.cmpi .slt (BitVec.ofNat 32 r.val) (Scalar.subi 50304#32 (Scalar.muli (BitVec.ofNat 32 a.val) 512#32)) = 1#1) ↔ (512 * a.val + r.val < 50304) := by
  have ha := a.isLt
  have hr := r.isLt
  rw [mask_sub, WordCmp.cmpi_slt_ofNat (by omega) (by omega)]
  by_cases h : r.val < 50304 - 512 * a.val
  · rw [decide_eq_true h]; exact ⟨fun _ => by omega, fun _ => rfl⟩
  · rw [decide_eq_false h]; exact ⟨fun h' => absurd h' (by decide), fun h' => by omega⟩

/-- The scale's place for a weight. -/
def rowOf (j : S512x1536.Idx) : S512x1.Idx := ix2 (j 0 : Fin 512) (0 : Fin 1)
theorem broadcast_row {α : Type} (x : S512x1.Idx → α) (j : S512x1536.Idx) : broadcastTo S512x1536 x broadcasts_S512x1_S512x1536 j = x (rowOf j) :=
  broadcastTo_apply _ _ j (rowOf j) (by intro a; fin_cases a <;> rfl)

/-- A stored weight. -/
theorem weightVec_apply (b : BitVec 32) (w : Vec F S512x1536 .fp8e4m3) (ws : Vec F S512x1 .f32) (j : S512x1536.Idx) :
    weightVec (F := F) b w ws j
      = if IntOp.cmpi .slt (BitVec.ofNat 32 (j 0).val) (Scalar.subi 50304#32 (Scalar.muli b 512#32)) = 1#1 then
          FloatOps.mulf (FloatOps.extf .bf16 bitsLt_fp8e4m3_bf16 (w j)) (FloatOps.truncf .bf16 bitsLt_bf16_f32 (ws (rowOf j)))
        else Scalar.ofBits .bf16 0x0000#16 := by
  unfold weightVec
  rw [shapeCast_self]
  unfold select
  rw [show cmpi .slt (iota .tc S512x1536 32 [0] iota_S512x1536_d0_w32) (broadcast S512x1536 (Scalar.subi 50304#32 (Scalar.muli b 512#32))) j
      = IntOp.cmpi .slt (iota .tc S512x1536 32 [0] iota_S512x1536_d0_w32 j) (Scalar.subi 50304#32 (Scalar.muli b 512#32)) from rfl,
    iota_single_apply]
  unfold mulf Scalar.select
  rw [broadcast_row]
  rfl

/-- The weights as stored do not depend on what lies past the vocabulary's end. -/
theorem wqNext_fill (t : Fin cfg0.N) (d7 d7' : Vec F S512x1536 .fp8e4m3) (d8 d8' : Vec F S512x1 .f32) (g7 : (win0_7.xblock (grid0.coords t)).Idx → Elt F .fp8e4m3)
    (g8 : (win0_8.xblock (grid0.coords t)).Idx → Elt F .f32) :
    wqNext (grid0.coords t) (win0_7.fill (grid0.coords t) d7 g7) (win0_8.fill (grid0.coords t) d8 g8)
      = wqNext (grid0.coords t) (win0_7.fill (grid0.coords t) d7' g7) (win0_8.fill (grid0.coords t) d8' g8) := by
  unfold wqNext
  refine congrArg (fun v => shapeCast S512x1536 v shapeCasts_S512x1536_S512x1536) (funext fun j => ?_)
  rw [weightVec_apply, weightVec_apply]
  have hm := mask_val (grid0.coords t 0) (j 0)
  by_cases hc : IntOp.cmpi .slt (BitVec.ofNat 32 (j 0).val) (Scalar.subi 50304#32 (Scalar.muli (BitVec.ofNat 32 (grid0.coords t 0).val) 512#32)) = 1#1
  · rw [if_pos hc, if_pos hc]
    have h := hm.mp hc
    rw [coords_0] at h
    have h7 := fill_moved (w := win0_7) (grid0.coords t) d7 d7' g7 j (moved7 t j h)
    have h8 := fill_moved (w := win0_8) (grid0.coords t) d8 d8' g8 (rowOf j) (moved8 t _ h)
    rw [h7, h8]
  · rw [if_neg hc, if_neg hc]

end Cert.KernelIdeal.Hand

end
-- ==== Proof.Hand.FrameI.lean ====
/- What the `grad` body computes at a grid point, buffer by buffer, and the run of the structured body (`bodyS`) to it.
   A buffer rewritten a rectangle at a time is `mix`ed part of the way. -/
module

public import proofs.«01_k».proof.Proof.Hand.BodyI
public import proofs.«01_k».proof.Proof.Hand.Rules
public import proofs.«01_k».proof.Proof.Hand.StateI
public import Idealize.ShloMosaic.Lib.Pipeline.FrameSuffixV
public import Idealize.ShloMosaic.Lib.Pipeline.FrameBody
public import Idealize.ShloMosaic.Lib.Tactic

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

attribute [local irreducible] st

/-! ## The blocks of one vocabulary tile -/

theorem coords_prev (t : Fin cfg0.N) (h : t.val % 6 ≠ 0) (hp : t.val - 1 < cfg0.N) : grid0.coords ⟨t.val - 1, hp⟩ 0 = grid0.coords t 0 :=
  Fin.ext (by rw [coords_0 ⟨t.val - 1, hp⟩, coords_0]; show (t.val - 1) / 6 = _; omega)

theorem index7 (i i' : grid0.Coords) (h : i 0 = i' 0) : cc0_transform_7 i = cc0_transform_7 i' := by unfold cc0_transform_7; rw [h]
theorem index8 (i i' : grid0.Coords) (h : i 0 = i' 0) : cc0_transform_8 i = cc0_transform_8 i' := by unfold cc0_transform_8; rw [h]
theorem index10 (i i' : grid0.Coords) (h : i 0 = i' 0) : cc0_transform_10 i = cc0_transform_10 i' := by unfold cc0_transform_10; rw [h]
theorem clip7 (i i' : grid0.Coords) (h : i 0 = i' 0) : win0_7.clip i = win0_7.clip i' := by
  funext a; show Pipeline.Clip.of (cc0_transform_7 i a) _ _ = Pipeline.Clip.of (cc0_transform_7 i' a) _ _; rw [index7 i i' h]
theorem clip8 (i i' : grid0.Coords) (h : i 0 = i' 0) : win0_8.clip i = win0_8.clip i' := by
  funext a; show Pipeline.Clip.of (cc0_transform_8 i a) _ _ = Pipeline.Clip.of (cc0_transform_8 i' a) _ _; rw [index8 i i' h]
theorem clip10 (i i' : grid0.Coords) (h : i 0 = i' 0) : win0_10.clip i = win0_10.clip i' := by
  funext a; show Pipeline.Clip.of (cc0_transform_10 i a) _ _ = Pipeline.Clip.of (cc0_transform_10 i' a) _ _; rw [index10 i i' h]
theorem moved10 (i i' : grid0.Coords) (h : i 0 = i' 0) (j : S512x1536.Idx) : win0_10.moved i j = win0_10.moved i' j := by
  unfold Window.moved; rw [clip10 i i' h]

theorem before_7_of {c : Dev nD} (dat : Dat τ (Elt F) Unit ℕ (Pipeline.UD sig nD τ) ℕ cfg0 c) (hA : dat.A 7 = V m c (Pipeline.arrRef spec0 7))
    (hafter : ∀ t, dat.after 7 t = wAt m c t) (t : Fin cfg0.N) (d) : dat.before 7 t d = win0_7.fill (grid0.coords t) d (iblk m c 7 t) := by
  have hf : ∀ t d, dat.fetched 7 t d = win0_7.fill (grid0.coords t) d (iblk m c 7 t) := fun t d => by
    unfold Dat.fetched Dat.blockOf iblk; rw [hA]
  by_cases h : (cfg0.win 7).fetch t = true
  · rw [dat.before_fetched 7 t h, hf]
  · have hn : t.val % 6 ≠ 0 := fun h' => h ((fetch0_7 t).mpr h')
    have hp : t.val - 1 < cfg0.N := Nat.lt_of_le_of_lt (Nat.sub_le _ _) t.isLt
    rw [dat.before_unfetched_in 7 rfl t (Bool.eq_false_iff.mpr h) (fun _ => rfl)]
    refine Eq.trans ?_ ((dat.fetched_congr 7 (t := ⟨t.val - 1, hp⟩) (t' := t) (index7 _ _ (coords_prev t hn hp)) (clip7 _ _ (coords_prev t hn hp)) d).trans (hf t d))
    rw [hf]
    show win0_7.fill (grid0.coords ⟨t.val - 1, hp⟩) d (win0_7.cut (grid0.coords ⟨t.val - 1, hp⟩) (dat.after 7 ⟨t.val - 1, hp⟩)) = _
    rw [hafter]
    exact congrArg (win0_7.fill _ d) (win0_7.cut_fill _ _ _)
theorem before_8_of {c : Dev nD} (dat : Dat τ (Elt F) Unit ℕ (Pipeline.UD sig nD τ) ℕ cfg0 c) (hA : dat.A 8 = V m c (Pipeline.arrRef spec0 8))
    (hafter : ∀ t, dat.after 8 t = wsAt m c t) (t : Fin cfg0.N) (d) : dat.before 8 t d = win0_8.fill (grid0.coords t) d (iblk m c 8 t) := by
  have hf : ∀ t d, dat.fetched 8 t d = win0_8.fill (grid0.coords t) d (iblk m c 8 t) := fun t d => by
    unfold Dat.fetched Dat.blockOf iblk; rw [hA]
  by_cases h : (cfg0.win 8).fetch t = true
  · rw [dat.before_fetched 8 t h, hf]
  · have hn : t.val % 6 ≠ 0 := fun h' => h ((fetch0_8 t).mpr h')
    have hp : t.val - 1 < cfg0.N := Nat.lt_of_le_of_lt (Nat.sub_le _ _) t.isLt
    rw [dat.before_unfetched_in 8 rfl t (Bool.eq_false_iff.mpr h) (fun _ => rfl)]
    refine Eq.trans ?_ ((dat.fetched_congr 8 (t := ⟨t.val - 1, hp⟩) (t' := t) (index8 _ _ (coords_prev t hn hp)) (clip8 _ _ (coords_prev t hn hp)) d).trans (hf t d))
    rw [hf]
    show win0_8.fill (grid0.coords ⟨t.val - 1, hp⟩) d (win0_8.cut (grid0.coords ⟨t.val - 1, hp⟩) (dat.after 8 ⟨t.val - 1, hp⟩)) = _
    rw [hafter]
    exact congrArg (win0_8.fill _ d) (win0_8.cut_fill _ _ _)

/-- The weights' gradient is pointwise in what its buffer held. -/
theorem dwNext_at (t : Fin cfg0.N) (G : Vec F S768x512 .bf16) (H : Vec F S4608x1536 .fp8e4m3) (D D' : Vec F S512x1536 .f32) (j : S512x1536.Idx)
    (h : t.val % 6 ≠ 0 → D j = D' j) : dwNext (grid0.coords t) G H D j = dwNext (grid0.coords t) G H D' j := by
  unfold dwNext Scalar.select
  by_cases h0 : t.val % 6 = 0
  · rw [if_pos (show _ = (1 : BitVec 1) from (cmp0_iff t).mpr h0), if_pos (show _ = (1 : BitVec 1) from (cmp0_iff t).mpr h0)]
  · rw [if_neg (show ¬ _ = (1 : BitVec 1) from mt (cmp0_iff t).mp h0), if_neg (show ¬ _ = (1 : BitVec 1) from mt (cmp0_iff t).mp h0), shapeCast_self, shapeCast_self]
    unfold addf; rw [h h0]

/-! ## The proof data -/

/-- The activations' gradient the last point leaves. -/
def outX (c : Dev nD) : Vec F S4608x1536 .bf16 := dxOut (scaleVec (tileAt m c ⟨593, Nat.lt_of_lt_of_eq (by omega : 593 < 594) N_0.symm⟩).v0) (st m c 594).X

theorem step_X (c : Dev nD) (t : Fin cfg0.N) (s : St F) :
    (step m c t s).X = nX (tileAt m c t) (grid0.coords t) (nW (grid0.coords t) (wAt m c t) (wsAt m c t) s.W) s.X := by dsimp only [step]
theorem outX_last (c : Dev nD) (t : Fin cfg0.N) (h : t.val = 593) :
    outX m c = dxOut (scaleVec (tileAt m c t).v0) (nX (tileAt m c t) (grid0.coords t) (nW (grid0.coords t) (wAt m c t) (wsAt m c t) (st m c t.val).W) (st m c t.val).X) := by
  obtain ⟨n, hn⟩ := t
  obtain rfl : n = 593 := h
  rw [← step_X, ← st_succ]
  unfold outX
  exact congrArg (fun n => dxOut (scaleVec (tileAt m c ⟨593, hn⟩).v0) (st m c n).X) (show (594 : ℕ) = 593 + 1 from rfl)

/-- The scratch buffers between points. -/
def inv (c : Dev nD) (n : ℕ) : sProp 𝕄 :=
  iprop(∃ X W P, ⌜n ≠ 0 → X = (st m c n).X⌝ ∗ ⌜n ≠ 0 → n ≠ 594 → W = (st m c n).W⌝ ∗ ⌜n = 594 → P = outX m c⌝
    ∗ owns (c : Thread nD τ) (Memref.whole cc0_scratch0) fullShare X ∗ owns (c : Thread nD τ) (Memref.whole cc0_scratch1) fullShare W
    ∗ (∃ Y, owns (c : Thread nD τ) (Memref.whole cc0_scratch2) fullShare Y) ∗ (∃ Y, owns (c : Thread nD τ) (Memref.whole cc0_scratch3) fullShare Y)
    ∗ hbmAt c (Memref.whole main_v13_2) P ∗ semVal ((c : Thread nD τ), SemLoc.dma cc0_scratch4.sem) 0)

/-- The proof data: the arrays as the region finds them, each buffer after the point's body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wAt m c t
    | ⟨8, _⟩ => wsAt m c t
    | ⟨9, _⟩ => tileOf (codeP (tileAt m c t) (grid0.coords t))
    | ⟨10, _⟩ => (st m c (t.val + 1)).D
    | ⟨11, _⟩ => (st m c (t.val + 1)).A
    | ⟨12, _⟩ => (st m c (t.val + 1)).M
    | ⟨13, _⟩ => (st m c (t.val + 1)).S
    | ⟨_ + 14, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = wAt m c t := by dsimp only [dats]
theorem after_8 (c : Dev nD) (t : Fin cfg0.N) : (dats m 0 c).after 8 t = wsAt m c t := by dsimp only [dats]
theorem after_9 (c : Dev nD) (t : Fin cfg0.N) : (dats m 0 c).after 9 t = tileOf (codeP (tileAt m c t) (grid0.coords t)) := by dsimp only [dats]
theorem after_10 (c : Dev nD) (t : Fin cfg0.N) : (dats m 0 c).after 10 t = (st m c (t.val + 1)).D := by dsimp only [dats]
theorem after_11 (c : Dev nD) (t : Fin cfg0.N) : (dats m 0 c).after 11 t = (st m c (t.val + 1)).A := by dsimp only [dats]
theorem after_12 (c : Dev nD) (t : Fin cfg0.N) : (dats m 0 c).after 12 t = (st m c (t.val + 1)).M := by dsimp only [dats]
theorem after_13 (c : Dev nD) (t : Fin cfg0.N) : (dats m 0 c).after 13 t = (st m c (t.val + 1)).S := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = win0_7.fill (grid0.coords t) d (iblk m c 7 t) :=
  before_7_of m (dats m 0 c) (A_eq m c 7) (after_7 m c) t d
theorem before_8 (c : Dev nD) (t : Fin cfg0.N) (d) : (dats m 0 c).before 8 t d = win0_8.fill (grid0.coords t) d (iblk m c 8 t) :=
  before_8_of m (dats m 0 c) (A_eq m c 8) (after_8 m c) t d
theorem before_11 (c : Dev nD) (t : Fin cfg0.N) (d) (h : t.val ≠ 0) : (dats m 0 c).before 11 t d = (st m c t.val).A := by
  have ht : t.val < 594 := Nat.lt_of_lt_of_eq t.isLt N_0
  have hp : t.val - 1 < cfg0.N := Nat.lt_of_le_of_lt (Nat.sub_le _ _) t.isLt
  have hf : ¬ (cfg0.win 11).flush ⟨t.val - 1, hp⟩ = true := fun h' => by
    have := (flush0_11 ⟨t.val - 1, hp⟩).mp h'
    have e : (t.val - 1) % 594 = 593 := this
    omega
  rw [(dats m 0 c).before_of_pos 11 t h ((cfg0.win 11).fetch_out rfl t), if_neg hf]
  show (dats m 0 c).after 11 ⟨t.val - 1, hp⟩ = _
  rw [after_11]
  exact congrArg (fun n => (st m c n).A) (by show t.val - 1 + 1 = t.val; omega)
theorem before_12 (c : Dev nD) (t : Fin cfg0.N) (d) (h : t.val ≠ 0) : (dats m 0 c).before 12 t d = (st m c t.val).M := by
  have ht : t.val < 594 := Nat.lt_of_lt_of_eq t.isLt N_0
  have hp : t.val - 1 < cfg0.N := Nat.lt_of_le_of_lt (Nat.sub_le _ _) t.isLt
  have hf : ¬ (cfg0.win 12).flush ⟨t.val - 1, hp⟩ = true := fun h' => by
    have := (flush0_12 ⟨t.val - 1, hp⟩).mp h'
    have e : (t.val - 1) % 594 = 593 := this
    omega
  rw [(dats m 0 c).before_of_pos 12 t h ((cfg0.win 12).fetch_out rfl t), if_neg hf]
  show (dats m 0 c).after 12 ⟨t.val - 1, hp⟩ = _
  rw [after_12]
  exact congrArg (fun n => (st m c n).M) (by show t.val - 1 + 1 = t.val; omega)
theorem idle_13 (t : Fin cfg0.N) (h : t.val ≠ 0) : cfg0.idle 13 (cfg0.grid.coords t) = true := by
  show (!(k0_cond1 (grid0.coords t) == 1#1)) = true
  rw [Bool.not_eq_true', beq_eq_false_iff_ne]
  exact mt (cond1_iff t).mp h
theorem idle_13_zero (t : Fin cfg0.N) (h : t.val = 0) : cfg0.idle 13 (cfg0.grid.coords t) = false := by
  show (!(k0_cond1 (grid0.coords t) == 1#1)) = false
  rw [Bool.not_eq_false', beq_iff_eq]
  exact (cond1_iff t).mpr h
theorem S_kept (c : Dev nD) (t : Fin cfg0.N) (h : t.val ≠ 0) : (st m c (t.val + 1)).S = (st m c t.val).S := by
  rw [st_succ]; exact if_neg (mt (cond1_iff t).mp h)
theorem before_13 (c : Dev nD) : ∀ (n : ℕ) (t : Fin cfg0.N) (_ : t.val = n + 1) (d), (dats m 0 c).before 13 t d = (st m c t.val).S
  | n, t, hn, d => by
    have ht : t.val < 594 := Nat.lt_of_lt_of_eq t.isLt N_0
    have h : t.val ≠ 0 := by omega
    have hp : t.val - 1 < cfg0.N := Nat.lt_of_le_of_lt (Nat.sub_le _ _) t.isLt
    have hf : ¬ (cfg0.win 13).flush ⟨t.val - 1, hp⟩ = true := fun h' => by
      have := (flush0_13 ⟨t.val - 1, hp⟩).mp h'
      have e : (t.val - 1) % 594 = 593 := this
      omega
    have e1 : t.val - 1 + 1 = t.val := by omega
    rw [(dats m 0 c).before_of_pos 13 t h ((cfg0.win 13).fetch_out rfl t), if_neg hf]
    unfold Dat.left
    match n, hn with
    | 0, hn =>
      rw [idle_13_zero ⟨t.val - 1, hp⟩ (by show t.val - 1 = 0; omega)]
      show (dats m 0 c).after 13 ⟨t.val - 1, hp⟩ = _
      rw [after_13]
      exact congrArg (fun n => (st m c n).S) e1
    | n + 1, hn =>
      rw [idle_13 ⟨t.val - 1, hp⟩ (by show t.val - 1 ≠ 0; omega)]
      show (dats m 0 c).before 13 ⟨t.val - 1, hp⟩ d = _
      rw [before_13 c n ⟨t.val - 1, hp⟩ (by show t.val - 1 = n + 1; omega) d, ← S_kept m c ⟨t.val - 1, hp⟩ (by show t.val - 1 ≠ 0; omega)]
      exact congrArg (fun n => (st m c n).S) e1
/-- The weights' gradient, on the rows inside the array, from the tile's second point on. -/
theorem before_10 (c : Dev nD) (t : Fin cfg0.N) (d) (h : t.val % 6 ≠ 0) (j : S512x1536.Idx) (hj : win0_10.moved (grid0.coords t) j = true) :
    (dats m 0 c).before 10 t d j = (st m c t.val).D j := by
  have ht : t.val < 594 := Nat.lt_of_lt_of_eq t.isLt N_0
  have h0 : t.val ≠ 0 := fun h' => h (by rw [h'])
  have hp : t.val - 1 < cfg0.N := Nat.lt_of_le_of_lt (Nat.sub_le _ _) t.isLt
  have hf : ¬ (cfg0.win 10).flush ⟨t.val - 1, hp⟩ = true := fun h' => by
    have := (flush0_10 ⟨t.val - 1, hp⟩).mp h'
    have e : (t.val - 1) % 6 = 5 := this
    omega
  rw [(dats m 0 c).before_of_pos 10 t h0 ((cfg0.win 10).fetch_out rfl t), if_neg hf]
  show win0_10.fill (grid0.coords ⟨t.val - 1, hp⟩) d (win0_10.cut (grid0.coords ⟨t.val - 1, hp⟩) ((dats m 0 c).after 10 ⟨t.val - 1, hp⟩)) j = _
  rw [fill_moved (w := win0_10) _ d ((dats m 0 c).after 10 ⟨t.val - 1, hp⟩) _ j ((moved10 _ _ (coords_prev t h hp) j).trans hj), Window.fill_cut, after_10]
  exact congrArg (fun n => (st m c n).D j) (by show t.val - 1 + 1 = t.val; omega)

/-! ## The body -/

/-- The scale's buffer after the point: written at the first point only. -/
def post13 (c : Dev nD) (t : Fin cfg0.N) : sProp 𝕄 :=
  match cfg0.idle 13 (cfg0.grid.coords t) with
  | true =>
    match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)

theorem to_post13 (c : Dev nD) (t : Fin cfg0.N) : owns (c : Thread nD τ) (st0_13 t) fullShare ((st m c (t.val + 1)).S) ⊢ post13 m c t := by
  unfold post13
  by_cases h : t.val = 0
  · rw [idle_13_zero t h, after_13]
  · rw [idle_13 t h]
    cases hf : (cfg0.win 13).flush t
    · iintro H
      iexists (fun _ => Scalar.ofBits .f32 0#32)
      rw [before_13 m c (t.val - 1) t (by omega), S_kept m c t h]
      iexact H
    · rw [after_13]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare (win0_7.fill (grid0.coords t) d (win0_7.cut (grid0.coords t) ((dats m 0 c).after 7 t))))
    ∗ (∃ d, owns (c : Thread nD τ) (st0_8 t) fullShare (win0_8.fill (grid0.coords t) d (win0_8.cut (grid0.coords t) ((dats m 0 c).after 8 t))))
    ∗ (∃ d, owns (c : Thread nD τ) (st0_9 t) fullShare (win0_9.fill (grid0.coords t) d (win0_9.cut (grid0.coords t) ((dats m 0 c).after 9 t))))
    ∗ (∃ d, owns (c : Thread nD τ) (st0_10 t) fullShare (win0_10.fill (grid0.coords t) d (win0_10.cut (grid0.coords t) ((dats m 0 c).after 10 t))))
    ∗ owns (c : Thread nD τ) (st0_11 t) fullShare ((dats m 0 c).after 11 t)
    ∗ owns (c : Thread nD τ) (st0_12 t) fullShare ((dats m 0 c).after 12 t)
    ∗ post13 m c t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  have ht : t.val < 594 := Nat.lt_of_lt_of_eq t.isLt N_0
  unfold bodyPre bodyPost bodyAt0
  rw [show (dats m 0 c).Φ t.castSucc = inv m c t.val from rfl, show (dats m 0 c).Φ t.succ = inv m c (t.val + 1) from rfl]
  unfold inv
  unfold Dat.owesAt Pipeline.owesWithin
  rw [show (dats m 0 c).owed t.castSucc = 0 from rfl, show (dats m 0 c).owed t.succ = 0 from rfl]
  simp only [before_0, before_1, before_2, before_3, before_4, before_5, before_6, before_7, before_8]
  simp only [after_0, after_1, after_2, after_3, after_4, after_5, after_6, after_7, after_8, after_9, after_10, after_11, after_12]
  rw [cc0_grad_eq]
  iintro ⟨⟨%X, %W, %P, %hX, %hW, -, HS0, HS1, ⟨%Y2, HS2⟩, ⟨%Y3, HS3⟩, HP, HC⟩, ⟨%O, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have eA := nA_at (tileAt m c t) t (A := (dats m 0 c).before 11 t d11) (A' := (st m c t.val).A) (before_11 m c t d11)
  have eM := nM_at (tileAt m c t) t (A := (dats m 0 c).before 12 t d12) (A' := (st m c t.val).M) (before_12 m c t d12)
  have eS := nS_at (tileAt m c t) t (A := (dats m 0 c).before 13 t d13) (A' := (st m c t.val).S) (fun h => before_13 m c (t.val - 1) t (by omega) d13)
  have eW : nW (grid0.coords t) (win0_7.fill (grid0.coords t) d7 (iblk m c 7 t)) (win0_8.fill (grid0.coords t) d8 (iblk m c 8 t)) W
      = nW (grid0.coords t) (wAt m c t) (wsAt m c t) (st m c t.val).W := by
    unfold nW
    by_cases h : first1 (grid0.coords t)
    · rw [if_pos h, if_pos h]; exact wqNext_fill t _ _ _ _ _ _
    · have h0 : t.val ≠ 0 := fun h' => h ((first1_iff t).mpr (by rw [h']))
      rw [if_neg h, if_neg h, hW h0 (by omega)]
  have eX := nX_at (tileAt m c t) t (nW (grid0.coords t) (wAt m c t) (wsAt m c t) (st m c t.val).W) (A := X) (A' := (st m c t.val).X) hX
  have eD : win0_10.cut (grid0.coords t) (dwNext (grid0.coords t) (tileOf (wgtP (tileAt m c t) (grid0.coords t))) (hidAt m c t) ((dats m 0 c).before 10 t d10))
      = win0_10.cut (grid0.coords t) (st m c (t.val + 1)).D := by
    rw [st_succ]
    funext j
    exact dwNext_at t _ _ _ _ _ fun h => before_10 m c t d10 h _ (win0_10.moved_xinj _ j)
  iapply (wp_bodyS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole main_v13_2) (Memref.isWhole_whole _) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (tileAt m c t) (hidAt m c t) (win0_7.fill (grid0.coords t) d7 (iblk m c 7 t)) (win0_8.fill (grid0.coords t) d8 (iblk m c 8 t))
    ((dats m 0 c).before 9 t d9) ((dats m 0 c).before 10 t d10) P ((dats m 0 c).before 11 t d11) ((dats m 0 c).before 12 t d12) ((dats m 0 c).before 13 t d13) X W Y2 Y3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HP]; · iexact HP
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HC]; · iexact HC
  isplitl [HO]; · iexists O; iexact HO
  rw [eA, eM, eS, eW, eX]
  iintro ⟨H0, H1, H2, H3, H4, H5, H6, H7, H8, H9, H10, HP, H11, H12, H13, HS0, ⟨%Y1, %hY1, HS1⟩, HS2, HS3, HC, ⟨%O', HO⟩⟩
  isplitl [HS0 HS1 HS2 HS3 HP HC]
  · iexists (nX (tileAt m c t) (grid0.coords t) (nW (grid0.coords t) (wAt m c t) (wsAt m c t) (st m c t.val).W) (st m c t.val).X), Y1, _
    isplitr
    · ipureintro; intro _; rw [st_succ]; rfl
    isplitr
    · ipureintro; intro _ h; rw [st_succ]
      exact hY1 fun h3 => h (by rw [(cond3_iff t).mp h3])
    isplitr; swap
    · isplitl [HS0]; · iexact HS0
      isplitl [HS1]; · iexact HS1
      isplitl [HS2]; · iexists _; iexact HS2
      isplitl [HS3]; · iexists _; iexact HS3
      isplitl [HP]; · iexact HP
      iexact HC
    ipureintro; intro h
    have h' : t.val = 593 := by omega
    rw [if_pos ((cond3_iff t).mpr h')]
    exact (outX_last m c t h').symm
  isplitl [HO]
  · iexists O'; isplitr
    · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; unfold wAt; rw [win0_7.cut_fill]; iexact H7
  isplitl [H8]
  · iexists d8; unfold wsAt; rw [win0_8.cut_fill]; iexact H8
  isplitl [H9]
  · iexists (tileOf (codeP (tileAt m c t) (grid0.coords t))); rw [win0_9.fill_cut]; iexact H9
  isplitl [H10]
  · iexists (dwNext (grid0.coords t) (tileOf (wgtP (tileAt m c t) (grid0.coords t))) (hidAt m c t) ((dats m 0 c).before 10 t d10)); rw [← eD, win0_10.fill_cut]; iexact H10
  isplitl [H11]; · rw [st_succ]; iexact H11
  isplitl [H12]; · rw [st_succ]; iexact H12
  iapply (to_post13 m c t)
  rw [st_succ]; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Hand.LaunchI.lean ====
/- The launch of the `grad` kernel: @main runs, every buffer ends at contents named here, the arguments are unchanged and every
   semaphore counter ends at zero. -/
module

public import proofs.«01_k».proof.Proof.Hand.FrameI
public import Idealize.ShloMosaic.Lib.Claim

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-- The body's one DMA cell. -/
abbrev osem : Unit → SemLoc sig := fun _ => .dma cc0_scratch4.sem
theorem ownSemFacts : Pipeline.OwnSemFacts cfg0.spec osem := by decide

theorem H_sub : (∅ : Finset (Ref sig .tc)) ⊆ Pipeline.restRefs sig cfg0.spec := Finset.empty_subset _
theorem R_sub : ({main_v13_2} : Finset (Ref sig .tc)) ⊆ Pipeline.restRefs sig cfg0.spec \ ∅ := by
  rw [Finset.sdiff_empty, Finset.singleton_subset_iff]
  exact Pipeline.mem_restRefs_of main_v13_2 (by decide) (by decide)

/-- What the body writes to the array it copies to itself. -/
def outBuf (c : Dev nD) : Buf (Elt F) ((c : Thread nD τ).loc main_v13_2) := outX m c
/-- The contents the body leaves in the arrays it copies to itself. -/
def outG (c : Dev nD) (b : Ref sig .tc) : Buf (Elt F) ((c : Thread nD τ).loc b) :=
  if h : b = main_v13_2 then h ▸ outBuf m c else V m c b
theorem outG_eq (c : Dev nD) : outG m c main_v13_2 = outBuf m c := by unfold outG; rw [dif_pos rfl]

/-- The buffers when the region is left. -/
def regionV (c : Dev nD) : Valuation τ sig (Elt F) :=
  Pipeline.withArrays cfg0.spec c (Pipeline.withR (V0 m c) {main_v13_2} c (outG m c)) fun w => (dats m 0 c).arrAt w cfg0.N
/-- The buffers at the end. -/
def endV (c : Dev nD) (b : Ref sig .tc) : Buf (Elt F) ((c : Thread nD τ).loc b) :=
  StableHlo.after ([hostOps1] : List (List (HloOp τ sig (Elt F)))).flatten (regionV m c) (Proc.devRef .tc b)

theorem regionV_of_ne (c : Dev nD) (b : Ref sig .tc) (h : ∀ w, Pipeline.arrRef spec0 w ≠ b) (h' : b ≠ main_v13_2) :
    regionV m c (Proc.devRef .tc b) = V0 m c (Proc.devRef .tc b) := by
  unfold regionV
  rw [Pipeline.withArrays_of_ne _ c _ _ b h, Pipeline.withR_of_not_mem _ _ c _ b (by rw [Finset.mem_singleton]; exact h')]
theorem regionV_arr (c : Dev nD) (w : Fin cfg0.W) : regionV m c (Proc.devRef .tc (Pipeline.arrRef spec0 w)) = (dats m 0 c).arrAt w cfg0.N := by
  unfold regionV
  exact Pipeline.withArrays_arr _ launch0.win.arr_inj c _ _ w
theorem regionV_out (c : Dev nD) : regionV m c (Proc.devRef .tc main_v13_2) = outBuf m c := by
  unfold regionV
  rw [Pipeline.withArrays_of_ne _ c _ _ main_v13_2 (by decide), Pipeline.withR_of_mem _ _ c _ main_v13_2 (Finset.mem_singleton_self _), outG_eq]

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The region enters the invariant. -/
theorem enter (c : Dev nD) : Pipeline.ΦDRV osem cfg0.spec ∅ {main_v13_2} (fun c b => V0 m c (Proc.devRef .tc b)) (fun c b => V0 m c (Proc.devRef .tc b)) c
    ⊢ (inv m c 0 : sProp 𝕄) := by
  unfold Pipeline.ΦDRV inv Pipeline.ownSems0 hbmAt
  rw [show (Pipeline.scopedRest cfg0.spec c : sProp 𝕄) = _ from scopedRest0_eq c, bigSep_singleton, bigSep_empty]
  rw [show (Finset.univ : Finset Unit) = {()} from rfl, bigSep_singleton]
  iintro ⟨⟨⟨%X, HX⟩, ⟨%W, HW⟩, ⟨%G, HG⟩, ⟨%K, HK⟩⟩, HC, -, HP⟩
  iexists X, W, (V0 m c (Proc.devRef .tc main_v13_2))
  rw [owns_whole, owns_whole]
  isplitr; · ipureintro; exact fun h => absurd rfl h
  isplitr; · ipureintro; exact fun h => absurd rfl h
  isplitr; · ipureintro; exact fun h => absurd h (by decide)
  isplitl [HX]; · iexact HX
  isplitl [HW]; · iexact HW
  isplitl [HG]; · iexists G; rw [owns_whole]; iexact HG
  isplitl [HK]; · iexists K; rw [owns_whole]; iexact HK
  isplitl [HP]
  · iexists (V0 m c (Proc.devRef .tc main_v13_2))
    isplitr; · ipureintro; rfl
    iexact HP
  iexact HC

/-- The invariant gives the region's buffers back. -/
theorem leave (c : Dev nD) : (inv m c 594 : sProp 𝕄)
    ⊢ Pipeline.ΦDRV osem cfg0.spec ∅ {main_v13_2} (fun c b => V0 m c (Proc.devRef .tc b)) (outG m) c := by
  unfold Pipeline.ΦDRV inv Pipeline.ownSems0 hbmAt
  rw [show (Pipeline.scopedRest cfg0.spec c : sProp 𝕄) = _ from scopedRest0_eq c, bigSep_singleton, bigSep_empty]
  rw [show (Finset.univ : Finset Unit) = {()} from rfl, bigSep_singleton]
  simp only [owns_whole]
  iintro ⟨%X, %W, %P, -, -, %hP, HX, HW, ⟨%G, HG⟩, ⟨%K, HK⟩, ⟨%g, %hg, HP⟩, HC⟩
  have e : outG m c main_v13_2 = g := by
    rw [outG_eq]; unfold outBuf; rw [← hP trivial, ← hg]; rfl
  rw [e]
  isplitl [HX HW HG HK]
  · isplitl [HX]; · iexists X; iexact HX
    isplitl [HW]; · iexists W; iexact HW
    isplitl [HG]; · iexists G; iexact HG
    iexists K; iexact HK
  isplitl [HC]; · iexact HC
  isplitr; · iempintro
  iexact HP

/-- THE RUN: every array ends as its window left it, every other buffer as the host lines after the region leave it, every counter at zero. -/
theorem run_main : θ_run defs (onTc (τ := τ) (main (F := F))) (s₀ m ρ) (fun r => (∀ c : Dev nD,
      (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = endV m c b) ∧ r.2.sem = fun _ => 0) :=
  Pipeline.θ_run_frame_dmaR_aroundV cfgs (dats m) 0 launch0 osem defs₀ Variants.none ownSemFacts ∅ {main_v13_2} H_sub R_sub m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (G := outG m) (hmain := hmainD m)
    (hA := A_eq m) (hin := enter m) (hout := fun c => by
      show inv m c cfg0.N ⊢ _
      rw [show cfg0.N = 594 from N_0]; exact leave m c) (Q' := _) (hQ' := fun _ h => h)

theorem end_main_arg0 (c : Dev nD) : endV m c main_arg0 = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg0 (by decide) (by decide)]
  exact V_main_arg0 m c
theorem end_main_arg1 (c : Dev nD) : endV m c main_arg1 = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg1 (by decide) (by decide)]
  exact V_main_arg1 m c
theorem end_main_arg2 (c : Dev nD) : endV m c main_arg2 = m ((c : Thread nD τ).loc main_arg2) := by
  unfold endV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg2 (by decide) (by decide)]
  exact V_main_arg2 m c
theorem end_main_arg3 (c : Dev nD) : endV m c main_arg3 = m ((c : Thread nD τ).loc main_arg3) := by
  unfold endV
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg3 (by decide) (by decide)]
  exact V_main_arg3 m c
theorem end_main_arg4 (c : Dev nD) : endV m c main_arg4 = m ((c : Thread nD τ).loc main_arg4) := by
  unfold endV
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg4 (by decide) (by decide)]
  exact V_main_arg4 m c
theorem end_main_arg5 (c : Dev nD) : endV m c main_arg5 = m ((c : Thread nD τ).loc main_arg5) := by
  unfold endV
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg5 (by decide) (by decide)]
  exact V_main_arg5 m c
theorem end_main_arg8 (c : Dev nD) : endV m c main_arg8 = m ((c : Thread nD τ).loc main_arg8) := by
  unfold endV
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_of_ne m c main_arg8 (by decide) (by decide)]
  exact V_main_arg8 m c

/-- THE FRAME: @main runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (end_main_arg0 m c),
    ((h.1 c).2 main_arg1 (Pipeline.mem_restRefs_of main_arg1 (by decide) (by decide))).trans (end_main_arg1 m c),
    ((h.1 c).2 main_arg2 (Pipeline.mem_restRefs_of main_arg2 (by decide) (by decide))).trans (end_main_arg2 m c),
    ((h.1 c).2 main_arg3 (Pipeline.mem_restRefs_of main_arg3 (by decide) (by decide))).trans (end_main_arg3 m c),
    ((h.1 c).2 main_arg4 (Pipeline.mem_restRefs_of main_arg4 (by decide) (by decide))).trans (end_main_arg4 m c),
    ((h.1 c).2 main_arg5 (Pipeline.mem_restRefs_of main_arg5 (by decide) (by decide))).trans (end_main_arg5 m c),
    ((h.1 c).1 6).trans (((dats m 0 c).arrAt_in 6 rfl _).trans ((A_eq m c 6).trans (V_main_arg6 m c))),
    ((h.1 c).1 7).trans (((dats m 0 c).arrAt_in 7 rfl _).trans ((A_eq m c 7).trans (V_main_arg7 m c))),
    ((h.1 c).2 main_arg8 (Pipeline.mem_restRefs_of main_arg8 (by decide) (by decide))).trans (end_main_arg8 m c)⟩, h.2⟩) (run_main m ρ)

end Cert.KernelIdeal.Hand

end
-- ==== Proof.Hand.Scale.lean ====
/- The quantiser's scale over the reals: powers of two by their bit patterns, the kernel's search for an exponent field, and
   the least power of two above a number. -/
module

public import proofs.«01_k».proof.Proof.Hand.BodyI
public import Idealize.ShloMosaic.Lib.Pointwise

@[expose] public section

set_option maxRecDepth 16384

noncomputable section

namespace Cert.Hand

open Idealize.ShloMosaic

/-! ## Powers of two -/

/-- The pattern of exponent field `k`. -/
def powBits (k : ℕ) : BitVec 32 := IntOp.shli .vector (BitVec.ofNat 32 k) 23#32
/-- The number it denotes. -/
def pw (k : ℕ) : EReal := Ideal.ofBits .f32 (powBits k)

theorem ieee_pow (b : BitVec 32) (k : ℕ) (e1 : (b.extractLsb' 23 8).toNat = k) (e2 : (b.extractLsb' 0 23).toNat = 0)
    (e3 : (b.extractLsb' (8 + 23) 1 == 1#1) = false) (h1 : 1 ≤ k) (h2 : k ≤ 254) :
    Ideal.ieee 8 23 b = (((2 : ℝ) ^ ((k : ℤ) - 127) : ℝ) : EReal) := by
  unfold Ideal.ieee
  simp only [e1, e2, e3]
  rw [if_neg (by omega), if_neg (by omega)]
  congr 1
  simp only [Bool.false_eq_true, if_false, one_mul, Nat.add_zero]
  have h : (2 : ℝ) ^ (23 : ℤ) = 8388608 := by norm_num
  rw [show ((k : ℤ) - (2 ^ (8 - 1) - 1) - (23 : ℕ)) = ((k : ℤ) - 127) - 23 by norm_num, zpow_sub₀ (by norm_num : (2 : ℝ) ≠ 0), h]
  push_cast
  norm_num
  field_simp

theorem powBits_e1 : ∀ k : Fin 256, ((powBits k.val).extractLsb' 23 8).toNat = k.val := by decide +kernel
theorem powBits_e2 : ∀ k : Fin 256, ((powBits k.val).extractLsb' 0 23).toNat = 0 := by decide +kernel
theorem powBits_e3 : ∀ k : Fin 256, ((powBits k.val).extractLsb' (8 + 23) 1 == 1#1) = false := by decide +kernel

theorem pw_eq (k : ℕ) (h1 : 1 ≤ k) (h2 : k ≤ 254) : pw k = (((2 : ℝ) ^ ((k : ℤ) - 127) : ℝ) : EReal) :=
  ieee_pow _ k (powBits_e1 ⟨k, by omega⟩) (powBits_e2 ⟨k, by omega⟩) (powBits_e3 ⟨k, by omega⟩) h1 h2

theorem pw_top : pw 255 = ⊤ := by
  have e1 := powBits_e1 ⟨255, by omega⟩
  have e2 := powBits_e2 ⟨255, by omega⟩
  have e3 := powBits_e3 ⟨255, by omega⟩
  rw [show pw 255 = Ideal.ieee 8 23 (powBits 255) from rfl]
  unfold Ideal.ieee
  simp only at e1 e2 e3
  simp only [e1, e2, e3]
  simp

theorem pw_lt {a b : ℕ} (h1 : 1 ≤ a) (h : a < b) (h2 : b ≤ 255) : pw a < pw b := by
  rw [pw_eq a h1 (by omega)]
  by_cases hb : b = 255
  · subst hb; rw [pw_top]; exact EReal.coe_lt_top _
  · rw [pw_eq b (by omega) (by omega), EReal.coe_lt_coe_iff]
    exact zpow_lt_zpow_right₀ (by norm_num) (by omega)

theorem pw_le {a b : ℕ} (h1 : 1 ≤ a) (h : a ≤ b) (h2 : b ≤ 255) : pw a ≤ pw b := by
  rcases Nat.lt_or_eq_of_le h with h | h
  · exact (pw_lt h1 h h2).le
  · rw [h]

/-- A number below `pw 253` splits the fields at one place. -/
theorem exists_field (y : EReal) (hy : y < pw 253) : ∃ n : ℕ, n ≤ 252 ∧ ∀ k : ℕ, 1 ≤ k → k ≤ 255 → (pw k ≤ y ↔ k ≤ n) := by
  classical
  refine ⟨Nat.findGreatest (fun k => 1 ≤ k ∧ pw k ≤ y) 252, Nat.findGreatest_le _, fun k h1 h2 => ⟨fun h => ?_, fun h => ?_⟩⟩
  · have hk : k ≤ 252 := by
      by_contra hc
      exact absurd (lt_of_le_of_lt ((pw_le (by omega) (by omega : 253 ≤ k) h2).trans h) hy) (lt_irrefl _)
    exact Nat.le_findGreatest hk ⟨h1, h⟩
  · by_contra hc
    have hn : Nat.findGreatest (fun k => 1 ≤ k ∧ pw k ≤ y) 252 ≠ 0 := by omega
    have hs := Nat.findGreatest_of_ne_zero (P := fun k => 1 ≤ k ∧ pw k ≤ y) rfl hn
    have hb : Nat.findGreatest (fun k => 1 ≤ k ∧ pw k ≤ y) 252 ≤ 252 := Nat.findGreatest_le _
    exact hc ((pw_le h1 h (by omega)).trans hs.2)

/-! ## The kernel's search -/

/-- One step, on one number. -/
def stepS (y : EReal) (b v : BitVec 32) : BitVec 32 :=
  if Ideal.ofBits .f32 (IntOp.shli .vector (IntOp.addi v b) 23#32) ≤ y then IntOp.addi v b else v
/-- The same step on fields. -/
def natStep (n b a : ℕ) : ℕ := if a + b ≤ n then a + b else a

theorem natStep_le (n b a : ℕ) : natStep n b a ≤ a + b := by unfold natStep; split <;> omega

theorem stepS_eq (y : EReal) (n : ℕ) (h : ∀ k : ℕ, 1 ≤ k → k ≤ 255 → (pw k ≤ y ↔ k ≤ n)) (b a : ℕ) (hb : 1 ≤ b) (hab : a + b ≤ 255) :
    stepS y (BitVec.ofNat 32 b) (BitVec.ofNat 32 a) = BitVec.ofNat 32 (natStep n b a) := by
  have e : IntOp.addi (BitVec.ofNat 32 a) (BitVec.ofNat 32 b) = BitVec.ofNat 32 (a + b) := (BitVec.ofNat_add a b).symm
  have hk := h (a + b) (by omega) hab
  unfold pw powBits at hk
  unfold stepS natStep
  rw [e]
  by_cases hc : a + b ≤ n
  · rw [if_pos (hk.mpr hc), if_pos hc]
  · rw [if_neg (fun h' => hc (hk.mp h')), if_neg hc]

theorem natSearch : ∀ n : Fin 256, natStep n.val 1 (natStep n.val 2 (natStep n.val 4 (natStep n.val 8 (natStep n.val 16 (natStep n.val 32
    (natStep n.val 64 (natStep n.val 128 0))))))) = n.val := by decide +kernel

theorem search_eq (y : EReal) (n : ℕ) (hn : n ≤ 255) (h : ∀ k : ℕ, 1 ≤ k → k ≤ 255 → (pw k ≤ y ↔ k ≤ n)) :
    stepS y 1#32 (stepS y 2#32 (stepS y 4#32 (stepS y 8#32 (stepS y 16#32 (stepS y 32#32 (stepS y 64#32 (stepS y 128#32 0#32)))))))
      = BitVec.ofNat 32 n := by
  have l1 := natStep_le n 128 0
  have l2 := natStep_le n 64 (natStep n 128 0)
  have l3 := natStep_le n 32 (natStep n 64 (natStep n 128 0))
  have l4 := natStep_le n 16 (natStep n 32 (natStep n 64 (natStep n 128 0)))
  have l5 := natStep_le n 8 (natStep n 16 (natStep n 32 (natStep n 64 (natStep n 128 0))))
  have l6 := natStep_le n 4 (natStep n 8 (natStep n 16 (natStep n 32 (natStep n 64 (natStep n 128 0)))))
  have l7 := natStep_le n 2 (natStep n 4 (natStep n 8 (natStep n 16 (natStep n 32 (natStep n 64 (natStep n 128 0))))))
  rw [show (stepS y 128#32 0#32) = _ from stepS_eq y n h 128 0 (by omega) (by omega),
    show (stepS y 64#32 _) = _ from stepS_eq y n h 64 _ (by omega) (by omega),
    show (stepS y 32#32 _) = _ from stepS_eq y n h 32 _ (by omega) (by omega),
    show (stepS y 16#32 _) = _ from stepS_eq y n h 16 _ (by omega) (by omega),
    show (stepS y 8#32 _) = _ from stepS_eq y n h 8 _ (by omega) (by omega),
    show (stepS y 4#32 _) = _ from stepS_eq y n h 4 _ (by omega) (by omega),
    show (stepS y 2#32 _) = _ from stepS_eq y n h 2 _ (by omega) (by omega),
    show (stepS y 1#32 _) = _ from stepS_eq y n h 1 _ (by omega) (by omega)]
  exact congrArg _ (natSearch ⟨n, by omega⟩)

/-- The scale and its inverse from the field. -/
theorem scale_bits : ∀ n : Fin 253, IntOp.shli .vector (IntOp.addi (127#32)
      (Scalar.select (IntOp.cmpi .eq (BitVec.ofNat 32 n.val) 0#32) (0#32) (IntOp.subi (BitVec.ofNat 32 n.val) 126#32))) 23#32
    = powBits (if n.val = 0 then 127 else n.val + 1) := by decide +kernel
theorem inv_bits : ∀ n : Fin 253, IntOp.shli .vector (IntOp.subi (127#32)
      (Scalar.select (IntOp.cmpi .eq (BitVec.ofNat 32 n.val) 0#32) (0#32) (IntOp.subi (BitVec.ofNat 32 n.val) 126#32))) 23#32
    = powBits (if n.val = 0 then 127 else 253 - n.val) := by decide +kernel

/-! ## The scale -/

/-- The kernel's field search on one number. -/
def fieldS (y : EReal) : BitVec 32 :=
  stepS y 1#32 (stepS y 2#32 (stepS y 4#32 (stepS y 8#32 (stepS y 16#32 (stepS y 32#32 (stepS y 64#32 (stepS y 128#32 0#32)))))))
/-- The kernel's scale of `y`. -/
def scaleS (y : EReal) : EReal := Ideal.ofBits .f32 (IntOp.shli .vector (IntOp.addi (127#32)
      (Scalar.select (IntOp.cmpi .eq (fieldS y) 0#32) (0#32) (IntOp.subi (fieldS y) 126#32))) 23#32)
/-- The kernel's inverse scale of `y`. -/
def invS (y : EReal) : EReal := Ideal.ofBits .f32 (IntOp.shli .vector (IntOp.subi (127#32)
      (Scalar.select (IntOp.cmpi .eq (fieldS y) 0#32) (0#32) (IntOp.subi (fieldS y) 126#32))) 23#32)
/-- The reference's scale of `y`: the least power of two above it, 1 below the normal numbers. -/
def scaleR (y : EReal) : EReal := if y < Ideal.ofBits .f32 8388608#32 then 1 else
  Finset.fold min (Ideal.ofBits .f32 2139095040#32) (fun x : Fin 252 =>
    if y < Ideal.ofBits .f32 (IntOp.shli .vector (IntOp.addi (BitVec.ofNat 32 x.val) 2#32) 23#32) then
      Ideal.ofBits .f32 (IntOp.shli .vector (IntOp.addi (BitVec.ofNat 32 x.val) 2#32) 23#32)
    else Ideal.ofBits .f32 2139095040#32) Finset.univ

theorem bits_1 : powBits 1 = 8388608#32 := by decide +kernel
theorem bits_255 : powBits 255 = 2139095040#32 := by decide +kernel
theorem bits_227 : powBits 227 = 0x71800000#32 := by decide +kernel
theorem bits_add : ∀ x : Fin 252, IntOp.shli .vector (IntOp.addi (BitVec.ofNat 32 x.val) 2#32) 23#32 = powBits (x.val + 2) := by decide +kernel

/-- Both scales are one positive real, and the kernel's other number is its inverse. -/
theorem scale_facts (y : EReal) (hy : y < pw 253) :
    ∃ s : ℝ, 0 < s ∧ scaleS y = (s : EReal) ∧ invS y = ((s⁻¹ : ℝ) : EReal) ∧ scaleR y = (s : EReal) := by
  obtain ⟨n, hn, h⟩ := exists_field y hy
  have hf : fieldS y = BitVec.ofNat 32 n := search_eq y n (by omega) h
  have hs : scaleS y = pw (if n = 0 then 127 else n + 1) := by
    unfold scaleS; rw [hf]; exact congrArg _ (scale_bits ⟨n, by omega⟩)
  have hi : invS y = pw (if n = 0 then 127 else 253 - n) := by
    unfold invS; rw [hf]; exact congrArg _ (inv_bits ⟨n, by omega⟩)
  have e1 : Ideal.ofBits .f32 8388608#32 = pw 1 := by rw [← bits_1]; rfl
  have e255 : Ideal.ofBits .f32 2139095040#32 = ⊤ := by rw [← bits_255, ← pw_top]; rfl
  have h1 := h 1 (by omega) (by omega)
  by_cases h0 : n = 0
  · have p127 : pw 127 = ((1 : ℝ) : EReal) := by rw [pw_eq 127 (by omega) (by omega)]; norm_num
    refine ⟨1, one_pos, ?_, ?_, ?_⟩
    · rw [hs, if_pos h0, p127]
    · rw [hi, if_pos h0, p127, inv_one]
    · unfold scaleR
      rw [e1, if_pos (lt_of_not_ge (fun hc => by have := h1.mp hc; omega))]
      rfl
  · rw [if_neg h0] at hs hi
    refine ⟨(2 : ℝ) ^ (((n + 1 : ℕ) : ℤ) - 127), by positivity, ?_, ?_, ?_⟩
    · rw [hs, pw_eq _ (by omega) (by omega)]
    · rw [hi, pw_eq _ (by omega) (by omega), ← zpow_neg]
      congr 2
      omega
    · unfold scaleR
      rw [e1, if_neg (not_lt_of_ge (h1.mpr (by omega))), ← pw_eq (n + 1) (by omega) (by omega)]
      have ef : ∀ x : Fin 252, Ideal.ofBits .f32 (IntOp.shli .vector (IntOp.addi (BitVec.ofNat 32 x.val) 2#32) 23#32) = pw (x.val + 2) :=
        fun x => congrArg (Ideal.ofBits .f32) (bits_add x)
      simp only [ef, e255]
      apply le_antisymm
      · refine Finset.fold_min_le _ |>.mpr (Or.inr ⟨⟨n - 1, by omega⟩, Finset.mem_univ _, ?_⟩)
        have hx := h (n - 1 + 2) (by omega) (by omega)
        show (if y < pw (n - 1 + 2) then pw (n - 1 + 2) else ⊤) ≤ _
        rw [if_pos (lt_of_not_ge (fun hc => by have := hx.mp hc; omega))]
        exact le_of_eq (congrArg pw (by omega))
      · refine Finset.le_fold_min _ |>.mpr ⟨le_top, fun x _ => ?_⟩
        have hx := h (x.val + 2) (by omega) (by omega)
        split
        · rename_i hc
          exact pw_le (by omega) (by have h3 : ¬ (x.val + 2 ≤ n) := fun h4 => absurd (hx.mpr h4) (not_le_of_gt hc)
                                     omega) (by omega)
        · exact le_top

/-! ## The bound on the history -/

theorem factor_eq : Ideal.ofBits .f32 932333861#32 = (((9586981 : ℝ) * (2 : ℝ) ^ (-39 : ℤ) : ℝ) : EReal) := by
  simp [Ideal.ofBits, Ideal.ieee, -EReal.coe_mul]

theorem factor_nonneg : (0 : EReal) ≤ Ideal.ofBits .f32 932333861#32 := by
  rw [factor_eq, ← EReal.coe_zero, EReal.coe_le_coe_iff]; positivity
theorem factor_le_one : Ideal.ofBits .f32 932333861#32 ≤ (1 : EReal) := by
  rw [factor_eq, ← EReal.coe_one, EReal.coe_le_coe_iff]; norm_num

/-- The ratio of a history below `2 ^ 100`. -/
theorem ratio_lt (f : Fin 16 → EReal) (hf : ∀ x, f x < Ideal.ofBits .f32 0x71800000#32) :
    Finset.fold max (Ideal.ofBits .f32 4286578688#32) f Finset.univ * Ideal.ofBits .f32 932333861#32 < pw 253 := by
  have e : Ideal.ofBits .f32 0x71800000#32 = pw 227 := by rw [← bits_227]; rfl
  have eb : Ideal.ofBits .f32 4286578688#32 = ⊥ := by simp [Ideal.ofBits, Ideal.ieee]
  have hM : Finset.fold max (Ideal.ofBits .f32 4286578688#32) f Finset.univ < pw 227 := by
    rw [Finset.fold_max_lt]
    refine ⟨?_, fun x _ => e ▸ hf x⟩
    rw [eb, pw_eq 227 (by omega) (by omega)]
    exact EReal.bot_lt_coe _
  generalize Finset.fold max (Ideal.ofBits .f32 4286578688#32) f Finset.univ = M at hM
  have h253 : (0 : EReal) < pw 253 := by
    rw [pw_eq 253 (by omega) (by omega), ← EReal.coe_zero, EReal.coe_lt_coe_iff]; positivity
  rcases le_total M 0 with h | h
  · exact lt_of_le_of_lt ((mul_le_mul_of_nonneg_right h factor_nonneg).trans (by rw [zero_mul])) h253
  · refine lt_of_le_of_lt ((mul_le_mul_of_nonneg_left factor_le_one h).trans (by rw [mul_one])) (hM.trans (pw_lt (by omega) (by omega) (by omega)))

end Cert.Hand
end
-- ==== Proof.Hand.Reads.lean ====
/- What the `grad` call's grid points read, as entries of the program's arguments. -/
module

public import proofs.«01_k».proof.Proof.Hand.StateI
public import proofs.«01_k».proof.Proof.Hand.Scale
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat Cfg Window)

variable (m : (ℓ : Loc nD τ sig) → Buf (Elt Ideal) ℓ)

/-- The tables of the arguments, over all naturals. -/
def tL (x : Vec Ideal S4608x50304 .f32) (t v : ℕ) : EReal := if h : t < 4608 ∧ v < 50304 then x (ix2 ⟨t, h.1⟩ ⟨v, h.2⟩) else ⊥
def tV (x : Vec Ideal S4608 .f32) (t : ℕ) : EReal := if h : t < 4608 then x (ix1 ⟨t, h⟩) else 0
def tLab (x : Vec Ideal S6x768 .i32) (t : ℕ) : BitVec 32 := if h : t < 4608 then x (ix2 (⟨t / 768, by omega⟩ : Fin 6) (⟨t % 768, by omega⟩ : Fin 768)) else 0
def tH (x : Vec Ideal S4608x1536 .fp8e4m3) (t : ℕ) (d : Fin 1536) : EReal := if h : t < 4608 then x (ix2 ⟨t, h⟩ d) else 0
def tW (x : Vec Ideal S50304x1536 .fp8e4m3) (v : ℕ) (d : Fin 1536) : EReal := if h : v < 50304 then x (ix2 ⟨v, h⟩ d) else 0
def tWS (x : Vec Ideal S50304 .f32) (v : ℕ) : EReal := if h : v < 50304 then x (ix1 ⟨v, h⟩) else 0

theorem t_div (t : Fin cfg0.N) : t.val / 6 < 99 := by
  have ht : t.val < 594 := Nat.lt_of_lt_of_eq t.isLt N_0
  omega

theorem idx1 (t : Fin cfg0.N) : win0_1.index t = ![(grid0.coords t 0).val, (grid0.coords t 1).val, 0] := by
  funext a
  have h0 := (grid0.coords t 0).isLt
  have h1 := (grid0.coords t 1).isLt
  match a with
  | ⟨0, _⟩ => exact Nat.mod_eq_of_lt (by show (grid0.coords t 0).val < 2 ^ 32; have : (grid0.coords t 0).val < 99 := h0; omega)
  | ⟨1, _⟩ => exact Nat.mod_eq_of_lt (by show (grid0.coords t 1).val < 2 ^ 32; have : (grid0.coords t 1).val < 6 := h1; omega)
  | ⟨2, _⟩ => rfl

theorem idxT (i : grid0.Coords) : (BitVec.ofNat 32 (i 0).val).toNat = (i 0).val ∧ (BitVec.ofNat 32 (i 1).val).toNat = (i 1).val := by
  have h0 : (i 0).val < 99 := (i 0).isLt
  have h1 : (i 1).val < 6 := (i 1).isLt
  rw [BitVec.toNat_ofNat, BitVec.toNat_ofNat]; omega
theorem idx2 (t : Fin cfg0.N) : win0_2.index t = ![(grid0.coords t 1).val, 0] := by
  show (![(BitVec.ofNat 32 (grid0.coords t 1).val).toNat, (0#32).toNat] : Fin 2 → Nat) = _
  rw [(idxT _).2]; rfl
theorem idx3 (t : Fin cfg0.N) : win0_3.index t = ![(grid0.coords t 1).val, 0] := idx2 t
theorem idx4 (t : Fin cfg0.N) : win0_4.index t = ![(grid0.coords t 1).val, 0] := idx2 t
theorem idx5 (t : Fin cfg0.N) : win0_5.index t = ![(grid0.coords t 1).val, 0] := idx2 t
theorem idx7 (t : Fin cfg0.N) : win0_7.index t = ![(grid0.coords t 0).val, 0] := by
  show (![(BitVec.ofNat 32 (grid0.coords t 0).val).toNat, (0#32).toNat] : Fin 2 → Nat) = _
  rw [(idxT _).1]; rfl
theorem idx8 (t : Fin cfg0.N) : win0_8.index t = ![(grid0.coords t 0).val, 0] := idx7 t
theorem idx10 (t : Fin cfg0.N) : win0_10.index t = ![(grid0.coords t 0).val, 0] := idx7 t
theorem idx9 (t : Fin cfg0.N) : win0_9.index t = ![(grid0.coords t 1).val, (grid0.coords t 0).val] := by
  show (![(BitVec.ofNat 32 (grid0.coords t 1).val).toNat, (BitVec.ofNat 32 (grid0.coords t 0).val).toNat] : Fin 2 → Nat) = _
  rw [(idxT _).1, (idxT _).2]

/-! ## The host lines before the call -/

theorem V_v2 (c : Dev nD) : V m c main_v2 = shapeCast S1x16 (m ((c : Thread nD τ).loc main_arg0)) shapeCasts_S16_S1x16 := by
  show StableHlo.after (hostOps0 ++ (hostOps0_1 ++ (hostOps0_2 ++ []))) (fun b => m (c, b)) (Proc.devRef .tc main_v2) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v1 (c : Dev nD) : V m c main_v1 = broadcastInDim S4608x128 ![0, 1] bcast_S4608x1_S4608x128_0_1 (shapeCast S4608x1 (m ((c : Thread nD τ).loc main_arg4)) shapeCasts_S6x768_S4608x1) := by
  show StableHlo.after (hostOps0 ++ (hostOps0_1 ++ (hostOps0_2 ++ []))) (fun b => m (c, b)) (Proc.devRef .tc main_v1) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v7 (c : Dev nD) : V m c main_v7 = broadcastInDim S4608x128 ![0, 1] bcast_S4608x1_S4608x128_0_1 (shapeCast S4608x1 (m ((c : Thread nD τ).loc main_arg2)) shapeCasts_S4608_S4608x1) := by
  show StableHlo.after (hostOps0 ++ (hostOps0_1 ++ (hostOps0_2 ++ []))) (fun b => m (c, b)) (Proc.devRef .tc main_v7) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v9 (c : Dev nD) : V m c main_v9 = broadcastInDim S4608x128 ![0, 1] bcast_S4608x1_S4608x128_0_1 (shapeCast S4608x1 (m ((c : Thread nD τ).loc main_arg3)) shapeCasts_S4608_S4608x1) := by
  show StableHlo.after (hostOps0 ++ (hostOps0_1 ++ (hostOps0_2 ++ []))) (fun b => m (c, b)) (Proc.devRef .tc main_v9) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v11 (c : Dev nD) : V m c main_v11 = broadcastInDim S4608x128 ![0, 1] bcast_S4608x1_S4608x128_0_1 (shapeCast S4608x1 (m ((c : Thread nD τ).loc main_arg5)) shapeCasts_S4608_S4608x1) := by
  show StableHlo.after (hostOps0 ++ (hostOps0_1 ++ (hostOps0_2 ++ []))) (fun b => m (c, b)) (Proc.devRef .tc main_v11) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v12 (c : Dev nD) : V m c main_v12 = shapeCast S50304x1 (m ((c : Thread nD τ).loc main_arg8)) shapeCasts_S50304_S50304x1 := by
  show StableHlo.after (hostOps0 ++ (hostOps0_1 ++ (hostOps0_2 ++ []))) (fun b => m (c, b)) (Proc.devRef .tc main_v12) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl
theorem V_v5 (c : Dev nD) : V m c main_v5 = transpose S99x4608x512 [1, 0, 2] (shapeCast S4608x99x512
      (pad S4608x50688 ![0, 0] ![0, 384] ![0, 0] (m ((c : Thread nD τ).loc main_arg1) : Vec Ideal S4608x50304 .f32) ((constant (F := Ideal) S_ FTy.f32 4286578688#32 : Vec Ideal S_ .f32)) pads_S4608x50304_S4608x50688_000_03840 h_S_)
      shapeCasts_S4608x50688_S4608x99x512) transposes_S4608x99x512_S99x4608x512_1_0_2 := by
  show StableHlo.after (hostOps0 ++ (hostOps0_1 ++ (hostOps0_2 ++ []))) (fun b => m (c, b)) (Proc.devRef .tc main_v5) = _
  unfold hostOps0 hostOps0_1 hostOps0_2
  simp only [List.cons_append, List.nil_append, List.append_nil]
  simp only [Idealize.ShloMosaic.StableHlo.after_cons, Idealize.ShloMosaic.StableHlo.after_nil]
  after_results_simp
  after_results_loop
  rfl

/-! ## The blocks -/

theorem read_v0 (c : Dev nD) (t : Fin cfg0.N) (k : Fin 16) :
    (tileAt m c t).v0 (ix2 (0 : Fin 1) k) = (m ((c : Thread nD τ).loc main_arg0) : Vec Ideal S16 .f32) (ix1 k) := by
  have e : (win0_0.blk t).view.emb (ix2 (0 : Fin 1) k) = ix2 (0 : Fin 1) k := by
    have e0 : win0_0.index t 0 = 0 := rfl
    have e1 : win0_0.index t 1 = 0 := rfl
    blk_ext <;> omega
  show V m c main_v2 ((win0_0.blk t).view.emb (ix2 (0 : Fin 1) k)) = _
  rw [e, V_v2]
  pointwise

theorem ofBits_bot : (Ideal.ofBits .f32 4286578688#32 : EReal) = ⊥ := by
  show (Ideal.ieee 8 23 4286578688#32 : EReal) = ⊥
  unfold Ideal.ieee
  simp

theorem pad_at (x : Vec Ideal S4608x50304 .f32) (r : Fin 4608) (j : Fin 99) (q : Fin 512) :
    transpose S99x4608x512 [1, 0, 2] (shapeCast S4608x99x512
      (pad S4608x50688 ![0, 0] ![0, 384] ![0, 0] x ((constant (F := Ideal) S_ FTy.f32 4286578688#32 : Vec Ideal S_ .f32)) pads_S4608x50304_S4608x50688_000_03840 h_S_)
      shapeCasts_S4608x50688_S4608x99x512) transposes_S4608x99x512_S99x4608x512_1_0_2 (ix3 j r q) = tL x r.val (512 * j.val + q.val) := by
  pointwise
  have hr := r.isLt
  unfold tL
  by_cases h : 512 * j.val + q.val < 50304
  · rw [dif_pos (show j.val * 512 + q.val < 50304 by omega), dif_pos ⟨hr, h⟩]
    have e : (⟨j.val * 512 + q.val, by omega⟩ : Fin 50304) = ⟨512 * j.val + q.val, h⟩ := Fin.ext (by show j.val * 512 + q.val = 512 * j.val + q.val; omega)
    rw [e]
  · rw [dif_neg (show ¬ (j.val * 512 + q.val < 50304) by omega), dif_neg (fun h' => h h'.2)]
    exact ofBits_bot
theorem read_lg (c : Dev nD) (t : Fin cfg0.N) (r : Fin 768) (q : Fin 512) :
    (tileAt m c t).lg (ix3 (0 : Fin 1) r q) = tL (m ((c : Thread nD τ).loc main_arg1)) (768 * (t.val % 6) + r.val) (512 * (t.val / 6) + q.val) := by
  have hr := r.isLt
  have e : (win0_1.blk t).view.emb (ix3 (0 : Fin 1) r q) = ix3 ⟨t.val / 6, t_div t⟩ ⟨768 * (t.val % 6) + r.val, by omega⟩ q := by
    have h0 := coords_0 t
    have h1 := coords_1 t
    blk_ext [idx1 t] <;> omega
  show V m c main_v5 ((win0_1.blk t).view.emb (ix3 (0 : Fin 1) r q)) = _
  rw [e, V_v5, pad_at]

theorem read_mx (c : Dev nD) (t : Fin cfg0.N) (r : Fin 768) (q : Fin 128) :
    (tileAt m c t).mx (ix2 r q) = tV (m ((c : Thread nD τ).loc main_arg2)) (768 * (t.val % 6) + r.val) := by
  have hr := r.isLt
  have e : (win0_2.blk t).view.emb (ix2 r q) = ix2 (⟨768 * (t.val % 6) + r.val, by omega⟩ : Fin 4608) q := by
    have h1 := coords_1 t
    blk_ext [idx2 t] <;> omega
  show V m c main_v7 ((win0_2.blk t).view.emb (ix2 r q)) = _
  rw [e, V_v7]
  unfold tV
  rw [dif_pos (by omega)]
  pointwise

theorem read_ri (c : Dev nD) (t : Fin cfg0.N) (r : Fin 768) (q : Fin 128) :
    (tileAt m c t).ri (ix2 r q) = tV (m ((c : Thread nD τ).loc main_arg3)) (768 * (t.val % 6) + r.val) := by
  have hr := r.isLt
  have e : (win0_3.blk t).view.emb (ix2 r q) = ix2 (⟨768 * (t.val % 6) + r.val, by omega⟩ : Fin 4608) q := by
    have h1 := coords_1 t
    blk_ext [idx3 t] <;> omega
  show V m c main_v9 ((win0_3.blk t).view.emb (ix2 r q)) = _
  rw [e, V_v9]
  unfold tV
  rw [dif_pos (by omega)]
  pointwise

theorem read_hs (c : Dev nD) (t : Fin cfg0.N) (r : Fin 768) (q : Fin 128) :
    (tileAt m c t).hs (ix2 r q) = tV (m ((c : Thread nD τ).loc main_arg5)) (768 * (t.val % 6) + r.val) := by
  have hr := r.isLt
  have e : (win0_5.blk t).view.emb (ix2 r q) = ix2 (⟨768 * (t.val % 6) + r.val, by omega⟩ : Fin 4608) q := by
    have h1 := coords_1 t
    blk_ext [idx5 t] <;> omega
  show V m c main_v11 ((win0_5.blk t).view.emb (ix2 r q)) = _
  rw [e, V_v11]
  unfold tV
  rw [dif_pos (by omega)]
  pointwise

theorem read_lab (c : Dev nD) (t : Fin cfg0.N) (r : Fin 768) (q : Fin 128) :
    (tileAt m c t).lab (ix2 r q) = tLab (m ((c : Thread nD τ).loc main_arg4)) (768 * (t.val % 6) + r.val) := by
  have hr := r.isLt
  have e : (win0_4.blk t).view.emb (ix2 r q) = ix2 (⟨768 * (t.val % 6) + r.val, by omega⟩ : Fin 4608) q := by
    have h1 := coords_1 t
    blk_ext [idx4 t] <;> omega
  show V m c main_v1 ((win0_4.blk t).view.emb (ix2 r q)) = _
  rw [e, V_v1]
  unfold tLab
  rw [dif_pos (by omega)]
  pointwise
  have e' : (⟨(768 * (t.val % 6) + r.val) % 768, by omega⟩ : Fin 768) = r := Fin.ext (by show (768 * (t.val % 6) + r.val) % 768 = r.val; omega)
  rw [e']

theorem read_hid (c : Dev nD) (t : Fin cfg0.N) (r : Fin 4608) (d : Fin 1536) :
    hidAt m c t (ix2 r d) = tH (m ((c : Thread nD τ).loc main_arg6)) r.val d := by
  have e : (win0_6.blk t).view.emb (ix2 r d) = ix2 r d := by
    have e0 : win0_6.index t 0 = 0 := rfl
    have e1 : win0_6.index t 1 = 0 := rfl
    blk_ext <;> omega
  show V m c main_arg6 ((win0_6.blk t).view.emb (ix2 r d)) = _
  rw [e, V_main_arg6]
  unfold tH
  rw [dif_pos r.isLt]

theorem read_w (c : Dev nD) (t : Fin cfg0.N) (r : Fin 512) (d : Fin 1536) (h : 512 * (t.val / 6) + r.val < 50304) :
    wAt m c t (ix2 r d) = tW (m ((c : Thread nD τ).loc main_arg7)) (512 * (t.val / 6) + r.val) d := by
  unfold wAt Window.fill
  rw [dif_pos (moved7 t (ix2 r d) h)]
  show V m c main_arg7 ((win0_7.blk t).view.emb _) = _
  rw [V_main_arg7]
  unfold tW
  rw [dif_pos h]
  refine congrArg _ ?_
  have h0 := coords_0 t
  blk_ext [idx7 t]
  all_goals omega

theorem read_ws (c : Dev nD) (t : Fin cfg0.N) (r : Fin 512) (h : 512 * (t.val / 6) + r.val < 50304) :
    wsAt m c t (ix2 r (0 : Fin 1)) = tWS (m ((c : Thread nD τ).loc main_arg8)) (512 * (t.val / 6) + r.val) := by
  unfold wsAt Window.fill
  rw [dif_pos (moved8 t (ix2 r (0 : Fin 1)) h)]
  show V m c main_v12 ((win0_8.blk t).view.emb _) = _
  have e : ∀ x, (x 0).val = 512 * (t.val / 6) + r.val → V m c main_v12 x = tWS (m ((c : Thread nD τ).loc main_arg8)) (512 * (t.val / 6) + r.val) := by
    intro x hx
    have ex : x = ix2 (⟨512 * (t.val / 6) + r.val, h⟩ : Fin 50304) (0 : Fin 1) := by
      funext a
      match a with
      | ⟨0, _⟩ => exact Fin.ext hx
      | ⟨1, _⟩ => exact Fin.ext (by have : (x 1).val < 1 := (x 1).isLt; show (x 1).val = 0; omega)
    rw [ex, V_v12]
    unfold tWS
    rw [dif_pos h]
    pointwise
  refine e _ ?_
  have h0 := coords_0 t
  blk_simp [idx8 t]
  show (grid0.coords t 0).val * 512 + r.val = _
  omega

end Cert.KernelIdeal.Hand
end
-- ==== Proof.Hand.Elem.lean ====
/- The entries of what a grid point of the `grad` call computes. -/
module

public import proofs.«01_k».proof.Proof.Hand.Reads

@[expose] public section

set_option maxRecDepth 16384

noncomputable section

namespace Cert.Hand
open Idealize.ShloMosaic

/-- One entry of the logits' gradient, and its code before rounding. -/
def gE (lg mx ri : EReal) (lab : BitVec 32) (v : ℕ) : EReal :=
  Scalar.select (IntOp.cmpi .eq (BitVec.ofNat 32 v) lab) (Ideal.exp (lg - mx) * ri - Ideal.ofBits .f32 1065353216#32) (Ideal.exp (lg - mx) * ri)
def qE (g inv : EReal) : EReal := min (Ideal.ofBits .f32 1197473792#32) (max (Ideal.ofBits .f32 3344957440#32) (g * inv))
/-- What a column adds to the label logit. -/
def hE (lg : EReal) (lab : BitVec 32) (v : ℕ) : EReal :=
  Scalar.select (IntOp.cmpi .eq (BitVec.ofNat 32 v) lab) lg (Ideal.ofBits .f32 0#32)
/-- The absolute value. -/
def absE (g : EReal) : EReal := FloatOps.absf (F := Ideal) (φ := .f32) g
end Cert.Hand

namespace Cert.KernelIdeal.Hand

open Cert.KernelIdeal Cert.KernelIdeal.Gen Cert.Hand
open Idealize.ShloMosaic Idealize.ShloMosaic.TcCoe Idealize.SL.Sem

theorem rR_ix (n : Fin 24) (r : Fin 32) (q : Fin 128) : (rR n).emb (ix2 r q) = ix2 (⟨32 * n.val + r.val, by have := n.2; have := r.2; omega⟩ : Fin 768) q := by
  funext a
  match a with
  | ⟨0, _⟩ => exact Fin.ext (by show 32 * n.val + 1 * r.val = 32 * n.val + r.val; omega)
  | ⟨1, _⟩ => exact Fin.ext (by show 0 + 1 * q.val = q.val; omega)
theorem rL_ix (n : Fin 24) (k : Fin 4) (r : Fin 32) (q : Fin 128) : (rL n k).emb (ix3 (0 : Fin 1) r q)
    = ix3 (0 : Fin 1) (⟨32 * n.val + r.val, by have := n.2; have := r.2; omega⟩ : Fin 768) (⟨128 * k.val + q.val, by have := k.2; have := q.2; omega⟩ : Fin 512) := by
  funext a
  match a with
  | ⟨0, _⟩ => rfl
  | ⟨1, _⟩ => exact Fin.ext (by show 32 * n.val + 1 * r.val = 32 * n.val + r.val; omega)
  | ⟨2, _⟩ => exact Fin.ext (by show 128 * k.val + 1 * q.val = 128 * k.val + q.val; omega)

theorem col_eq (i : grid0.Coords) (k : Fin 4) (r : Fin 32) (q : Fin 128) : colVec i k (ix2 r q) = BitVec.ofNat 32 (512 * (i 0).val + (128 * k.val + q.val)) := by
  unfold colVec
  pointwise
  have hi : (i 0).val < 99 := (i 0).isLt
  have hk := k.2
  have hq := q.2
  show BitVec.ofNat 32 q.val + (BitVec.ofNat 32 (i 0).val * 512#32 + BitVec.ofNat 32 (128 * k.val)) = _
  apply BitVec.eq_of_toNat_eq
  simp only [BitVec.toNat_add, BitVec.toNat_mul, BitVec.toNat_ofNat]
  omega

theorem sc_self {α : Type} (g : S32x128.Idx → α) (j : S32x128.Idx) : shapeCast S32x128 g shapeCasts_S32x128_S32x128 j = g j := by
  rw [shapeCast_self]

theorem drop_lead (g : Vec Ideal S1x32x128 .f32) (r : Fin 32) (q : Fin 128) : shapeCast S32x128 g shapeCasts_S1x32x128_S32x128 (ix2 r q) = g (ix3 (0 : Fin 1) r q) := by
  pointwise

theorem lgP_at (T : Tile Ideal) (n : Fin 24) (k : Fin 4) (r : Fin 32) (q : Fin 128) : lgP T n k (ix2 r q)
    = T.lg (ix3 (0 : Fin 1) (⟨32 * n.val + r.val, by have := n.2; have := r.2; omega⟩ : Fin 768) (⟨128 * k.val + q.val, by have := k.2; have := q.2; omega⟩ : Fin 512)) := by
  rw [← rL_ix]
  exact drop_lead (fun j => T.lg ((rL n k).emb j)) r q
theorem mxP_at (T : Tile Ideal) (n : Fin 24) (r : Fin 32) (q : Fin 128) : mxP T n (ix2 r q) = T.mx (ix2 (⟨32 * n.val + r.val, by have := n.2; have := r.2; omega⟩ : Fin 768) q) := by
  rw [← rR_ix]; exact sc_self (fun j => T.mx ((rR n).emb j)) _
theorem riP_at (T : Tile Ideal) (n : Fin 24) (r : Fin 32) (q : Fin 128) : riP T n (ix2 r q) = T.ri (ix2 (⟨32 * n.val + r.val, by have := n.2; have := r.2; omega⟩ : Fin 768) q) := by
  rw [← rR_ix]; exact sc_self (fun j => T.ri ((rR n).emb j)) _
theorem labP_at (T : Tile Ideal) (n : Fin 24) (r : Fin 32) (q : Fin 128) : labP T n (ix2 r q) = T.lab (ix2 (⟨32 * n.val + r.val, by have := n.2; have := r.2; omega⟩ : Fin 768) q) := by
  rw [← rR_ix]; exact sc_self (fun j => T.lab ((rR n).emb j)) _

theorem gradP_at (T : Tile Ideal) (i : grid0.Coords) (n : Fin 24) (k : Fin 4) (r : Fin 32) (q : Fin 128) : gradP T i n k (ix2 r q)
    = gE (lgP T n k (ix2 r q)) (mxP T n (ix2 r q)) (riP T n (ix2 r q)) (labP T n (ix2 r q)) (512 * (i 0).val + (128 * k.val + q.val)) := by
  unfold gE
  rw [← col_eq i k r q]
  rfl
theorem codeP_at (T : Tile Ideal) (i : grid0.Coords) (n : Fin 24) (k : Fin 4) (r : Fin 32) (q : Fin 128) : codeP T i n k (ix2 r q)
    = qE (gradP T i n k (ix2 r q)) (invVec T.v0 (ix2 (0 : Fin 1) (0 : Fin 1))) := by
  unfold codeP codeVec invB qE
  generalize gradP T i n k = g
  generalize invVec T.v0 = w
  pointwise
theorem deqP_at (T : Tile Ideal) (i : grid0.Coords) (n : Fin 24) (k : Fin 4) (j : S32x128.Idx) : deqP T i n k j = codeP T i n k j := by
  unfold deqP
  rw [shapeCast_self]; rfl
theorem wgtP_at (T : Tile Ideal) (i : grid0.Coords) (n : Fin 24) (k : Fin 4) (r : Fin 32) (q : Fin 128) : wgtP T i n k (ix2 r q)
    = (codeP T i n k (ix2 r q) : EReal) * (T.hs (ix2 (⟨32 * n.val + r.val, by have := n.2; have := r.2; omega⟩ : Fin 768) q) * scaleVec T.v0 (ix2 (0 : Fin 1) (0 : Fin 1))) := by
  unfold wgtP
  rw [shapeCast_self, ← rR_ix]
  generalize codeP T i n k = g
  unfold facP factorVec scaleB
  generalize scaleVec T.v0 = w
  pointwise

theorem tileOf_ix {α : Type} (p : Fin 24 → Fin 4 → S32x128.Idx → α) (R : Fin 768) (C : Fin 512) :
    tileOf p (ix2 R C) = p ⟨R.val / 32, by omega⟩ ⟨C.val / 128, by omega⟩ (ix2 (⟨R.val % 32, by omega⟩ : Fin 32) (⟨C.val % 128, by omega⟩ : Fin 128)) := by
  unfold tileOf
  refine congrArg _ (funext fun a => ?_)
  match a with
  | ⟨0, _⟩ => rfl
  | ⟨1, _⟩ => rfl

variable (m : (ℓ : Loc nD τ sig) → Buf (Elt Ideal) ℓ)

/-- The gradient of the logits at a token and a column, from the arguments. -/
def gG (c : Dev nD) (t v : ℕ) : EReal :=
  gE (tL (m ((c : Thread nD τ).loc main_arg1)) t v) (tV (m ((c : Thread nD τ).loc main_arg2)) t) (tV (m ((c : Thread nD τ).loc main_arg3)) t) (tLab (m ((c : Thread nD τ).loc main_arg4)) t) v

theorem grad_elem (c : Dev nD) (t : Fin cfg0.N) (n : Fin 24) (k : Fin 4) (r : Fin 32) (q : Fin 128) :
    gradP (tileAt m c t) (grid0.coords t) n k (ix2 r q) = gG m c (768 * (t.val % 6) + (32 * n.val + r.val)) (512 * (t.val / 6) + (128 * k.val + q.val)) := by
  rw [gradP_at, lgP_at, mxP_at, riP_at, labP_at, read_lg, read_mx, read_ri, read_lab, coords_0]
  rfl

/-- The scale and its inverse, from the arguments. -/
def sK (c : Dev nD) : EReal := scaleVec (fun j : S1x16.Idx => (m ((c : Thread nD τ).loc main_arg0) : Vec Ideal S16 .f32) (ix1 (j 1))) (ix2 (0 : Fin 1) (0 : Fin 1))
def iK (c : Dev nD) : EReal := invVec (fun j : S1x16.Idx => (m ((c : Thread nD τ).loc main_arg0) : Vec Ideal S16 .f32) (ix1 (j 1))) (ix2 (0 : Fin 1) (0 : Fin 1))

theorem v0_eq (c : Dev nD) (t : Fin cfg0.N) : (tileAt m c t).v0 = fun j : S1x16.Idx => (m ((c : Thread nD τ).loc main_arg0) : Vec Ideal S16 .f32) (ix1 (j 1)) := by
  funext j
  have e : j = ix2 (0 : Fin 1) (j 1 : Fin 16) := by
    funext a
    match a with
    | ⟨0, _⟩ => exact Fin.ext (by have : (j 0).val < 1 := (j 0).isLt; show (j 0).val = 0; omega)
    | ⟨1, _⟩ => rfl
  rw [e]
  exact read_v0 m c t (j 1)

theorem code_elem (c : Dev nD) (t : Fin cfg0.N) (R : Fin 768) (C : Fin 512) :
    (tileOf (codeP (tileAt m c t) (grid0.coords t)) (ix2 R C) : EReal) = qE (gG m c (768 * (t.val % 6) + R.val) (512 * (t.val / 6) + C.val)) (iK m c) := by
  rw [tileOf_ix, codeP_at, grad_elem, v0_eq]
  have e1 : 32 * (R.val / 32) + R.val % 32 = R.val := Nat.div_add_mod _ _
  have e2 : 128 * (C.val / 128) + C.val % 128 = C.val := Nat.div_add_mod _ _
  show qE (gG m c (768 * (t.val % 6) + (32 * (R.val / 32) + R.val % 32)) (512 * (t.val / 6) + (128 * (C.val / 128) + C.val % 128))) _ = _
  rw [e1, e2]; rfl
theorem deq_elem (c : Dev nD) (t : Fin cfg0.N) (R : Fin 768) (C : Fin 512) :
    (tileOf (deqP (tileAt m c t) (grid0.coords t)) (ix2 R C) : EReal) = qE (gG m c (768 * (t.val % 6) + R.val) (512 * (t.val / 6) + C.val)) (iK m c) := by
  rw [← code_elem, tileOf_ix, tileOf_ix, deqP_at]
theorem wgt_elem (c : Dev nD) (t : Fin cfg0.N) (R : Fin 768) (C : Fin 512) :
    (tileOf (wgtP (tileAt m c t) (grid0.coords t)) (ix2 R C) : EReal) = qE (gG m c (768 * (t.val % 6) + R.val) (512 * (t.val / 6) + C.val)) (iK m c)
      * (tV (m ((c : Thread nD τ).loc main_arg5)) (768 * (t.val % 6) + R.val) * sK m c) := by
  rw [← code_elem, tileOf_ix, tileOf_ix, wgtP_at, read_hs, v0_eq]
  have e1 : 32 * (R.val / 32) + R.val % 32 = R.val := Nat.div_add_mod _ _
  show _ * (tV (m ((c : Thread nD τ).loc main_arg5)) (768 * (t.val % 6) + (32 * (R.val / 32) + R.val % 32)) * _) = _
  rw [e1]; rfl

end Cert.KernelIdeal.Hand
end
-- ==== Proof.Hand.Sums.lean ====
/- Sums cut into tiles, over the extended reals, and the elements the two programs add up. -/
module

public import proofs.«01_k».proof.Proof.Hand.Elem
public import proofs.«01_k».proof.Proof.Hand.Scale

@[expose] public section

set_option maxRecDepth 16384

noncomputable section

namespace Cert.Hand

open Idealize.ShloMosaic Idealize.ShloMosaic.TcCoe Idealize.SL.Sem

/-! ## Sums -/

theorem sum_tiles (f : ℕ → EReal) (k : ℕ) : ∀ n : ℕ, ∑ j ∈ Finset.range n, ∑ x : Fin k, f (k * j + x.val) = ∑ v ∈ Finset.range (k * n), f v
  | 0 => by simp
  | n + 1 => by rw [Finset.sum_range_succ, sum_tiles f k n, Nat.mul_succ, Finset.sum_range_add, Finset.sum_range (fun x => f (k * n + x))]

theorem sum_cut (f : ℕ → EReal) (n N : ℕ) (h : n ≤ N) (h0 : ∀ v, n ≤ v → v < N → f v = 0) : ∑ v ∈ Finset.range N, f v = ∑ x : Fin n, f x.val := by
  rw [← Finset.sum_range (fun x => f x)]
  refine (Finset.sum_subset (fun x hx => ?_) fun x hx hx' => ?_).symm
  · rw [Finset.mem_range] at *; omega
  · rw [Finset.mem_range] at *
    exact h0 x (by omega) hx

theorem sum_lanes (f : ℕ → EReal) (T : ℕ) : ∑ q : Fin 128, ∑ j ∈ Finset.range T, ∑ k : Fin 4, f (512 * j + (128 * k.val + q.val)) = ∑ v ∈ Finset.range (512 * T), f v := by
  rw [Finset.sum_comm, ← sum_tiles f 512 T]
  refine Finset.sum_congr rfl fun j _ => ?_
  rw [Finset.sum_comm, ← Finset.sum_range (fun k => ∑ q : Fin 128, f (512 * j + (128 * k + q.val))), sum_tiles (fun v => f (512 * j + v)) 128 4,
    Finset.sum_range]

theorem sum_mul_real (s : ℝ) (hs : 0 < s) {n : ℕ} (f : Fin n → EReal) : (∑ x, f x) * (s : EReal) = ∑ x, f x * (s : EReal) := by
  classical
  have h : ∀ S : Finset (Fin n), (∑ x ∈ S, f x) * (s : EReal) = ∑ x ∈ S, f x * (s : EReal) := by
    intro S
    induction S using Finset.induction_on with
    | empty => simp
    | insert a S ha ih =>
      rw [Finset.sum_insert ha, Finset.sum_insert ha, EReal.right_distrib_of_nonneg_of_ne_top (EReal.coe_nonneg.mpr hs.le) (EReal.coe_ne_top s), ih]
  exact h Finset.univ

theorem div_one_real (s : ℝ) (hs : 0 < s) : Ideal.div 1 (s : EReal) = ((s⁻¹ : ℝ) : EReal) := by
  unfold Ideal.div
  rw [if_neg (by simpa using hs.ne'), one_mul, EReal.coe_inv]

/-! ## Elements -/

theorem bits_zero : (Ideal.ofBits .f32 0#32 : EReal) = 0 := by
  show (Ideal.ieee 8 23 0#32 : EReal) = 0
  unfold Ideal.ieee
  simp
/-- A label below the vocabulary's size hits no column past it. -/
theorem no_hit (lab : BitVec 32) (h : lab.slt 50304#32 = true) (v : ℕ) (h1 : 50304 ≤ v) (h2 : v < 50688) : IntOp.cmpi .eq (BitVec.ofNat 32 v) lab = 0#1 := by
  have hne : BitVec.ofNat 32 v ≠ lab := by
    rintro rfl
    rw [BitVec.slt_eq_decide, decide_eq_true_eq, BitVec.toInt_eq_toNat_of_lt (by rw [BitVec.toNat_ofNat]; omega), BitVec.toNat_ofNat] at h
    have e : (50304#32 : BitVec 32).toInt = 50304 := by decide
    rw [e] at h
    omega
  show BitVec.ofBool (BitVec.ofNat 32 v == lab) = 0#1
  rw [beq_eq_false_iff_ne.mpr hne]; rfl

theorem gE_pad (mx ri : EReal) (lab : BitVec 32) (h : lab.slt 50304#32 = true) (v : ℕ) (h1 : 50304 ≤ v) (h2 : v < 50688) : gE ⊥ mx ri lab v = 0 := by
  unfold gE
  rw [no_hit lab h v h1 h2, show (⊥ : EReal) - mx = ⊥ by rw [sub_eq_add_neg, EReal.bot_add]]
  show (0 : EReal) * ri = 0
  rw [zero_mul]
theorem hE_pad (lg : EReal) (lab : BitVec 32) (h : lab.slt 50304#32 = true) (v : ℕ) (h1 : 50304 ≤ v) (h2 : v < 50688) : hE lg lab v = 0 := by
  unfold hE
  rw [no_hit lab h v h1 h2]
  exact bits_zero

theorem absE_nonneg (g : EReal) : 0 ≤ absE g := by
  show (0 : EReal) ≤ max g (-g)
  rcases le_total 0 g with h | h
  · exact le_max_of_le_left h
  · exact le_max_of_le_right (EReal.neg_nonneg.mpr h)
theorem absE_zero : absE 0 = 0 := by
  show max (0 : EReal) (-0) = 0
  simp

end Cert.Hand
end
-- ==== Proof.Hand.RefRun.lean ====
/- The run of the reference, its output arrays named: `run_blocks`. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v5_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v5_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v5_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v5_5) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 9 cfg0.N
      ∧ r.2.mem ((c : Thread nD τ).loc main_v5_1) = (dats m 0 c).arrAt 10 cfg0.N
      ∧ r.2.mem ((c : Thread nD τ).loc main_v5_2) = (dats m 0 c).arrAt 11 cfg0.N
      ∧ r.2.mem ((c : Thread nD τ).loc main_v5_3) = (dats m 0 c).arrAt 12 cfg0.N
      ∧ r.2.mem ((c : Thread nD τ).loc main_v5_4) = (dats m 0 c).arrAt 13 cfg0.N
      ∧ r.2.mem ((c : Thread nD τ).loc main_v5_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.ReferenceIdeal.Hand

end
-- ==== Proof.Hand.RefVal.lean ====
/- The reference's result arrays, as its payloads of the arguments. -/
module

public import proofs.«01_k».proof.Proof.Hand.RefRun
public import Idealize.ShloMosaic.Lib.Pointwise
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ)

def X0 (c : Dev nD) : Vec Ideal S16 .f32 := m ((c : Thread nD τ).loc main_arg0)
def X1 (c : Dev nD) : Vec Ideal S4608x50304 .f32 := m ((c : Thread nD τ).loc main_arg1)
def X2 (c : Dev nD) : Vec Ideal S4608x1 .f32 := shapeCast S4608x1 (m ((c : Thread nD τ).loc main_arg2)) shapeCasts_S4608_S4608x1
def X3 (c : Dev nD) : Vec Ideal S4608x1 .f32 := shapeCast S4608x1 (m ((c : Thread nD τ).loc main_arg3)) shapeCasts_S4608_S4608x1
def X4 (c : Dev nD) : Vec Ideal S4608x1 .i32 := shapeCast S4608x1 (m ((c : Thread nD τ).loc main_arg4)) shapeCasts_S6x768_S4608x1
def X5 (c : Dev nD) : Vec Ideal S4608x1 .f32 := shapeCast S4608x1 (m ((c : Thread nD τ).loc main_arg5)) shapeCasts_S4608_S4608x1
def X6 (c : Dev nD) : Vec Ideal S4608x1536 .fp8e4m3 := m ((c : Thread nD τ).loc main_arg6)
def X7 (c : Dev nD) : Vec Ideal S50304x1536 .fp8e4m3 := m ((c : Thread nD τ).loc main_arg7)
def X8 (c : Dev nD) : Vec Ideal S50304x1 .f32 := shapeCast S50304x1 (m ((c : Thread nD τ).loc main_arg8)) shapeCasts_S50304_S50304x1

theorem blk0 (c : Dev nD) (t : Fin cfg0.N) : iblk m c 0 t = X0 m c := by
  funext j
  have e : (win0_0.blk t).view.emb j = j := by
    fin_cases t
    funext a
    match a with
    | ⟨0, _⟩ => exact Fin.ext (by show 0 + 1 * (j 0).val = (j 0).val; omega)
  show V m c main_arg0 ((win0_0.blk t).view.emb j) = _
  rw [e]
  entry_read
  rfl
theorem blk1 (c : Dev nD) (t : Fin cfg0.N) : iblk m c 1 t = X1 m c := by
  funext j
  have e : (win0_1.blk t).view.emb j = j := by
    have e0 : win0_1.index t 0 = 0 := rfl
    have e1 : win0_1.index t 1 = 0 := rfl
    blk_ext <;> omega
  show V m c main_arg1 ((win0_1.blk t).view.emb j) = _
  rw [e]
  entry_read
  rfl
theorem blk2 (c : Dev nD) (t : Fin cfg0.N) : iblk m c 2 t = X2 m c := by
  funext j
  have e : (win0_2.blk t).view.emb j = j := by
    have e0 : win0_2.index t 0 = 0 := rfl
    have e1 : win0_2.index t 1 = 0 := rfl
    blk_ext <;> omega
  show V m c main_v0 ((win0_2.blk t).view.emb j) = _
  rw [e]
  entry_read
  rfl
theorem blk3 (c : Dev nD) (t : Fin cfg0.N) : iblk m c 3 t = X3 m c := by
  funext j
  have e : (win0_3.blk t).view.emb j = j := by
    have e0 : win0_3.index t 0 = 0 := rfl
    have e1 : win0_3.index t 1 = 0 := rfl
    blk_ext <;> omega
  show V m c main_v1 ((win0_3.blk t).view.emb j) = _
  rw [e]
  entry_read
  rfl
theorem blk4 (c : Dev nD) (t : Fin cfg0.N) : iblk m c 4 t = X4 m c := by
  funext j
  have e : (win0_4.blk t).view.emb j = j := by
    have e0 : win0_4.index t 0 = 0 := rfl
    have e1 : win0_4.index t 1 = 0 := rfl
    blk_ext <;> omega
  show V m c main_v2 ((win0_4.blk t).view.emb j) = _
  rw [e]
  entry_read
  rfl
theorem blk5 (c : Dev nD) (t : Fin cfg0.N) : iblk m c 5 t = X5 m c := by
  funext j
  have e : (win0_5.blk t).view.emb j = j := by
    have e0 : win0_5.index t 0 = 0 := rfl
    have e1 : win0_5.index t 1 = 0 := rfl
    blk_ext <;> omega
  show V m c main_v3 ((win0_5.blk t).view.emb j) = _
  rw [e]
  entry_read
  rfl
theorem blk6 (c : Dev nD) (t : Fin cfg0.N) : iblk m c 6 t = X6 m c := by
  funext j
  have e : (win0_6.blk t).view.emb j = j := by
    have e0 : win0_6.index t 0 = 0 := rfl
    have e1 : win0_6.index t 1 = 0 := rfl
    blk_ext <;> omega
  show V m c main_arg6 ((win0_6.blk t).view.emb j) = _
  rw [e]
  entry_read
  rfl
theorem blk7 (c : Dev nD) (t : Fin cfg0.N) : iblk m c 7 t = X7 m c := by
  funext j
  have e : (win0_7.blk t).view.emb j = j := by
    have e0 : win0_7.index t 0 = 0 := rfl
    have e1 : win0_7.index t 1 = 0 := rfl
    blk_ext <;> omega
  show V m c main_arg7 ((win0_7.blk t).view.emb j) = _
  rw [e]
  entry_read
  rfl
theorem blk8 (c : Dev nD) (t : Fin cfg0.N) : iblk m c 8 t = X8 m c := by
  funext j
  have e : (win0_8.blk t).view.emb j = j := by
    have e0 : win0_8.index t 0 = 0 := rfl
    have e1 : win0_8.index t 1 = 0 := rfl
    blk_ext <;> omega
  show V m c main_v4 ((win0_8.blk t).view.emb j) = _
  rw [e]
  entry_read
  rfl

theorem arr9 (c : Dev nD) : (dats m 0 c).arrAt 9 cfg0.N = k0_pay4 (X1 m c) (X4 m c) := by
  refine (dats m 0 c).arrAt_eq_of_after_last 9 t0_0 (by decide +kernel) _ fun j => ?_
  rw [after0_9]
  simp only [blk0, blk1, blk2, blk3, blk4, blk5, blk6, blk7, blk8]
  unfold out0_9
  frame_out
  rfl
theorem arr10 (c : Dev nD) : (dats m 0 c).arrAt 10 cfg0.N = k0_pay1 (k0_pay11 (k0_pay5 (X1 m c) (X4 m c) (X2 m c) (X3 m c)) (k0_pay7 (X0 m c)) k0_pay8) (k0_pay12 (X7 m c) (X8 m c)) := by
  refine (dats m 0 c).arrAt_eq_of_after_last 10 t0_0 (by decide +kernel) _ fun j => ?_
  rw [after0_10]
  simp only [blk0, blk1, blk2, blk3, blk4, blk5, blk6, blk7, blk8]
  unfold out0_10 k0_pay17 k0_pay16 k0_pay15 k0_pay14
  frame_out
  rfl
theorem arr11 (c : Dev nD) : (dats m 0 c).arrAt 11 cfg0.N = k0_pay2 (k0_pay11 (k0_pay5 (X1 m c) (X4 m c) (X2 m c) (X3 m c)) (k0_pay7 (X0 m c)) k0_pay8) (k0_pay13 (X6 m c)) (X5 m c) := by
  refine (dats m 0 c).arrAt_eq_of_after_last 11 t0_0 (by decide +kernel) _ fun j => ?_
  rw [after0_11]
  simp only [blk0, blk1, blk2, blk3, blk4, blk5, blk6, blk7, blk8]
  unfold out0_11 k0_pay17 k0_pay16 k0_pay15 k0_pay14
  frame_out
  rfl
theorem arr12 (c : Dev nD) : (dats m 0 c).arrAt 12 cfg0.N = k0_pay6 (X1 m c) (X4 m c) (X2 m c) (X3 m c) (fun j : S15.Idx => X0 m c (ix1 ⟨(j 0).val, by have : (j 0).val < 15 := (j 0).isLt; omega⟩)) := by
  refine (dats m 0 c).arrAt_eq_of_after_last 12 t0_0 (by decide +kernel) _ fun j => ?_
  rw [after0_12]
  simp only [blk0, blk1, blk2, blk3, blk4, blk5, blk6, blk7, blk8]
  unfold out0_12
  have e : View.ld (X0 m c) r0_3 = (fun j : S15.Idx => X0 m c (ix1 ⟨(j 0).val, by have : (j 0).val < 15 := (j 0).isLt; omega⟩)) := by
    funext j
    refine congrArg (X0 m c) (funext fun a => ?_)
    match a with
    | ⟨0, _⟩ => exact Fin.ext (by show 0 + 1 * (j 0).val = (j 0).val; omega)
  frame_out
  rw [e]
  rfl
theorem arr13 (c : Dev nD) : (dats m 0 c).arrAt 13 cfg0.N = k0_pay10 (k0_pay5 (X1 m c) (X4 m c) (X2 m c) (X3 m c)) (k0_pay7 (X0 m c)) k0_pay8 := by
  refine (dats m 0 c).arrAt_eq_of_after_last 13 t0_0 (by decide +kernel) _ fun j => ?_
  rw [after0_13]
  simp only [blk0, blk1, blk2, blk3, blk4, blk5, blk6, blk7, blk8]
  unfold out0_13 k0_pay16 k0_pay15 k0_pay14
  frame_out
  rfl
theorem arr14 (c : Dev nD) : (dats m 0 c).arrAt 14 cfg0.N = k0_pay9 (k0_pay7 (X0 m c)) k0_pay8 := by
  refine (dats m 0 c).arrAt_eq_of_after_last 14 t0_0 (by decide +kernel) _ fun j => ?_
  rw [after0_14]
  simp only [blk0, blk1, blk2, blk3, blk4, blk5, blk6, blk7, blk8]
  unfold out0_14 k0_pay16 k0_pay15
  frame_out
  rfl
end Cert.ReferenceIdeal.Hand
end
-- ==== Proof.Hand.RefElem.lean ====
/- The entries of the reference's result arrays. -/
module

public import proofs.«01_k».proof.Proof.Hand.RefVal
public import proofs.«01_k».proof.Proof.Hand.Elem

@[expose] public section

set_option maxRecDepth 16384

noncomputable section

namespace Cert.ReferenceIdeal.Hand

open Cert.ReferenceIdeal Cert.ReferenceIdeal.Gen Cert.Hand
open Cert.KernelIdeal.Hand (tL tV tLab tH tW tWS)
open Idealize.ShloMosaic Idealize.ShloMosaic.TcCoe Idealize.SL.Sem

variable (m : (ℓ : Loc nD τ sig) → Buf (Elt Ideal) ℓ)

/-- The gradient of the logits at a token and a column, from the arguments. -/
def gG (c : Dev nD) (t v : ℕ) : EReal :=
  gE (tL (m ((c : Thread nD τ).loc main_arg1)) t v) (tV (m ((c : Thread nD τ).loc main_arg2)) t) (tV (m ((c : Thread nD τ).loc main_arg3)) t) (tLab (m ((c : Thread nD τ).loc main_arg4)) t) v

theorem X1_at (c : Dev nD) (r : Fin 4608) (l : Fin 50304) : X1 m c (ix2 r l) = tL (m ((c : Thread nD τ).loc main_arg1)) r.val l.val := by
  unfold tL
  rw [dif_pos ⟨r.isLt, l.isLt⟩]; rfl
theorem X2_at (c : Dev nD) (r : Fin 4608) : X2 m c (ix2 r (0 : Fin 1)) = tV (m ((c : Thread nD τ).loc main_arg2)) r.val := by
  unfold tV X2
  rw [dif_pos r.isLt]; pointwise
theorem X3_at (c : Dev nD) (r : Fin 4608) : X3 m c (ix2 r (0 : Fin 1)) = tV (m ((c : Thread nD τ).loc main_arg3)) r.val := by
  unfold tV X3
  rw [dif_pos r.isLt]; pointwise
theorem X4_at (c : Dev nD) (r : Fin 4608) : X4 m c (ix2 r (0 : Fin 1)) = tLab (m ((c : Thread nD τ).loc main_arg4)) r.val := by
  unfold tLab X4
  rw [dif_pos r.isLt]; pointwise
theorem X5_at (c : Dev nD) (r : Fin 4608) : X5 m c (ix2 r (0 : Fin 1)) = tV (m ((c : Thread nD τ).loc main_arg5)) r.val := by
  unfold tV X5
  rw [dif_pos r.isLt]; pointwise
theorem X6_at (c : Dev nD) (r : Fin 4608) (d : Fin 1536) : X6 m c (ix2 r d) = tH (m ((c : Thread nD τ).loc main_arg6)) r.val d := by
  unfold tH
  rw [dif_pos r.isLt]; rfl
theorem X7_at (c : Dev nD) (r : Fin 50304) (d : Fin 1536) : X7 m c (ix2 r d) = tW (m ((c : Thread nD τ).loc main_arg7)) r.val d := by
  unfold tW
  rw [dif_pos r.isLt]; rfl
theorem X8_at (c : Dev nD) (r : Fin 50304) : X8 m c (ix2 r (0 : Fin 1)) = tWS (m ((c : Thread nD τ).loc main_arg8)) r.val := by
  unfold tWS X8
  rw [dif_pos r.isLt]; pointwise

theorem pay5_at (v0 : Vec Ideal S4608x50304 .f32) (v2 : Vec Ideal S4608x1 .i32) (v10 v15 : Vec Ideal S4608x1 .f32) (r : Fin 4608) (l : Fin 50304) :
    k0_pay5 v0 v2 v10 v15 (ix2 r l) = gE (v0 (ix2 r l)) (v10 (ix2 r (0 : Fin 1))) (v15 (ix2 r (0 : Fin 1))) (v2 (ix2 r (0 : Fin 1))) l.val := by
  unfold gE
  pointwise [k0_pay5, k0_pay3]

theorem grad_at (c : Dev nD) (r : Fin 4608) (l : Fin 50304) : k0_pay5 (X1 m c) (X4 m c) (X2 m c) (X3 m c) (ix2 r l) = gG m c r.val l.val := by
  rw [pay5_at, X1_at, X2_at, X3_at, X4_at]; rfl

/-- The scale. -/
def sR (c : Dev nD) : EReal := k0_pay9 (k0_pay7 (X0 m c)) k0_pay8 (ix2 (0 : Fin 1) (0 : Fin 1))

theorem code_at (c : Dev nD) (r : Fin 4608) (l : Fin 50304) :
    (dats m 0 c).arrAt 13 cfg0.N (ix2 r l) = qE (gG m c r.val l.val) (Ideal.div 1 (sR m c)) := by
  rw [arr13, ← grad_at]
  unfold sR qE
  generalize k0_pay5 (X1 m c) (X4 m c) (X2 m c) (X3 m c) = g
  generalize k0_pay7 (X0 m c) = y
  pointwise [k0_pay10]

theorem scale_at (c : Dev nD) : (dats m 0 c).arrAt 14 cfg0.N (ix2 (0 : Fin 1) (0 : Fin 1)) = sR m c := by
  rw [arr14]; rfl

theorem dx_at (c : Dev nD) (r : Fin 4608) (d : Fin 1536) :
    (dats m 0 c).arrAt 10 cfg0.N (ix2 r d) = ∑ x : Fin 50304, qE (gG m c r.val x.val) (Ideal.div 1 (sR m c)) * sR m c
      * (tW (m ((c : Thread nD τ).loc main_arg7)) x.val d * tWS (m ((c : Thread nD τ).loc main_arg8)) x.val) := by
  have h : ∀ x : Fin 50304, qE (gG m c r.val x.val) (Ideal.div 1 (sR m c)) * sR m c
      * (tW (m ((c : Thread nD τ).loc main_arg7)) x.val d * tWS (m ((c : Thread nD τ).loc main_arg8)) x.val)
     = k0_pay10 (k0_pay5 (X1 m c) (X4 m c) (X2 m c) (X3 m c)) (k0_pay7 (X0 m c)) k0_pay8 (ix2 r x) * sR m c * (X7 m c (ix2 x d) * X8 m c (ix2 x (0 : Fin 1))) := by
    intro x
    rw [X7_at, X8_at, ← code_at, arr13]
  rw [arr10, Finset.sum_congr rfl fun x _ => h x]
  unfold sR
  generalize k0_pay5 (X1 m c) (X4 m c) (X2 m c) (X3 m c) = g
  generalize k0_pay7 (X0 m c) = y
  pointwise [k0_pay1, k0_pay11, k0_pay12]

theorem dw_at (c : Dev nD) (r : Fin 50304) (d : Fin 1536) :
    (dats m 0 c).arrAt 11 cfg0.N (ix2 r d) = ∑ x : Fin 4608, qE (gG m c x.val r.val) (Ideal.div 1 (sR m c)) * sR m c
      * (tH (m ((c : Thread nD τ).loc main_arg6)) x.val d * tV (m ((c : Thread nD τ).loc main_arg5)) x.val) := by
  have h : ∀ x : Fin 4608, qE (gG m c x.val r.val) (Ideal.div 1 (sR m c)) * sR m c
      * (tH (m ((c : Thread nD τ).loc main_arg6)) x.val d * tV (m ((c : Thread nD τ).loc main_arg5)) x.val)
     = k0_pay10 (k0_pay5 (X1 m c) (X4 m c) (X2 m c) (X3 m c)) (k0_pay7 (X0 m c)) k0_pay8 (ix2 x r) * sR m c * (X6 m c (ix2 x d) * X5 m c (ix2 x (0 : Fin 1))) := by
    intro x
    rw [X6_at, X5_at, ← code_at, arr13]
  rw [arr11, Finset.sum_congr rfl fun x _ => h x]
  unfold sR
  generalize k0_pay5 (X1 m c) (X4 m c) (X2 m c) (X3 m c) = g
  generalize k0_pay7 (X0 m c) = y
  pointwise [k0_pay2, k0_pay11, k0_pay13]

theorem ll_at (c : Dev nD) (r : Fin 4608) :
    (dats m 0 c).arrAt 9 cfg0.N (ix1 r) = ∑ x : Fin 50304, hE (tL (m ((c : Thread nD τ).loc main_arg1)) r.val x.val) (tLab (m ((c : Thread nD τ).loc main_arg4)) r.val) x.val := by
  have h : ∀ x : Fin 50304, hE (tL (m ((c : Thread nD τ).loc main_arg1)) r.val x.val) (tLab (m ((c : Thread nD τ).loc main_arg4)) r.val) x.val
     = hE (X1 m c (ix2 r x)) (X4 m c (ix2 r (0 : Fin 1))) x.val := by
    intro x
    rw [X1_at, X4_at]
  rw [arr9, Finset.sum_congr rfl fun x _ => h x]
  unfold hE
  generalize X1 m c = a
  generalize X4 m c = b
  pointwise [k0_pay4, k0_pay3]

theorem hist_at (c : Dev nD) (r : Fin 16) :
    ((dats m 0 c).arrAt 12 cfg0.N (ix1 r) : EReal) = if h : r.val < 1 then Finset.fold max (⊥ : EReal) (fun x : Fin 4608 => Finset.fold max (⊥ : EReal) (fun y : Fin 50304 => absE (gG m c x.val y.val)) Finset.univ) Finset.univ
      else X0 m c (ix1 ⟨r.val - 1, by omega⟩) := by
  have h : ∀ (x : Fin 4608) (y : Fin 50304), gG m c x.val y.val = k0_pay5 (X1 m c) (X4 m c) (X2 m c) (X3 m c) (ix2 x y) := fun x y => (grad_at m c x y).symm
  rw [arr12]
  simp only [h]
  unfold absE
  rw [← Cert.KernelIdeal.Hand.ofBits_bot]
  pointwise [k0_pay6]

end Cert.ReferenceIdeal.Hand
end
-- ==== Proof.Hand.AccA.lean ====
/- The accumulated label logits, largest gradient and scale, in closed form. -/
module

public import proofs.«01_k».proof.Proof.Hand.Elem

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ)

theorem ofBits_zero : (Ideal.ofBits .f32 0#32 : EReal) = 0 := by
  show (Ideal.ieee 8 23 0#32 : EReal) = 0
  unfold Ideal.ieee
  simp

/-! ## The label logits -/

/-- What a column adds to a token's label logit, from the arguments. -/
def gH (c : Dev nD) (t v : ℕ) : EReal := hE (tL (m ((c : Thread nD τ).loc main_arg1)) t v) (tLab (m ((c : Thread nD τ).loc main_arg4)) t) v

theorem rA_ix (i : grid0.Coords) (n : Fin 24) (r : Fin 32) (q : Fin 128) : (rA i n).emb (ix2 r q)
    = ix2 (⟨768 * (i 1).val + (32 * n.val + r.val), by have h1 : (i 1).val < 6 := (i 1).isLt; have := n.2; have := r.2; omega⟩ : Fin 4608) q := by
  funext a
  match a with
  | ⟨0, _⟩ => exact Fin.ext ((rA_emb0 i n (ix2 r q)).trans (by show 768 * (i 1).val + 32 * n.val + r.val = 768 * (i 1).val + (32 * n.val + r.val); omega))
  | ⟨1, _⟩ => exact Fin.ext (rA_emb1 i n (ix2 r q))

theorem hit_at (T : Tile Ideal) (i : grid0.Coords) (n : Fin 24) (k : Fin 4) (r : Fin 32) (q : Fin 128) : hitVec (labP T n) (colVec i k) (lgP T n k) (ix2 r q)
    = hE (lgP T n k (ix2 r q)) (labP T n (ix2 r q)) (512 * (i 0).val + (128 * k.val + q.val)) := by
  unfold hE
  rw [← col_eq i k r q]
  rfl
theorem hit_elem (c : Dev nD) (t : Fin cfg0.N) (n : Fin 24) (k : Fin 4) (r : Fin 32) (q : Fin 128) :
    hitVec (labP (tileAt m c t) n) (colVec (grid0.coords t) k) (lgP (tileAt m c t) n k) (ix2 r q) = gH m c (768 * (t.val % 6) + (32 * n.val + r.val)) (512 * (t.val / 6) + (128 * k.val + q.val)) := by
  rw [hit_at, lgP_at, labP_at, read_lg, read_lab, coords_0]
  rfl

theorem llP_at (T : Tile Ideal) (i : grid0.Coords) (A : Vec Ideal S4608x128 .f32) (n : Fin 24) (r : Fin 32) (q : Fin 128) : (llP T i A n (ix2 r q) : EReal)
    = A ((rA i n).emb (ix2 r q)) + hitVec (labP T n) (colVec i 0) (lgP T n 0) (ix2 r q) + hitVec (labP T n) (colVec i 1) (lgP T n 1) (ix2 r q)
      + hitVec (labP T n) (colVec i 2) (lgP T n 2) (ix2 r q) + hitVec (labP T n) (colVec i 3) (lgP T n 3) (ix2 r q) := by
  rw [← sc_self (fun j => A ((rA i n).emb j)) (ix2 r q)]
  rfl

theorem ll_step (c : Dev nD) (t : Fin cfg0.N) (A : Vec Ideal S4608x128 .f32) (R : Fin 4608) (q : Fin 128) :
    (llNext (tileAt m c t) (grid0.coords t) A (ix2 R q) : EReal)
      = if R.val / 768 = t.val % 6 then A (ix2 R q) + ∑ k : Fin 4, gH m c R.val (512 * (t.val / 6) + (128 * k.val + q.val)) else A (ix2 R q) := by
  have h1 := coords_1 t
  have hR := R.isLt
  by_cases h : R.val / 768 = t.val % 6
  · rw [if_pos h]
    obtain ⟨n, r, e⟩ : ∃ (n : Fin 24) (r : Fin 32), R = (⟨768 * ((grid0.coords t) 1).val + (32 * n.val + r.val), by have h1 : ((grid0.coords t) 1).val < 6 := ((grid0.coords t) 1).isLt; have := n.2; have := r.2; omega⟩ : Fin 4608) :=
      ⟨⟨R.val % 768 / 32, by omega⟩, ⟨R.val % 32, by omega⟩, Fin.ext (by show R.val = 768 * ((grid0.coords t) 1).val + (32 * (R.val % 768 / 32) + R.val % 32); omega)⟩
    have e' : 768 * (t.val % 6) + (32 * n.val + r.val) = R.val := by rw [e, ← h1]
    have ex : (ix2 R q : S4608x128.Idx) = (rA (grid0.coords t) n).emb (ix2 r q) := by rw [rA_ix, e]
    rw [ex, llNext_emb, llP_at, hit_elem, hit_elem, hit_elem, hit_elem, e', Fin.sum_univ_four]
    simp only [add_assoc]
  · rw [if_neg h]
    unfold llNext
    rw [dif_neg]
    show ¬ (768 * ((grid0.coords t) 1).val ≤ R.val ∧ R.val < 768 * ((grid0.coords t) 1).val + 768)
    omega

theorem A_at (c : Dev nD) (n : ℕ) (hn : n ≤ 594) (R : Fin 4608) (q : Fin 128) :
    ((st m c n).A (ix2 R q) : EReal) = ∑ j ∈ Finset.range ((n + 5 - R.val / 768) / 6), ∑ k : Fin 4, gH m c R.val (512 * j + (128 * k.val + q.val)) := by
  have hR := R.isLt
  induction n with
  | zero =>
    rw [show (0 + 5 - R.val / 768) / 6 = 0 by omega, Finset.range_zero, Finset.sum_empty]
    exact ofBits_zero
  | succ n ih =>
    have hN : n < cfg0.N := Nat.lt_of_lt_of_eq (by omega : n < 594) N_0.symm
    have e : (st m c (n + 1)).A = llNext (tileAt m c ⟨n, hN⟩) (grid0.coords ⟨n, hN⟩) (st m c n).A := by
      rw [st_succ m c ⟨n, hN⟩]
      show nA (tileAt m c ⟨n, hN⟩) (grid0.coords ⟨n, hN⟩) (st m c n).A = _
      unfold nA
      by_cases h0 : k0_cond1 (grid0.coords ⟨n, hN⟩) = 1#1
      · rw [if_pos h0]
        have hz : n = 0 := (cond1_iff ⟨n, hN⟩).mp h0
        subst hz; rfl
      · rw [if_neg h0]
    rw [e, ll_step, ih (by omega)]
    by_cases h : R.val / 768 = n % 6
    · rw [if_pos h, show (n + 1 + 5 - R.val / 768) / 6 = (n + 5 - R.val / 768) / 6 + 1 by omega, Finset.sum_range_succ,
        show (n + 5 - R.val / 768) / 6 = n / 6 by omega]
    · rw [if_neg h, show (n + 1 + 5 - R.val / 768) / 6 = (n + 5 - R.val / 768) / 6 by omega]

/-! ## The scale -/

theorem S_at (c : Dev nD) (n : ℕ) (hn : n < 594) : (st m c (n + 1)).S (ix2 (0 : Fin 1) (0 : Fin 1)) = sK m c := by
  induction n with
  | zero =>
    have hN : 0 < cfg0.N := Nat.lt_of_lt_of_eq (by omega : 0 < 594) N_0.symm
    rw [st_succ m c ⟨0, hN⟩]
    show nS (tileAt m c ⟨0, hN⟩) (grid0.coords ⟨0, hN⟩) (st m c 0).S _ = _
    unfold nS
    rw [if_pos ((cond1_iff ⟨0, hN⟩).mpr rfl), v0_eq]
    rfl
  | succ n ih =>
    have hN : n + 1 < cfg0.N := Nat.lt_of_lt_of_eq hn N_0.symm
    rw [st_succ m c ⟨n + 1, hN⟩]
    show nS (tileAt m c ⟨n + 1, hN⟩) (grid0.coords ⟨n + 1, hN⟩) (st m c (n + 1)).S _ = _
    unfold nS
    rw [if_neg (fun h => Nat.succ_ne_zero n ((cond1_iff ⟨n + 1, hN⟩).mp h)), ih (by omega)]

/-! ## The largest gradient -/

theorem amaxP_le (T : Tile Ideal) (i : grid0.Coords) (n : Fin 24) (a : FVec Ideal S32x128 .f32) (j : S32x128.Idx) (b : EReal) :
    (amaxP T i n a j : EReal) ≤ b ↔ (a j : EReal) ≤ b ∧ ∀ k : Fin 4, absE (gradP T i n k j) ≤ b := by
  show max (max (max (max (a j : EReal) (absE (gradP T i n 0 j))) (absE (gradP T i n 1 j))) (absE (gradP T i n 2 j))) (absE (gradP T i n 3 j)) ≤ b ↔ _
  rw [max_le_iff, max_le_iff, max_le_iff, max_le_iff]
  constructor
  · rintro ⟨⟨⟨⟨h, h0⟩, h1⟩, h2⟩, h3⟩
    refine ⟨h, fun k => ?_⟩
    fin_cases k
    · exact h0
    · exact h1
    · exact h2
    · exact h3
  · rintro ⟨h, hk⟩
    exact ⟨⟨⟨⟨h, hk 0⟩, hk 1⟩, hk 2⟩, hk 3⟩

theorem amaxRun_le (T : Tile Ideal) (i : grid0.Coords) (j : S32x128.Idx) (b : EReal) : ∀ (m n : ℕ) (h : n + m ≤ 24) (a : FVec Ideal S32x128 .f32),
    (amaxRun T i m n h a j : EReal) ≤ b ↔ (a j : EReal) ≤ b ∧ ∀ n' : Fin 24, n ≤ n'.val → n'.val < n + m → ∀ k : Fin 4, absE (gradP T i n' k j) ≤ b
  | 0, n, h, a => ⟨fun h => ⟨h, fun n' h1 h2 => absurd h2 (by omega)⟩, fun h => h.1⟩
  | m + 1, n, h, a => by
    show (amaxRun T i m (n + 1) (by omega) (amaxP T i ⟨n, by omega⟩ a) j : EReal) ≤ b ↔ _
    rw [amaxRun_le T i j b m (n + 1) (by omega), amaxP_le]
    constructor
    · rintro ⟨⟨h1, h2⟩, h3⟩
      refine ⟨h1, fun n' ha hb => ?_⟩
      by_cases e : n'.val = n
      · have : n' = ⟨n, by omega⟩ := Fin.ext e
        rw [this]; exact h2
      · exact h3 n' (by omega) (by omega)
    · rintro ⟨h1, h2⟩
      exact ⟨⟨h1, h2 ⟨n, by omega⟩ (le_refl n) (by show n < n + (m + 1); omega)⟩, fun n' ha hb => h2 n' (by omega) (by omega)⟩

theorem M_le (c : Dev nD) (r : Fin 32) (q : Fin 128) (b : EReal) (n : ℕ) (hn : n ≤ 594) :
    ((st m c n).M (ix2 r q) : EReal) ≤ b ↔ 0 ≤ b ∧ ∀ t, t < n → ∀ (n' : Fin 24) (k : Fin 4), absE (gG m c (768 * (t % 6) + (32 * n'.val + r.val)) (512 * (t / 6) + (128 * k.val + q.val))) ≤ b := by
  induction n with
  | zero =>
    show (Ideal.ofBits .f32 0#32 : EReal) ≤ b ↔ _
    rw [ofBits_zero]
    exact ⟨fun h => ⟨h, fun t ht => absurd ht (by omega)⟩, fun h => h.1⟩
  | succ n ih =>
    have hN : n < cfg0.N := Nat.lt_of_lt_of_eq (by omega : n < 594) N_0.symm
    have e : (st m c (n + 1)).M = amaxRun (tileAt m c ⟨n, hN⟩) (grid0.coords ⟨n, hN⟩) 12 12 (by omega) (amaxRun (tileAt m c ⟨n, hN⟩) (grid0.coords ⟨n, hN⟩) 12 0 (by omega) (st m c n).M) := by
      rw [st_succ m c ⟨n, hN⟩]
      show nM (tileAt m c ⟨n, hN⟩) (grid0.coords ⟨n, hN⟩) (st m c n).M = _
      unfold nM
      rw [shapeCast_self]
      by_cases h0 : k0_cond1 (grid0.coords ⟨n, hN⟩) = 1#1
      · rw [if_pos h0]
        have hz : n = 0 := (cond1_iff ⟨n, hN⟩).mp h0
        subst hz; rfl
      · rw [if_neg h0]
    rw [e, amaxRun_le, amaxRun_le, ih (by omega)]
    simp only [grad_elem]
    constructor
    · rintro ⟨⟨⟨h1, h2⟩, h3⟩, h4⟩
      refine ⟨h1, fun t ht n' k => ?_⟩
      by_cases e : t = n
      · subst e
        by_cases hh : n'.val < 12
        · exact h3 n' (by omega) (by omega) k
        · exact h4 n' (by omega) (by have := n'.2; omega) k
      · exact h2 t (by omega) n' k
    · rintro ⟨h1, h2⟩
      exact ⟨⟨⟨h1, fun t ht => h2 t (by omega)⟩, fun n' _ _ k => h2 n (by omega) n' k⟩, fun n' _ _ k => h2 n (by omega) n' k⟩

end Cert.KernelIdeal.Hand
end
-- ==== Proof.Hand.Link.lean ====
/- The two programs' scales are the two scales of one number; what the precondition says of the arguments. -/
module

public import proofs.«01_k».proof.Proof.Hand.Sums
public import proofs.«01_k».proof.Proof.Hand.RefElem
public import proofs.«01_k».proof.Proof.Hand.AccA
public import proofs.«01_k».proof.Pre_in_range
public import Idealize.ShloMosaic.Lib.ReduceAll

@[expose] public section

set_option maxRecDepth 16384

noncomputable section

namespace Cert.Hand

open Idealize.ShloMosaic Idealize.ShloMosaic.TcCoe Idealize.SL.Sem

/-- The largest entry of a history, over the largest e5m2 number. -/
def ratioE (x : Fin 16 → EReal) : EReal := Finset.fold max (Ideal.ofBits .f32 4286578688#32) x Finset.univ * Ideal.ofBits .f32 932333861#32

section K
open Cert.KernelIdeal Cert.KernelIdeal.Gen Cert.KernelIdeal.Hand

theorem ratio_at (v0 : Vec Ideal S1x16 .f32) : (Cert.KernelIdeal.Hand.ratio v0 (ix2 (0 : Fin 1) (0 : Fin 1)) : EReal) = ratioE fun j => v0 (ix2 (0 : Fin 1) j) := by
  unfold Cert.KernelIdeal.Hand.ratio ratioE
  pointwise
theorem bitStep_at (y : FVec Ideal S1x1 .f32) (b : BitVec 32) (v : IVec S1x1 32) (j : S1x1.Idx) : bitStep y b v j = stepS (y j) b (v j) := by
  unfold bitStep stepS
  show (if BitVec.ofBool (decide ((Ideal.ofBits .f32 (IntOp.shli .vector (IntOp.addi (v j) b) 23#32) : EReal) ≤ y j)) = 1#1 then _ else _) = _
  by_cases h : (Ideal.ofBits .f32 (IntOp.shli .vector (IntOp.addi (v j) b) 23#32) : EReal) ≤ y j
  · rw [if_pos h, decide_eq_true h]; exact if_pos rfl
  · rw [if_neg h, decide_eq_false h]; exact if_neg (by decide)
theorem expField_at (v0 : Vec Ideal S1x16 .f32) : expField v0 (ix2 (0 : Fin 1) (0 : Fin 1)) = fieldS (ratioE fun j => v0 (ix2 (0 : Fin 1) j)) := by
  unfold expField fieldS
  simp only [bitStep_at, ratio_at]
  rfl
theorem scaleVec_at (v0 : Vec Ideal S1x16 .f32) : (scaleVec v0 (ix2 (0 : Fin 1) (0 : Fin 1)) : EReal) = scaleS (ratioE fun j => v0 (ix2 (0 : Fin 1) j)) := by
  unfold scaleS
  rw [← expField_at]
  rfl
theorem invVec_at (v0 : Vec Ideal S1x16 .f32) : (invVec v0 (ix2 (0 : Fin 1) (0 : Fin 1)) : EReal) = invS (ratioE fun j => v0 (ix2 (0 : Fin 1) j)) := by
  unfold invS
  rw [← expField_at]
  rfl
end K

section R
open Cert.ReferenceIdeal Cert.ReferenceIdeal.Gen Cert.ReferenceIdeal.Hand

theorem pay7_at (v : Vec Ideal S16 .f32) : (k0_pay7 (F := Ideal) v (ix2 (0 : Fin 1) (0 : Fin 1)) : EReal) = ratioE fun j => v (ix1 j) := by
  unfold ratioE
  pointwise [k0_pay7]
theorem pay9_at (y : FVec Ideal S1x1 .f32) : (k0_pay9 (F := Ideal) y k0_pay8 (ix2 (0 : Fin 1) (0 : Fin 1)) : EReal) = scaleR (y (ix2 (0 : Fin 1) (0 : Fin 1))) := by
  unfold scaleR
  pointwise [k0_pay9, k0_pay8]
end R

/-! ## The precondition -/

theorem preFacts : Cert.Pre_in_range.Facts where
  bcast_S_S16 := by decide
  reducesTo_S16_S_d0 := by decide
  h_S_ := by decide
  bcast_S_S6x768 := by decide
  reducesTo_S6x768_S_d0_1 := by decide

open Cert.Pre_in_range in
theorem pre_unpack [Cert.Pre_in_range.Facts] (x0 : FVec Ideal S16 .f32) (x1 : FVec Ideal S4608x50304 .f32) (x2 x3 : FVec Ideal S4608 .f32) (x4 : IVec S6x768 32) (x5 : FVec Ideal S4608 .f32)
    (x6 : FVec Ideal S4608x1536 .fp8e4m3) (x7 : FVec Ideal S50304x1536 .fp8e4m3) (x8 : FVec Ideal S50304 .f32) (h : fn x0 x1 x2 x3 x4 x5 x6 x7 x8 = fun _ => 1#1) :
    (∀ j : S16.Idx, (x0 j : EReal) < Ideal.ofBits .f32 0x71800000#32) ∧ ∀ j : S6x768.Idx, (x4 j).slt 50304#32 = true := by
  have h0 := congrFun h (fun a => a.elim0)
  unfold fn at h0
  haveI : Subsingleton S_.Idx := ⟨fun a b => funext fun i => i.elim0⟩
  have hand : ∀ a b : BitVec 1, a &&& b = 1#1 → a = 1#1 ∧ b = 1#1 := by decide
  obtain ⟨ha, hb⟩ := hand _ _ h0
  refine ⟨fun j => ?_, fun j => ?_⟩
  · have e := Host.reduce_andi_all _ _ _ _ _ ha j
    by_contra hc
    have e' : BitVec.ofBool (decide ((x0 j : EReal) < Ideal.ofBits .f32 0x71800000#32)) = 1#1 := e
    rw [decide_eq_false hc] at e'
    exact absurd e' (by decide)
  · have e := Host.reduce_andi_all _ _ _ _ _ hb j
    have e' : BitVec.ofBool ((x4 j).slt 50304#32) = 1#1 := e
    by_contra hc
    rw [Bool.not_eq_true] at hc
    rw [hc] at e'
    exact absurd e' (by decide)

end Cert.Hand
end
-- ==== Proof.Hand.AccX.lean ====
/- The accumulated gradients of the activations and of the weights, in closed form. -/
module

public import proofs.«01_k».proof.Proof.Hand.Elem

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ)

/-- The dequantised weight of a column, zero past the vocabulary. -/
def gW (c : Dev nD) (v : ℕ) (d : Fin 1536) : EReal :=
  if v < 50304 then tW (m ((c : Thread nD τ).loc main_arg7)) v d * tWS (m ((c : Thread nD τ).loc main_arg8)) v else 0

/-- The code of a token at a column. -/
def gQ (c : Dev nD) (t v : ℕ) : EReal := qE (gG m c t v) (iK m c)

theorem wq_elem (c : Dev nD) (t : Fin cfg0.N) (C : Fin 512) (d : Fin 1536) :
    (wqNext (grid0.coords t) (wAt m c t) (wsAt m c t) (ix2 C d) : EReal) = gW m c (512 * (t.val / 6) + C.val) d := by
  have hm := mask_val (grid0.coords t 0) C
  rw [coords_0] at hm
  unfold wqNext gW
  rw [shapeCast_self, weightVec_apply]
  by_cases h : 512 * (t.val / 6) + C.val < 50304
  · rw [if_pos h]
    have hc := hm.mpr h
    rw [← coords_0 t] at hc
    refine (if_pos hc).trans ?_
    show (wAt m c t (ix2 C d) : EReal) * wsAt m c t (rowOf (ix2 C d)) = _
    rw [read_w m c t C d h, show rowOf (ix2 C d) = ix2 C (0 : Fin 1) from rfl, read_ws m c t C h]
  · rw [if_neg h]
    have hc := fun h' => h (hm.mp h')
    rw [← coords_0 t] at hc
    refine (if_neg hc).trans ?_
    show (Ideal.ofBits .bf16 0#16 : EReal) = 0
    show (Ideal.ieee 8 7 0#16 : EReal) = 0
    unfold Ideal.ieee
    simp

theorem W_at (c : Dev nD) (n : ℕ) (hn : n < 594) (C : Fin 512) (d : Fin 1536) :
    ((st m c (n + 1)).W (ix2 C d) : EReal) = gW m c (512 * (n / 6) + C.val) d := by
  have key : ∀ (hN : n < cfg0.N), (st m c (n + 1)).W = if first1 (grid0.coords ⟨n, hN⟩) then wqNext (grid0.coords ⟨n, hN⟩) (wAt m c ⟨n, hN⟩) (wsAt m c ⟨n, hN⟩) else (st m c n).W := by
    intro hN
    rw [st_succ m c ⟨n, hN⟩]; rfl
  have hN : n < cfg0.N := Nat.lt_of_lt_of_eq hn N_0.symm
  rw [key hN]
  by_cases h : first1 (grid0.coords ⟨n, hN⟩)
  · rw [if_pos h]; exact wq_elem m c ⟨n, hN⟩ C d
  · rw [if_neg h]
    have h6 : n % 6 ≠ 0 := fun e => h ((first1_iff ⟨n, hN⟩).mpr e)
    cases n with
    | zero => exact absurd rfl h6
    | succ n =>
      rw [W_at c n (by omega) C d, show (n + 1) / 6 = n / 6 by omega]

/-! ## The activations' gradient -/

theorem rX_ix (i : grid0.Coords) (h : Fin 2) (r : Fin 384) (d : Fin 1536) : (rX i h).emb (ix2 r d)
    = ix2 (⟨768 * (i 1).val + (384 * h.val + r.val), by have h1 : (i 1).val < 6 := (i 1).isLt; have := h.2; have := r.2; omega⟩ : Fin 4608) d := by
  have e : k0_off2 i (BitVec.ofNat 32 (384 * h.val)) = ![768 * (i 1).val + 384 * h.val, 0] := k0_off2_eq i h
  funext a
  match a with
  | ⟨0, _⟩ => exact Fin.ext (by
      show k0_off2 i (BitVec.ofNat 32 (384 * h.val)) 0 + 1 * r.val = 768 * (i 1).val + (384 * h.val + r.val)
      rw [e]; show 768 * (i 1).val + 384 * h.val + 1 * r.val = _; omega)
  | ⟨1, _⟩ => exact Fin.ext (by
      show k0_off2 i (BitVec.ofNat 32 (384 * h.val)) 1 + 1 * d.val = d.val
      rw [e]; show 0 + 1 * d.val = _; omega)

theorem dot_dx (L : FVec Ideal S384x512 .bf16) (W : FVec Ideal S512x1536 .bf16) (Y : FVec Ideal S384x1536 .f32) (r : Fin 384) (d : Fin 1536) :
    (shapeCast S384x1536 (addf Y (matmul dot_S384x512_S512x1536_S384x1536_1_0_0_1_n_n none L W (constant S384x1536 .f32 0x00000000#32))) shapeCasts_S384x1536_S384x1536 (ix2 r d) : EReal)
      = Y (ix2 r d) + ∑ x : Fin 512, (L (ix2 r x) : EReal) * W (ix2 x d) := by
  pointwise

theorem dxStep_at (i : grid0.Coords) (h : Fin 2) (G : Vec Ideal S768x512 .bf16) (W : Vec Ideal S512x1536 .bf16) (X : Vec Ideal S4608x1536 .f32) (R : Fin 4608) (d : Fin 1536) :
    (dxStep i h G W X (ix2 R d) : EReal) = if hR : R.val / 384 = 2 * (i 1).val + h.val then
        X (ix2 R d) + ∑ x : Fin 512, (G (ix2 (⟨R.val % 768, by omega⟩ : Fin 768) x) : EReal) * W (ix2 x d)
      else X (ix2 R d) := by
  have h1 : (i 1).val < 6 := (i 1).isLt
  have hh := h.2
  by_cases hR : R.val / 384 = 2 * (i 1).val + h.val
  · rw [dif_pos hR]
    obtain ⟨r, e⟩ : ∃ r : Fin 384, R = (⟨768 * (i 1).val + (384 * h.val + r.val), by have := r.2; omega⟩ : Fin 4608) :=
      ⟨⟨R.val % 384, by omega⟩, Fin.ext (by show R.val = 768 * (i 1).val + (384 * h.val + R.val % 384); omega)⟩
    have ex : (ix2 R d : S4608x1536.Idx) = (rX i h).emb (ix2 r d) := by rw [rX_ix, e]
    have eG : ∀ x : Fin 512, (rH h).emb (ix2 r x) = ix2 (⟨R.val % 768, by omega⟩ : Fin 768) x := by
      intro x
      funext a
      have hv : R.val = 768 * (i 1).val + (384 * h.val + r.val) := by rw [e]
      have hr := r.2
      match a with
      | ⟨0, _⟩ => exact Fin.ext (by show 384 * h.val + 1 * r.val = R.val % 768; omega)
      | ⟨1, _⟩ => exact Fin.ext (by show 0 + 1 * x.val = x.val; omega)
    have e2 : (dxStep i h G W X ((rX i h).emb (ix2 r d)) : EReal) = X ((rX i h).emb (ix2 r d)) + ∑ x : Fin 512, (G ((rH h).emb (ix2 r x)) : EReal) * W (ix2 x d) := by
      unfold dxStep
      rw [put_emb]
      exact dot_dx (fun j => G ((rH h).emb j)) W (fun j => X ((rX i h).emb j)) r d
    rw [ex, e2]
    simp only [eG]
  · rw [dif_neg hR]
    unfold dxStep
    rw [put_miss]
    intro j hj
    have hj0 : (j 0).val < 384 := (j 0).isLt
    have ej : j = ix2 (j 0 : Fin 384) (j 1 : Fin 1536) := by
      funext a
      match a with
      | ⟨0, _⟩ => rfl
      | ⟨1, _⟩ => rfl
    have hj' : (ix2 (⟨768 * (i 1).val + (384 * h.val + (j 0).val), by omega⟩ : Fin 4608) (j 1 : Fin 1536) : S4608x1536.Idx) = ix2 R d :=
      (rX_ix i h (j 0) (j 1)).symm.trans ((congrArg (rX i h).emb ej.symm).trans hj)
    have h0 := congrArg (fun y : S4608x1536.Idx => (y 0).val) hj'
    have h0' : 768 * (i 1).val + (384 * h.val + (j 0).val) = R.val := h0
    exact hR (by omega)

theorem X_at (c : Dev nD) (n : ℕ) (hn : n ≤ 594) (R : Fin 4608) (d : Fin 1536) :
    ((st m c n).X (ix2 R d) : EReal) = ∑ j ∈ Finset.range ((n + 5 - R.val / 768) / 6), ∑ x : Fin 512, gQ m c R.val (512 * j + x.val) * gW m c (512 * j + x.val) d := by
  have hR := R.isLt
  induction n with
  | zero =>
    rw [show (0 + 5 - R.val / 768) / 6 = 0 by omega, Finset.range_zero, Finset.sum_empty]
    show ((zeroX : Vec Ideal S4608x1536 .f32) (ix2 R d) : EReal) = 0
    unfold zeroX
    rw [shapeCast_self]
    show (Ideal.ieee 8 23 0#32 : EReal) = 0
    unfold Ideal.ieee
    simp
  | succ n ih =>
    have hN : n < cfg0.N := Nat.lt_of_lt_of_eq (by omega : n < 594) N_0.symm
    have e : (st m c (n + 1)).X = dxStep (grid0.coords ⟨n, hN⟩) 1 (tileOf (deqP (tileAt m c ⟨n, hN⟩) (grid0.coords ⟨n, hN⟩))) (st m c (n + 1)).W
        (dxStep (grid0.coords ⟨n, hN⟩) 0 (tileOf (deqP (tileAt m c ⟨n, hN⟩) (grid0.coords ⟨n, hN⟩))) (st m c (n + 1)).W (st m c n).X) := by
      have eX : (st m c (n + 1)).X = nX (tileAt m c ⟨n, hN⟩) (grid0.coords ⟨n, hN⟩) (st m c (n + 1)).W (st m c n).X := by
        rw [st_succ m c ⟨n, hN⟩]
        dsimp only [step]
      rw [eX]
      generalize (st m c (n + 1)).W = W'
      have hx : (if k0_cond1 (grid0.coords ⟨n, hN⟩) = 1#1 then zeroX else (st m c n).X) = (st m c n).X := by
        by_cases h0 : k0_cond1 (grid0.coords ⟨n, hN⟩) = 1#1
        · rw [if_pos h0]
          have hz : n = 0 := (cond1_iff ⟨n, hN⟩).mp h0
          rw [hz]; rfl
        · rw [if_neg h0]
      unfold nX
      rw [hx]
    have h1 := coords_1 ⟨n, hN⟩
    have h1' : ((grid0.coords ⟨n, hN⟩) 1).val = n % 6 := h1
    rw [e, dxStep_at, dxStep_at]
    have hsum : ∑ x : Fin 512, (tileOf (deqP (tileAt m c ⟨n, hN⟩) (grid0.coords ⟨n, hN⟩)) (ix2 (⟨R.val % 768, by omega⟩ : Fin 768) x) : EReal) * (st m c (n + 1)).W (ix2 x d)
        = ∑ x : Fin 512, gQ m c (768 * (n % 6) + R.val % 768) (512 * (n / 6) + x.val) * gW m c (512 * (n / 6) + x.val) d := by
      refine Finset.sum_congr rfl fun x _ => ?_
      rw [deq_elem, W_at m c n (by omega)]; rfl
    by_cases h : R.val / 768 = n % 6
    · have hsum' : ∑ x : Fin 512, gQ m c (768 * (n % 6) + R.val % 768) (512 * (n / 6) + x.val) * gW m c (512 * (n / 6) + x.val) d
          = ∑ x : Fin 512, gQ m c R.val (512 * (n / 6) + x.val) * gW m c (512 * (n / 6) + x.val) d := by
        rw [show 768 * (n % 6) + R.val % 768 = R.val by omega]
      rw [show (n + 1 + 5 - R.val / 768) / 6 = (n + 5 - R.val / 768) / 6 + 1 by omega, Finset.sum_range_succ,
        show (n + 5 - R.val / 768) / 6 = n / 6 by omega, ← hsum', ← hsum]
      rw [show (n + 5 - R.val / 768) / 6 = n / 6 by omega] at ih
      rw [← ih (by omega)]
      by_cases hp : R.val / 384 % 2 = 1
      · rw [dif_pos (show R.val / 384 = 2 * ((grid0.coords ⟨n, hN⟩) 1).val + (1 : Fin 2).val by show _ = 2 * ((grid0.coords ⟨n, hN⟩) 1).val + 1; omega),
          dif_neg (show ¬ (R.val / 384 = 2 * ((grid0.coords ⟨n, hN⟩) 1).val + (0 : Fin 2).val) by show ¬ (_ = 2 * ((grid0.coords ⟨n, hN⟩) 1).val + 0); omega)]
      · rw [dif_neg (show ¬ (R.val / 384 = 2 * ((grid0.coords ⟨n, hN⟩) 1).val + (1 : Fin 2).val) by show ¬ (_ = 2 * ((grid0.coords ⟨n, hN⟩) 1).val + 1); omega),
          dif_pos (show R.val / 384 = 2 * ((grid0.coords ⟨n, hN⟩) 1).val + (0 : Fin 2).val by show _ = 2 * ((grid0.coords ⟨n, hN⟩) 1).val + 0; omega)]
    · rw [dif_neg (show ¬ (R.val / 384 = 2 * ((grid0.coords ⟨n, hN⟩) 1).val + (1 : Fin 2).val) by show ¬ (_ = 2 * ((grid0.coords ⟨n, hN⟩) 1).val + 1); omega),
          dif_neg (show ¬ (R.val / 384 = 2 * ((grid0.coords ⟨n, hN⟩) 1).val + (0 : Fin 2).val) by show ¬ (_ = 2 * ((grid0.coords ⟨n, hN⟩) 1).val + 0); omega),
        ih (by omega), show (n + 1 + 5 - R.val / 768) / 6 = (n + 5 - R.val / 768) / 6 by omega]

/-! ## The weights' gradient -/

theorem dot_dw (G : FVec Ideal S768x512 .bf16) (H : FVec Ideal S768x1536 .fp8e4m3) (r : Fin 512) (d : Fin 1536) :
    (matmul dot_S768x512_S768x1536_S512x1536_0_0_1_1_n_n none G H (constant S512x1536 .f32 0x00000000#32) (ix2 r d) : EReal)
      = ∑ x : Fin 768, (G (ix2 x r) : EReal) * H (ix2 x d) := by
  pointwise

/-- A token's contribution to the weights' gradient. -/
def gD (c : Dev nD) (t v : ℕ) (d : Fin 1536) : EReal := gQ m c t v * (tV (m ((c : Thread nD τ).loc main_arg5)) t * sK m c) * tH (m ((c : Thread nD τ).loc main_arg6)) t d

theorem dw_part (c : Dev nD) (t : Fin cfg0.N) (C : Fin 512) (d : Fin 1536) :
    (matmul dot_S768x512_S768x1536_S512x1536_0_0_1_1_n_n none (φ₁ := .bf16) (φ₂ := .fp8e4m3) (tileOf (wgtP (tileAt m c t) (grid0.coords t)))
      (fun j => hidAt m c t ((Rect.unit (s := S4608x1536) (k0_off3 (grid0.coords t)) S768x1536.size (k0_off3_inb (grid0.coords t))).emb j)) (constant S512x1536 .f32 0x00000000#32) (ix2 C d) : EReal)
      = ∑ x : Fin 768, gD m c (768 * (t.val % 6) + x.val) (512 * (t.val / 6) + C.val) d := by
  rw [dot_dw]
  refine Finset.sum_congr rfl fun x _ => ?_
  have h1 := coords_1 t
  have e3 : k0_off3 (grid0.coords t) = ![768 * ((grid0.coords t) 1).val, 0] := k0_off3_eq _
  have e : (Rect.unit (s := S4608x1536) (k0_off3 (grid0.coords t)) S768x1536.size (k0_off3_inb (grid0.coords t))).emb (ix2 x d)
      = ix2 (⟨768 * (t.val % 6) + x.val, by have := x.2; omega⟩ : Fin 4608) d := by
    funext a
    match a with
    | ⟨0, _⟩ => exact Fin.ext (by
        show k0_off3 (grid0.coords t) 0 + 1 * x.val = 768 * (t.val % 6) + x.val
        rw [e3]; show 768 * ((grid0.coords t) 1).val + 1 * x.val = _; omega)
    | ⟨1, _⟩ => exact Fin.ext (by
        show k0_off3 (grid0.coords t) 1 + 1 * d.val = d.val
        rw [e3]; show 0 + 1 * d.val = _; omega)
  rw [wgt_elem]
  show _ * hidAt m c t ((Rect.unit (s := S4608x1536) (k0_off3 (grid0.coords t)) S768x1536.size (k0_off3_inb (grid0.coords t))).emb (ix2 x d)) = _
  rw [e, read_hid]
  rfl

theorem D_at (c : Dev nD) (n : ℕ) (hn : n < 594) (C : Fin 512) (d : Fin 1536) :
    ((st m c (n + 1)).D (ix2 C d) : EReal) = ∑ i ∈ Finset.range (n % 6 + 1), ∑ x : Fin 768, gD m c (768 * i + x.val) (512 * (n / 6) + C.val) d := by
  have hN : n < cfg0.N := Nat.lt_of_lt_of_eq hn N_0.symm
  have key : (st m c (n + 1)).D = dwNext (grid0.coords ⟨n, hN⟩) (tileOf (wgtP (tileAt m c ⟨n, hN⟩) (grid0.coords ⟨n, hN⟩))) (hidAt m c ⟨n, hN⟩) (st m c n).D := by
    rw [st_succ m c ⟨n, hN⟩]; rfl
  have hp : (matmul dot_S768x512_S768x1536_S512x1536_0_0_1_1_n_n none (φ₁ := .bf16) (φ₂ := .fp8e4m3) (tileOf (wgtP (tileAt m c ⟨n, hN⟩) (grid0.coords ⟨n, hN⟩)))
      (fun j => hidAt m c ⟨n, hN⟩ ((Rect.unit (s := S4608x1536) (k0_off3 (grid0.coords ⟨n, hN⟩)) S768x1536.size (k0_off3_inb (grid0.coords ⟨n, hN⟩))).emb j)) (constant S512x1536 .f32 0x00000000#32) (ix2 C d) : EReal)
      = ∑ x : Fin 768, gD m c (768 * (n % 6) + x.val) (512 * (n / 6) + C.val) d := dw_part m c ⟨n, hN⟩ C d
  rw [key]
  unfold dwNext
  rw [Finset.sum_range_succ, ← hp]
  by_cases h : n % 6 = 0
  · have hc := (cmp0_iff ⟨n, hN⟩).mpr h
    rw [h, Finset.range_zero, Finset.sum_empty, zero_add]
    unfold Scalar.select
    exact congrFun (if_pos hc) _
  · have hc := fun h' => h ((cmp0_iff ⟨n, hN⟩).mp h')
    unfold Scalar.select
    rw [shapeCast_self]
    refine (congrFun (if_neg hc) _).trans ?_
    cases n with
    | zero => exact absurd rfl h
    | succ n =>
      have ih := D_at c n (by omega) C d
      rw [show (n + 1) % 6 = n % 6 + 1 by omega, show (n + 1) / 6 = n / 6 by omega, ← ih]
      rfl

end Cert.KernelIdeal.Hand
end
-- ==== Proof.Hand.Out.lean ====
/- The arrays the kernel's call leaves, and what the lines after it return. -/
module

public import proofs.«01_k».proof.Proof.Hand.AccA
public import proofs.«01_k».proof.Proof.Hand.AccX
public import proofs.«01_k».proof.Proof.Hand.LaunchI
public import Idealize.ShloMosaic.Lib.Pipeline.Covers

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.ValueKit

variable (m : (ℓ : Loc nD τ sig) → Buf (Elt Ideal) ℓ)

theorem covers9 : win0_9.Covers := win0_9.covers_of_indexMap_surj rfl (by decide) fun β => by
  have h0 : (β 0).val < 6 := lt_of_lt_of_eq (β 0).isLt (by decide : win0_9.nblk 0 = 6)
  have h1 : (β 1).val < 99 := lt_of_lt_of_eq (β 1).isLt (by decide : win0_9.nblk 1 = 99)
  refine ⟨fun a => match a with
    | ⟨0, _⟩ => ⟨(β 1).val, h1⟩
    | ⟨1, _⟩ => ⟨(β 0).val, h0⟩, fun a => ?_⟩
  match a with
  | ⟨0, _⟩ => exact Nat.mod_eq_of_lt (show (β 0).val < 2 ^ 32 by omega)
  | ⟨1, _⟩ => exact Nat.mod_eq_of_lt (show (β 1).val < 2 ^ 32 by omega)

theorem tile_code (c : Dev nD) (t : Fin cfg0.N) (R : Fin 768) (C : Fin 512) :
    (tileOf (codeP (tileAt m c t) (grid0.coords t)) (ix2 R C) : EReal) = gQ m c (768 * (t.val % 6) + R.val) (512 * (t.val / 6) + C.val) := by
  have e : (codeP (tileAt m c t) (grid0.coords t) : Fin 24 → Fin 4 → S32x128.Idx → EReal) = deqP (tileAt m c t) (grid0.coords t) := by
    funext n k j; exact (deqP_at _ _ n k j).symm
  have e2 : (tileOf (codeP (tileAt m c t) (grid0.coords t)) : S768x512.Idx → EReal) = tileOf (deqP (tileAt m c t) (grid0.coords t)) := congrArg tileOf e
  rw [e2, deq_elem]; rfl

theorem out9 (c : Dev nD) : (dats m 0 c).arrAt 9 cfg0.N = (fun z : S4608x50304.Idx => gQ m c (z 0).val (z 1).val) := by
  refine (dats m 0 c).arrAt_eq_of_covers 9 _ covers9 fun t hf y => ?_
  blk_simp
  rw [after_9]
  have hi := idx9 t
  have i0 : win0_9.index t 0 = t.val % 6 := (congrFun hi 0).trans (coords_1 t)
  have i1 : win0_9.index t 1 = t.val / 6 := (congrFun hi 1).trans (coords_0 t)
  have e : (cfg0.win 9).xinj (cfg0.grid.coords t) y = ix2 (⟨(y 0).val, ((cfg0.win 9).xinj (cfg0.grid.coords t) y 0).isLt⟩ : Fin 768) (⟨(y 1).val, ((cfg0.win 9).xinj (cfg0.grid.coords t) y 1).isLt⟩ : Fin 512) := by
    funext a
    match a with
    | ⟨0, _⟩ => rfl
    | ⟨1, _⟩ => rfl
  rw [i0, i1, Nat.mul_comm (t.val % 6), Nat.mul_comm (t.val / 6)]
  exact (congrArg (tileOf (codeP (tileAt m c t) (grid0.coords t))) e).trans (tile_code m c t _ _)

/-- The last point. -/
def tLast : Fin cfg0.N := ⟨593, Nat.lt_of_lt_of_eq (by omega : 593 < 594) N_0.symm⟩

theorem out11 (c : Dev nD) : (dats m 0 c).arrAt 11 cfg0.N = (st m c 594).A := by
  refine (dats m 0 c).arrAt_eq_of_after_last 11 tLast (by decide +kernel) _ fun j => ?_
  rw [after_11]
  rfl
theorem out12 (c : Dev nD) : (dats m 0 c).arrAt 12 cfg0.N = (st m c 594).M := by
  refine (dats m 0 c).arrAt_eq_of_after_last 12 tLast (by decide +kernel) _ fun j => ?_
  rw [after_12]
  rfl
theorem out13 (c : Dev nD) : (dats m 0 c).arrAt 13 cfg0.N = (st m c 594).S := by
  refine (dats m 0 c).arrAt_eq_of_after_last 13 tLast (by decide +kernel) _ fun j => ?_
  rw [after_13]
  rfl

theorem dxOut_at (w : FVec Ideal S1x1 .f32) (X : Vec Ideal S4608x1536 .f32) (R : Fin 4608) (d : Fin 1536) : (dxOut w X (ix2 R d) : EReal) = X (ix2 R d) * w (ix2 (0 : Fin 1) (0 : Fin 1)) := by
  have h : ∀ (Y : Vec Ideal S512x1536 .f32) (r : Fin 512), (k0_pay2 w Y (ix2 r d) : EReal) = Y (ix2 r d) * w (ix2 (0 : Fin 1) (0 : Fin 1)) := by
    intro Y r
    pointwise [k0_pay2]
  have e := h (fun j => X (ix2 (⟨512 * (R.val / 512) + (j 0).val, by have : (j 0).val < 512 := (j 0).isLt; omega⟩ : Fin 4608) (j 1 : Fin 1536))) ⟨R.val % 512, by omega⟩
  have e0 : (ix2 (⟨512 * (R.val / 512) + R.val % 512, by omega⟩ : Fin 4608) d : S4608x1536.Idx) = ix2 R d := by
    congr 1; exact Fin.ext (by show 512 * (R.val / 512) + R.val % 512 = R.val; omega)
  unfold dxOut
  refine Eq.trans ?_ (e.trans (congrArg (fun z => (X z : EReal) * w (ix2 (0 : Fin 1) (0 : Fin 1))) e0))
  refine congr (congrArg (k0_pay2 w) (funext fun j => congrArg X (funext fun a => ?_))) (funext fun a => ?_)
  · match a with
    | ⟨0, _⟩ => rfl
    | ⟨1, _⟩ => rfl
  · match a with
    | ⟨0, _⟩ => rfl
    | ⟨1, _⟩ => rfl

/-- The label logits from the lanes. -/
def llOut (A : FVec Ideal S4608x128 .f32) : FVec Ideal S4608 .f32 := Host.reduceAdd A (constant S_ .f32 0x00000000#32) reducesTo_S4608x128_S4608_d1 h_S_
/-- The history from the lanes' maxima. -/
def histOut (M : FVec Ideal S32x128 .f32) (x : FVec Ideal S16 .f32) : FVec Ideal S16 .f32 :=
  concatenate S16 0 [⟨S1, broadcastInDim S1 ![] bcast_S_S1 (Host.reduce FloatOps.maximumf M (constant S_ .f32 0xFF800000#32) reducesTo_S32x128_S_d0_1 h_S_)⟩,
    ⟨S15, extractStridedSlice S15 ![0] x slices_S16_S15_0⟩] concatenates_S1_S15_S16_d0

theorem llOut_at (A : FVec Ideal S4608x128 .f32) (R : Fin 4608) : (llOut A (ix1 R) : EReal) = ∑ q : Fin 128, (A (ix2 R q) : EReal) := by
  unfold llOut
  pointwise
theorem histOut_at (M : FVec Ideal S32x128 .f32) (x : FVec Ideal S16 .f32) (r : Fin 16) : (histOut M x (ix1 r) : EReal)
    = if h : r.val < 1 then Finset.fold max (Ideal.ofBits .f32 4286578688#32 : EReal) (fun k : Fin 32 × Fin 128 => (M (ix2 k.1 k.2) : EReal)) Finset.univ
      else x (ix1 ⟨r.val - 1, by omega⟩) := by
  unfold histOut
  pointwise

theorem outX_at (c : Dev nD) (R : Fin 4608) (d : Fin 1536) : (outX m c (ix2 R d) : EReal) = (st m c 594).X (ix2 R d) * sK m c := by
  unfold outX sK
  rw [v0_eq]
  generalize scaleVec (fun j : S1x16.Idx => (m ((c : Thread nD τ).loc main_arg0) : Vec Ideal S16 .f32) (ix1 (j 1))) = w
  generalize (st m c 594).X = X
  exact dxOut_at w X R d

theorem end_v18 (c : Dev nD) : endV m c main_v18 = llOut (st m c 594).A := by
  have h := (regionV_arr m c 11).trans (out11 m c)
  have h' : regionV m c (Proc.devRef .tc main_v13_3) = (st m c 594).A := h
  unfold endV
  simp only [List.flatten_cons, List.flatten_nil, List.append_nil]
  unfold hostOps1
  simp only [StableHlo.after_cons, StableHlo.after_nil]
  after_results_simp
  after_results_loop
  rw [h']
  rfl
theorem end_v17 (c : Dev nD) : endV m c main_v17 = histOut (st m c 594).M (m ((c : Thread nD τ).loc main_arg0)) := by
  have h := (regionV_arr m c 12).trans (out12 m c)
  have h' : regionV m c (Proc.devRef .tc main_v13_4) = (st m c 594).M := h
  have h0 : regionV m c (Proc.devRef .tc main_arg0) = m ((c : Thread nD τ).loc main_arg0) := (regionV_of_ne m c main_arg0 (by decide) (by decide)).trans (V_main_arg0 m c)
  unfold endV
  simp only [List.flatten_cons, List.flatten_nil, List.append_nil]
  unfold hostOps1
  simp only [StableHlo.after_cons, StableHlo.after_nil]
  after_results_simp
  after_results_loop
  rw [h', h0]
  rfl
theorem end_v13_2 (c : Dev nD) : endV m c main_v13_2 = outX m c := by
  unfold endV
  rw [StableHlo.after_of_forall_not_mem (b := Proc.devRef .tc main_v13_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    regionV_out m c]
  rfl

end Cert.KernelIdeal.Hand
end
-- ==== Proof.Hand.OutW.lean ====
/- The array of the weights' gradient the kernel's call leaves. -/
module

public import proofs.«01_k».proof.Proof.Hand.AccX
public import proofs.«01_k».proof.Proof.Hand.FrameI
public import Idealize.ShloMosaic.Lib.Pipeline.Covers

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.ValueKit

variable (m : (ℓ : Loc nD τ sig) → Buf (Elt Ideal) ℓ)

theorem covers10 : win0_10.Covers := win0_10.covers_of_indexMap_surj rfl (by decide) fun β => by
  have h0 : (β 0).val < 99 := lt_of_lt_of_eq (β 0).isLt (by decide : win0_10.nblk 0 = 99)
  have h1 : (β 1).val < 1 := lt_of_lt_of_eq (β 1).isLt (by decide : win0_10.nblk 1 = 1)
  refine ⟨fun a => match a with
    | ⟨0, _⟩ => ⟨(β 0).val, h0⟩
    | ⟨1, _⟩ => ⟨0, (show 0 < 6 by omega)⟩, fun a => ?_⟩
  match a with
  | ⟨0, _⟩ => exact Nat.mod_eq_of_lt (show (β 0).val < 2 ^ 32 by omega)
  | ⟨1, _⟩ => exact (show 0 = (β 1).val by omega)

/-- A row and column of the weights' gradient. -/
def dwSum (c : Dev nD) (v d : ℕ) : EReal :=
  if h : d < 1536 then ∑ i ∈ Finset.range 6, ∑ x : Fin 768, gD m c (768 * i + x.val) v ⟨d, h⟩ else 0

theorem out10 (c : Dev nD) : (dats m 0 c).arrAt 10 cfg0.N = (fun z : S50304x1536.Idx => dwSum m c (z 0).val (z 1).val) := by
  refine (dats m 0 c).arrAt_eq_of_covers 10 _ covers10 fun t hf y => ?_
  blk_simp
  rw [after_10]
  have ht : t.val < 594 := Nat.lt_of_lt_of_eq t.isLt N_0
  have h5 : t.val % 6 = 5 := (flush0_10 t).mp hf
  have hi := idx10 t
  have i0 : win0_10.index t 0 = t.val / 6 := (congrFun hi 0).trans (coords_0 t)
  have i1 : win0_10.index t 1 = 0 := congrFun hi 1
  have hy0 : (y 0).val < 512 := ((cfg0.win 10).xinj (cfg0.grid.coords t) y 0).isLt
  have hy1 : (y 1).val < 1536 := ((cfg0.win 10).xinj (cfg0.grid.coords t) y 1).isLt
  have e : (cfg0.win 10).xinj (cfg0.grid.coords t) y = ix2 (⟨(y 0).val, hy0⟩ : Fin 512) (⟨(y 1).val, hy1⟩ : Fin 1536) := by
    funext a
    match a with
    | ⟨0, _⟩ => rfl
    | ⟨1, _⟩ => rfl
  have hD := D_at m c t.val ht (⟨(y 0).val, hy0⟩ : Fin 512) (⟨(y 1).val, hy1⟩ : Fin 1536)
  rw [h5] at hD
  rw [i0, i1, Nat.mul_comm (t.val / 6), Nat.zero_mul, Nat.zero_add]
  unfold dwSum
  rw [dif_pos hy1]
  exact (congrArg (st m c (t.val + 1)).D e).trans hD

end Cert.KernelIdeal.Hand
end
-- ==== Proof.Hand.Result.lean ====
/- The kernel's results are the reference's. -/
module

public import proofs.«01_k».proof.Proof.Hand.Link
public import proofs.«01_k».proof.Proof.Hand.Out
public import proofs.«01_k».proof.Proof.Hand.OutW

@[expose] public section

set_option maxRecDepth 16384

noncomputable section

namespace Cert.Hand

open Idealize.ShloMosaic Idealize.ShloMosaic.TcCoe Idealize.SL.Sem
open Cert.KernelIdeal Cert.KernelIdeal.Gen Cert.KernelIdeal.Hand

/-- Two memories agree on the arguments, and the arguments are in range, on a device. -/
structure Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  hist : ∀ j : S16.Idx, LT.lt (α := EReal) ((m ((c.tc : Thread Cert.KernelIdeal.nD Cert.KernelIdeal.τ).loc Cert.KernelIdeal.main_arg0) : Vec Ideal S16 .f32) j) (Ideal.ofBits .f32 0x71800000#32)
  lab : ∀ j : S6x768.Idx, BitVec.slt (n := 32) ((m ((c.tc : Thread Cert.KernelIdeal.nD Cert.KernelIdeal.τ).loc Cert.KernelIdeal.main_arg4) : Vec Ideal S6x768 .i32) j) 50304#32 = true

variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} {c : Dev Cert.KernelIdeal.nD}

theorem lab_lt (H : Agree m m' c) (t : ℕ) (ht : t < 4608) : (tLab (m ((c : Thread nD τ).loc main_arg4)) t).slt 50304#32 = true := by
  unfold tLab
  rw [dif_pos ht]
  exact H.lab _
theorem tL_pad (x : Vec Ideal S4608x50304 .f32) (t v : ℕ) (h : 50304 ≤ v) : tL x t v = ⊥ := by
  unfold tL
  rw [dif_neg (by omega)]
theorem gG_pad (H : Agree m m' c) (t v : ℕ) (ht : t < 4608) (h1 : 50304 ≤ v) (h2 : v < 50688) : Cert.KernelIdeal.Hand.gG m c t v = 0 := by
  unfold Cert.KernelIdeal.Hand.gG
  rw [tL_pad _ _ _ h1]
  exact gE_pad _ _ _ (lab_lt H t ht) v h1 h2
theorem gH_pad (H : Agree m m' c) (t v : ℕ) (ht : t < 4608) (h1 : 50304 ≤ v) (h2 : v < 50688) : gH m c t v = 0 :=
  hE_pad _ _ (lab_lt H t ht) v h1 h2
theorem gG_eq (H : Agree m m' c) (t v : ℕ) : Cert.ReferenceIdeal.Hand.gG m' c t v = Cert.KernelIdeal.Hand.gG m c t v := by
  unfold Cert.ReferenceIdeal.Hand.gG Cert.KernelIdeal.Hand.gG
  rw [H.a1, H.a2, H.a3, H.a4]

theorem scales (H : Agree m m' c) : ∃ s : ℝ, 0 < s ∧ sK m c = (s : EReal) ∧ iK m c = ((s⁻¹ : ℝ) : EReal) ∧ Cert.ReferenceIdeal.Hand.sR m' c = (s : EReal) := by
  obtain ⟨s, hs, e1, e2, e3⟩ := scale_facts (ratioE fun j : Fin 16 => (m ((c : Thread nD τ).loc main_arg0) : Vec Ideal S16 .f32) (ix1 j)) (ratio_lt _ fun x => H.hist _)
  refine ⟨s, hs, (scaleVec_at _).trans e1, (invVec_at _).trans e2, ?_⟩
  unfold Cert.ReferenceIdeal.Hand.sR
  rw [pay9_at, pay7_at, ← e3]
  unfold Cert.ReferenceIdeal.Hand.X0
  rw [H.a0]
theorem inv_eq (H : Agree m m' c) : Ideal.div 1 (Cert.ReferenceIdeal.Hand.sR m' c) = iK m c := by
  obtain ⟨s, hs, e1, e2, e3⟩ := scales H
  rw [e3, e2, div_one_real s hs]
theorem scale_eq (H : Agree m m' c) : Cert.ReferenceIdeal.Hand.sR m' c = sK m c := by
  obtain ⟨s, hs, e1, e2, e3⟩ := scales H
  rw [e3, e1]

/-! ## The results, element by element -/

theorem code_res (H : Agree m m' c) (r : Fin 4608) (l : Fin 50304) :
    ((Cert.ReferenceIdeal.Gen.dats m' 0 c).arrAt 13 Cert.ReferenceIdeal.cfg0.N (ix2 r l) : EReal) = gQ m c r.val l.val := by
  rw [Cert.ReferenceIdeal.Hand.code_at, gG_eq H, inv_eq H]; rfl

theorem scale_res (H : Agree m m' c) :
    ((Cert.ReferenceIdeal.Gen.dats m' 0 c).arrAt 14 Cert.ReferenceIdeal.cfg0.N (ix2 (0 : Fin 1) (0 : Fin 1)) : EReal) = (st m c 594).S (ix2 (0 : Fin 1) (0 : Fin 1)) := by
  rw [Cert.ReferenceIdeal.Hand.scale_at, scale_eq H]
  exact (S_at m c 593 (by omega)).symm

theorem ll_res (H : Agree m m' c) (r : Fin 4608) :
    ((Cert.ReferenceIdeal.Gen.dats m' 0 c).arrAt 9 Cert.ReferenceIdeal.cfg0.N (ix1 r) : EReal) = llOut (st m c 594).A (ix1 r) := by
  have hr := r.isLt
  rw [Cert.ReferenceIdeal.Hand.ll_at, llOut_at, H.a1, H.a4]
  have e : ∀ q : Fin 128, ((st m c 594).A (ix2 r q) : EReal) = ∑ j ∈ Finset.range 99, ∑ k : Fin 4, gH m c r.val (512 * j + (128 * k.val + q.val)) := fun q => by
    rw [A_at m c 594 (le_refl _) r q, show (594 + 5 - r.val / 768) / 6 = 99 by omega]
  rw [Finset.sum_congr rfl fun q _ => e q, sum_lanes (gH m c r.val) 99, sum_cut (gH m c r.val) 50304 (512 * 99) (by omega) fun v h1 h2 => gH_pad H r.val v hr h1 (by omega)]
  rfl

theorem dx_res (H : Agree m m' c) (r : Fin 4608) (d : Fin 1536) :
    ((Cert.ReferenceIdeal.Gen.dats m' 0 c).arrAt 10 Cert.ReferenceIdeal.cfg0.N (ix2 r d) : EReal) = outX m c (ix2 r d) := by
  have hr := r.isLt
  obtain ⟨s, hs, e1, e2, e3⟩ := scales H
  rw [Cert.ReferenceIdeal.Hand.dx_at, outX_at, X_at m c 594 (le_refl _) r d, show (594 + 5 - r.val / 768) / 6 = 99 by omega,
    sum_tiles (fun v => gQ m c r.val v * gW m c v d) 512 99, sum_cut (fun v => gQ m c r.val v * gW m c v d) 50304 (512 * 99) (by omega) (fun v h1 h2 => by
      show gQ m c r.val v * gW m c v d = 0
      unfold gW
      rw [if_neg (by omega), mul_zero]), e1, sum_mul_real s hs, inv_eq H, e3, H.a7, H.a8]
  refine @Finset.sum_congr _ EReal _ _ _ _ _ rfl fun x _ => ?_
  rw [gG_eq H]
  unfold gW
  rw [if_pos x.isLt, mul_right_comm]
  rfl

theorem dw_res (H : Agree m m' c) (r : Fin 50304) (d : Fin 1536) :
    ((Cert.ReferenceIdeal.Gen.dats m' 0 c).arrAt 11 Cert.ReferenceIdeal.cfg0.N (ix2 r d) : EReal) = dwSum m c r.val d.val := by
  unfold dwSum
  rw [dif_pos d.isLt, Cert.ReferenceIdeal.Hand.dw_at, sum_tiles (fun t => gD m c t r.val d) 768 6, Finset.sum_range, inv_eq H, scale_eq H, H.a5, H.a6]
  refine @Finset.sum_congr _ EReal _ _ _ _ _ rfl fun x _ => ?_
  rw [gG_eq H]
  unfold gD
  show gQ m c x.val r.val * sK m c * _ = gQ m c x.val r.val * _ * _
  rw [mul_assoc, mul_assoc, mul_comm (tV _ _) (sK m c), mul_assoc (sK m c), mul_comm (tV _ _) (tH _ _ _)]

theorem hist_res (H : Agree m m' c) (r : Fin 16) :
    ((Cert.ReferenceIdeal.Gen.dats m' 0 c).arrAt 12 Cert.ReferenceIdeal.cfg0.N (ix1 r) : EReal)
      = histOut (st m c 594).M (m ((c : Thread nD τ).loc main_arg0)) (ix1 r) := by
  rw [Cert.ReferenceIdeal.Hand.hist_at, histOut_at]
  by_cases h : r.val < 1
  · rw [dif_pos h, dif_pos h, Cert.KernelIdeal.Hand.ofBits_bot]
    refine eq_of_forall_ge_iff (α := EReal) fun b => ?_
    rw [Finset.fold_max_le, Finset.fold_max_le]
    constructor
    · rintro ⟨_, hR⟩
      have hb : ∀ (x : Fin 4608) (y : Fin 50304), absE (Cert.KernelIdeal.Hand.gG m c x.val y.val) ≤ b := fun x y => by
        have := ((Finset.fold_max_le _).mp (hR x (Finset.mem_univ _))).2 y (Finset.mem_univ _)
        rwa [gG_eq H] at this
      have h0 : (0 : EReal) ≤ b := (absE_nonneg _).trans (hb ⟨0, by omega⟩ ⟨0, by omega⟩)
      refine ⟨bot_le, fun k _ => (M_le m c k.1 k.2 b 594 (le_refl _)).mpr ⟨h0, fun t ht n' kk => ?_⟩⟩
      have h1 := k.1.isLt
      have h2 := k.2.isLt
      have h3 := n'.isLt
      have h4 := kk.isLt
      by_cases hv : 512 * (t / 6) + (128 * kk.val + k.2.val) < 50304
      · exact hb ⟨768 * (t % 6) + (32 * n'.val + k.1.val), by omega⟩ ⟨_, hv⟩
      · rw [gG_pad H _ _ (by omega) (by omega) (by omega), absE_zero]; exact h0
    · rintro ⟨_, hK⟩
      refine ⟨bot_le, fun x _ => (Finset.fold_max_le _).mpr ⟨bot_le, fun y _ => ?_⟩⟩
      have hx := x.isLt
      have hy := y.isLt
      have hM := ((M_le m c ⟨x.val % 32, by omega⟩ ⟨y.val % 128, by omega⟩ b 594 (le_refl _)).mp (hK (⟨x.val % 32, by omega⟩, ⟨y.val % 128, by omega⟩) (Finset.mem_univ _))).2
        (6 * (y.val / 512) + x.val / 768) (by omega) ⟨x.val % 768 / 32, by omega⟩ ⟨y.val % 512 / 128, by omega⟩
      have ex : 768 * ((6 * (y.val / 512) + x.val / 768) % 6) + (32 * (x.val % 768 / 32) + x.val % 32) = x.val := by omega
      have ey : 512 * ((6 * (y.val / 512) + x.val / 768) / 6) + (128 * (y.val % 512 / 128) + y.val % 128) = y.val := by omega
      rw [gG_eq H]
      have hM' : absE (Cert.KernelIdeal.Hand.gG m c (768 * ((6 * (y.val / 512) + x.val / 768) % 6) + (32 * (x.val % 768 / 32) + x.val % 32)) (512 * ((6 * (y.val / 512) + x.val / 768) / 6) + (128 * (y.val % 512 / 128) + y.val % 128))) ≤ b := hM
      rwa [ex, ey] at hM'
  · rw [dif_neg h, dif_neg h]
    unfold Cert.ReferenceIdeal.Hand.X0
    rw [H.a0]

end Cert.Hand
end
-- ==== Proof.Hand.Final.lean ====
/- The value claim: from the same arguments the kernel and the reference end with equal results. -/
module

public import proofs.«01_k».proof.Defs
public import proofs.«01_k».proof.Proof.Hand.Result
public import proofs.«01_k».proof.Proof.Hand.RefRun

@[expose] public section

set_option maxRecDepth 16384

noncomputable section

namespace Cert.Hand

open Idealize.ShloMosaic Idealize.ShloMosaic.TcCoe Idealize.SL.Sem

section K
open Cert.KernelIdeal Cert.KernelIdeal.Gen Cert.KernelIdeal.Hand

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = (llOut (st m c 594).A : Vec Ideal S4608 .f32)
      ∧ r.2.mem ((c.tc : Thread nD τ).loc main_v13_2) = outX m c
      ∧ r.2.mem ((c.tc : Thread nD τ).loc main_v13_1) = (fun z : S50304x1536.Idx => dwSum m c (z 0).val (z 1).val)
      ∧ r.2.mem ((c.tc : Thread nD τ).loc main_v17) = (histOut (st m c 594).M (m ((c.tc : Thread nD τ).loc main_arg0)) : Vec Ideal S16 .f32)
      ∧ r.2.mem ((c.tc : Thread nD τ).loc main_v13_0) = (fun z : S4608x50304.Idx => gQ m c (z 0).val (z 1).val)
      ∧ r.2.mem ((c.tc : Thread nD τ).loc main_v13_5) = (st m c 594).S
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).2 main_v18 (Pipeline.mem_restRefs_of main_v18 (by decide) (by decide))).trans (end_v18 m c),
    ((h.1 c).2 main_v13_2 (Pipeline.mem_restRefs_of main_v13_2 (by decide) (by decide))).trans (end_v13_2 m c),
    ((h.1 c).1 10).trans (out10 m c),
    ((h.1 c).2 main_v17 (Pipeline.mem_restRefs_of main_v17 (by decide) (by decide))).trans (end_v17 m c),
    ((h.1 c).1 9).trans (out9 m c),
    ((h.1 c).1 13).trans (out13 m c),
    ((h.1 c).2 main_arg0 (Pipeline.mem_restRefs_of main_arg0 (by decide) (by decide))).trans (end_main_arg0 m c),
    ((h.1 c).2 main_arg1 (Pipeline.mem_restRefs_of main_arg1 (by decide) (by decide))).trans (end_main_arg1 m c),
    ((h.1 c).2 main_arg2 (Pipeline.mem_restRefs_of main_arg2 (by decide) (by decide))).trans (end_main_arg2 m c),
    ((h.1 c).2 main_arg3 (Pipeline.mem_restRefs_of main_arg3 (by decide) (by decide))).trans (end_main_arg3 m c),
    ((h.1 c).2 main_arg4 (Pipeline.mem_restRefs_of main_arg4 (by decide) (by decide))).trans (end_main_arg4 m c),
    ((h.1 c).2 main_arg5 (Pipeline.mem_restRefs_of main_arg5 (by decide) (by decide))).trans (end_main_arg5 m c),
    ((h.1 c).1 6).trans (((dats m 0 c).arrAt_in 6 rfl _).trans ((A_eq m c 6).trans (V_main_arg6 m c))),
    ((h.1 c).1 7).trans (((dats m 0 c).arrAt_in 7 rfl _).trans ((A_eq m c 7).trans (V_main_arg7 m c))),
    ((h.1 c).2 main_arg8 (Pipeline.mem_restRefs_of main_arg8 (by decide) (by decide))).trans (end_main_arg8 m c)⟩) (run_main m ρ)

theorem ix1_eta {n : ℕ} (z : (⟨1, ![n]⟩ : Shape).Idx) : z = ix1 (z 0 : Fin n) := by
  funext a
  match a with
  | ⟨0, _⟩ => rfl
theorem ix2_eta {n k : ℕ} (z : (⟨2, ![n, k]⟩ : Shape).Idx) : z = ix2 (z 0 : Fin n) (z 1 : Fin k) := by
  funext a
  match a with
  | ⟨0, _⟩ => rfl
  | ⟨1, _⟩ => rfl
end K

section Arrays
open Cert.KernelIdeal.Hand
variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} {c : Dev Cert.KernelIdeal.nD}

theorem ll_arr (H : Agree m m' c) : (Cert.ReferenceIdeal.Gen.dats m' 0 c).arrAt 9 Cert.ReferenceIdeal.cfg0.N = (llOut (st m c 594).A : Vec Ideal Cert.KernelIdeal.S4608 .f32) := by
  funext z
  have e := ix1_eta (n := 4608) z
  rw [e]; exact ll_res H _
theorem dx_arr (H : Agree m m' c) : (Cert.ReferenceIdeal.Gen.dats m' 0 c).arrAt 10 Cert.ReferenceIdeal.cfg0.N = outX m c := by
  funext z
  have e := ix2_eta (n := 4608) (k := 1536) z
  rw [e]; exact dx_res H _ _
theorem dw_arr (H : Agree m m' c) : (Cert.ReferenceIdeal.Gen.dats m' 0 c).arrAt 11 Cert.ReferenceIdeal.cfg0.N = (fun z : Cert.KernelIdeal.S50304x1536.Idx => dwSum m c (z 0).val (z 1).val) := by
  funext z
  have e := ix2_eta (n := 50304) (k := 1536) z
  rw [e]; exact dw_res H _ _
theorem hist_arr (H : Agree m m' c) : (Cert.ReferenceIdeal.Gen.dats m' 0 c).arrAt 12 Cert.ReferenceIdeal.cfg0.N
    = (histOut (st m c 594).M (m ((c.tc : Thread Cert.KernelIdeal.nD Cert.KernelIdeal.τ).loc Cert.KernelIdeal.main_arg0)) : Vec Ideal Cert.KernelIdeal.S16 .f32) := by
  funext z
  have e := ix1_eta (n := 16) z
  rw [e]; exact hist_res H _
theorem code_arr (H : Agree m m' c) : (Cert.ReferenceIdeal.Gen.dats m' 0 c).arrAt 13 Cert.ReferenceIdeal.cfg0.N = (fun z : Cert.KernelIdeal.S4608x50304.Idx => gQ m c (z 0).val (z 1).val) := by
  funext z
  have e := ix2_eta (n := 4608) (k := 50304) z
  rw [e]; exact code_res H _ _
theorem scale_arr (H : Agree m m' c) : (Cert.ReferenceIdeal.Gen.dats m' 0 c).arrAt 14 Cert.ReferenceIdeal.cfg0.N = (st m c 594).S := by
  funext z
  have e : z = ix2 (0 : Fin 1) (0 : Fin 1) := by
    funext a
    match a with
    | ⟨0, _⟩ => exact Fin.ext (by have : (z 0).val < 1 := (z 0).isLt; show (z 0).val = 0; omega)
    | ⟨1, _⟩ => exact Fin.ext (by have : (z 1).val < 1 := (z 1).isLt; show (z 1).val = 0; omega)
  rw [e]; exact scale_res H
end Arrays

theorem algebraic : Cert.algebraic_KernelIdeal_ReferenceIdeal_pre_in_range (hKernelIdeal := Cert.KernelIdeal.Gen.facts) (hReferenceIdeal := Cert.ReferenceIdeal.Gen.facts) (hPre_in_range := preFacts) := by
  intro m g m' g' hpre hargs
  haveI := preFacts
  have H : ∀ c, Agree m m' c := fun c => by
    obtain ⟨h0, h1, h2, h3, h4, h5, h6, h7, h8⟩ := hargs c
    obtain ⟨p, q⟩ := pre_unpack _ _ _ _ _ _ _ _ _ (hpre c)
    exact ⟨h0, h1, h2, h3, h4, h5, h6, h7, h8, p, q⟩
  refine ⟨fun c => (Cert.KernelIdeal.Hand.llOut (Cert.KernelIdeal.Hand.st m c 594).A : Vec Ideal Cert.KernelIdeal.S4608 .f32), fun c => Cert.KernelIdeal.Hand.outX m c,
    fun c => (fun z : Cert.KernelIdeal.S50304x1536.Idx => Cert.KernelIdeal.Hand.dwSum m c (z 0).val (z 1).val),
    fun c => (Cert.KernelIdeal.Hand.histOut (Cert.KernelIdeal.Hand.st m c 594).M (m ((c.tc : Thread Cert.KernelIdeal.nD Cert.KernelIdeal.τ).loc Cert.KernelIdeal.main_arg0)) : Vec Ideal Cert.KernelIdeal.S16 .f32),
    fun c => (fun z : Cert.KernelIdeal.S4608x50304.Idx => Cert.KernelIdeal.Hand.gQ m c (z 0).val (z 1).val), fun c => (Cert.KernelIdeal.Hand.st m c 594).S, kernel_run m g, ?_⟩
  refine (θ_run _ _ _).mono (fun r h c => ?_) (Cert.ReferenceIdeal.Hand.run_blocks m' g')
  obtain ⟨e0, e1, e2, e3, e4, e5, rest⟩ := h c
  exact ⟨e0.trans (ll_arr (H c)), e1.trans (dx_arr (H c)), e2.trans (dw_arr (H c)), e3.trans (hist_arr (H c)), e4.trans (code_arr (H c)), e5.trans (scale_arr (H c)), rest⟩

end Cert.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Hand.LaunchP
public import proofs.«01_k».proof.Proof.Hand.LaunchI
public import proofs.«01_k».proof.Proof.Hand.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Hand.preFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, Cert.Hand.algebraic⟩

end Cert.Proof

end
